-- ==== Defs.lean ====
def Pre_Kernel [hPre_dest_permutes : Cert.Pre_dest_permutes.Facts] (m : (ℓ : Loc Cert.Kernel.nD Cert.Kernel.τ Cert.Kernel.sig) → Buf (Elt Bits) ℓ) : Prop :=
  ∀ c : Dev Cert.Kernel.nD,
    (Cert.Pre_dest_permutes.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_permutes : Cert.Pre_dest_permutes.Facts] (m : (ℓ : Loc Cert.KernelIdeal.nD Cert.KernelIdeal.τ Cert.KernelIdeal.sig) → Buf (Elt Ideal) ℓ) : Prop :=
  ∀ c : Dev Cert.KernelIdeal.nD,
    (Cert.Pre_dest_permutes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_dest_permutes : Cert.Pre_dest_permutes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_permutes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_permutes : Cert.Pre_dest_permutes.Facts] (m : (ℓ : Loc Cert.Reference.nD Cert.Reference.τ Cert.Reference.sig) → Buf (Elt Bits) ℓ) : Prop :=
  ∀ c : Dev Cert.Reference.nD,
    (Cert.Pre_dest_permutes.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_counts_add_up : Cert.Pre_counts_add_up.Facts] (m : (ℓ : Loc Cert.Kernel2.nD Cert.Kernel2.τ Cert.Kernel2.sig) → Buf (Elt Bits) ℓ) : Prop :=
  ∀ c : Dev Cert.Kernel2.nD,
    (Cert.Pre_counts_add_up.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_counts_add_up : Cert.Pre_counts_add_up.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counts_add_up.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_counts_add_up : Cert.Pre_counts_add_up.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counts_add_up.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_dest_permutes : Cert.Pre_dest_permutes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_permutes : Cert.Pre_dest_permutes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_dest_permutes : Cert.Pre_dest_permutes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_permutes : Cert.Pre_dest_permutes.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_counts_add_up : Cert.Pre_counts_add_up.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_counts_add_up : Cert.Pre_counts_add_up.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_counts_add_up : Cert.Pre_counts_add_up.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_permutes : Cert.Pre_dest_permutes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_permutes : Cert.Pre_dest_permutes.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_counts_add_up : Cert.Pre_counts_add_up.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v112)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v112) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_dest_permutes : Cert.Pre_dest_permutes.Facts) (hPre_counts_add_up : Cert.Pre_counts_add_up.Facts),
    quiescent_Kernel (hKernel := hKernel) (hPre_dest_permutes := hPre_dest_permutes)
    ∧ quiescent_KernelIdeal (hKernelIdeal := hKernelIdeal) (hPre_dest_permutes := hPre_dest_permutes)
    ∧ quiescent_ReferenceIdeal (hReferenceIdeal := hReferenceIdeal) (hPre_dest_permutes := hPre_dest_permutes)
    ∧ quiescent_Reference (hReference := hReference) (hPre_dest_permutes := hPre_dest_permutes)
    ∧ quiescent_Kernel2 (hKernel2 := hKernel2) (hPre_counts_add_up := hPre_counts_add_up)
    ∧ quiescent_Kernel2Ideal (hKernel2Ideal := hKernel2Ideal) (hPre_counts_add_up := hPre_counts_add_up)
    ∧ quiescent_Reference2Ideal (hReference2Ideal := hReference2Ideal) (hPre_counts_add_up := hPre_counts_add_up)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_dest_permutes := hPre_dest_permutes)
    ∧ bitexact_Kernel_Reference (hKernel := hKernel) (hReference := hReference) (hPre_dest_permutes := hPre_dest_permutes)
    ∧ preserves_Kernel2_Kernel2Ideal
    ∧ algebraic_Kernel2Ideal_Reference2Ideal (hKernel2Ideal := hKernel2Ideal) (hReference2Ideal := hReference2Ideal) (hPre_counts_add_up := hPre_counts_add_up)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_counts_add_up.lean ====
abbrev S2359296x128 : Shape := ⟨2, ![2359296, 128]⟩
abbrev S32 : Shape := ⟨1, ![32]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_

variable [Facts]

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn {F : FTy → Type} [FloatOps F] (main_arg0 : FVec F S2359296x128 .f32) (main_arg1 : IVec S32 32) (main_arg2 : FVec F S2x32x2048x4096 .f32) (main_arg3 : FVec F S2x32x4096 .f32) (main_arg4 : FVec F S2x32x2048x2048 .f32) (main_arg5 : FVec F S2x32x2048 .f32) : IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 147456#32
  let main_v2 : IVec S32 32 := broadcastInDim S32 ![] bcast_S_S32 main_c_0
  let main_v3 : IVec S32 1 := cmpi .sle main_arg1 main_v2
  let main_v4 : IVec S32 1 := andi main_v1 main_v3
  let main_v5 : IVec S32 32 := fn_cumsum (F := F) main_arg1
  let main_v6 : IVec S1 32 := (extractStridedSlice S1 ![31] · slices_S32_S1_31) main_v5
  let main_v7 : IVec S_ 32 := shapeCast S_ main_v6 shapeCasts_S1_S_
  let main_c_1 : IVec S_ 32 := constantI S_ 32 147456#32
  let main_v8 : IVec S_ 1 := cmpi .eq main_v7 main_c_1
  let main_v9 : IVec S32 1 := broadcastInDim S32 ![] bcast_S_S32 main_v8
  let main_v10 : IVec S32 1 := andi main_v4 main_v9
  main_v10
-- ==== Pre_dest_permutes.lean ====
abbrev S589824x128 : Shape := ⟨2, ![589824, 128]⟩
abbrev S147456 : Shape := ⟨1, ![147456]⟩

class Facts : Prop where

variable [Facts]

def comparator_i32_d0 : BitVec 32 → BitVec 32 → BitVec 1 :=
  fun l r =>
    let v1 := IntOp.cmpi .slt l r
    v1
def fn_sort {F : FTy → Type} [FloatOps F] (arg0 : IVec S147456 32) : IVec S147456 32 :=
  let v0 : IVec S147456 32 := (fun x => Host.sort S147456 0 comparator_i32_d0 x) arg0
  v0

def fn {F : FTy → Type} [FloatOps F] (main_arg0 : FVec F S589824x128 .f32) (main_arg1 : IVec S147456 32) : IVec S147456 1 :=
  let main_v0 : IVec S147456 32 := fn_sort (F := F) main_arg1
  let main_v1 : IVec S147456 32 := iotaInDim S147456 32 0
  let main_v2 : IVec S147456 1 := cmpi .eq main_v0 main_v1
  main_v2
-- ==== Kernel.lean ====
abbrev S589824x128 : Shape := ⟨2, ![589824, 128]⟩
abbrev S147456 : Shape := ⟨1, ![147456]⟩
abbrev S36x1x4096 : Shape := ⟨3, ![36, 1, 4096]⟩
abbrev S2359296x128 : Shape := ⟨2, ![2359296, 128]⟩
abbrev S1x1x4096 : Shape := ⟨3, ![1, 1, 4096]⟩
abbrev S16384x128 : Shape := ⟨2, ![16384, 128]⟩
abbrev S_ : Shape := ⟨0, ![]⟩
abbrev S1x1x1 : Shape := ⟨3, ![1, 1, 1]⟩
abbrev S16x128 : Shape := ⟨2, ![16, 128]⟩

abbrev nBuf : Space → Nat
  | .hbm => 4
  | .vmem => 2
  | .smem => 2
  | _ => 0

abbrev bufTy : (tb : Table) → Fin (tcTables nBuf tb) → BufTy
  | .hbm, ⟨0, _⟩ => ⟨S589824x128, .f32⟩
  | .hbm, ⟨1, _⟩ => ⟨S147456, .i32⟩
  | .hbm, ⟨2, _⟩ => ⟨S36x1x4096, .i32⟩
  | .hbm, ⟨3, _⟩ => ⟨S2359296x128, .f32⟩
  | .local _ .vmem, ⟨0, _⟩ => ⟨S16384x128, .f32⟩
  | .local _ .vmem, ⟨1, _⟩ => ⟨S16384x128, .f32⟩
  | .local _ .smem, ⟨0, _⟩ => ⟨S1x1x4096, .i32⟩
  | .local _ .smem, ⟨1, _⟩ => ⟨S1x1x4096, .i32⟩
  | _, _ => ⟨S589824x128, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32 : BitVec 32 := 16#32
  let v5 : BitVec 32 := Scalar.muli arg5 c16_i32
  v5
def k0_off1 (k0_t1 : Fin k0_t1_loop.trips) : Fin 3 → Nat :=
  let c0 : Index := 0#32
  let c0_10 : Index := 0#32
  let c0_i32 : BitVec 32 := 0#32
  let c1_i32 : BitVec 32 := 1#32
  let arg5 : BitVec 32 := Scf.iv c0_i32 c1_i32 k0_t1
  let c4_i32 : BitVec 32 := 4#32
  let v7 : BitVec 32 := Scalar.muli arg5 c4_i32
  let c0_i32_9 : BitVec 32 := 0#32
  let v8 : BitVec 32 := Scalar.addi v7 c0_i32_9
  let v9 : Index := Scalar.indexCast v8
  ![0, 0, v9.toNat]
def k0_mult2 (v10 : BitVec 32) : BitVec 32 :=
  let c16_i32_11 : BitVec 32 := 16#32
  let v11 : BitVec 32 := Scalar.muli v10 c16_i32_11
  v11

def k0_off2 (v10 : BitVec 32) : Fin 2 → Nat :=
  let c16_i32_11 : BitVec 32 := 16#32
  let v11 : BitVec 32 := Scalar.muli v10 c16_i32_11
  let v12 : BitVec 32 := v11
  let c0_i32_12 : BitVec 32 := 0#32
  ![v12.toNat, 0]

def k0_chk1 (v10 : BitVec 32) : Prop :=
  (16 ∣ (k0_mult2 v10).toNat) ∧
  (∀ a, (k0_off2 v10) a + S16x128.size a ≤ S2359296x128.size a)
theorem k0_mult2_dvd : ∀ (v10 : BitVec 32) (k0_hw1 : k0_chk1 v10), 16 ∣ (k0_mult2 v10).toNat := fun v10 k0_hw1 => k0_hw1.1
theorem k0_off2_inb : ∀ (v10 : BitVec 32) (k0_hw1 : k0_chk1 v10), ∀ a, (k0_off2 v10) a + S16x128.size a ≤ S2359296x128.size a := fun v10 k0_hw1 => k0_hw1.2

def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v5 : BitVec 32 := Scalar.muli arg5 c16_i32
  let v6 : BitVec 32 := v5
  let c0_i32_13 : BitVec 32 := 0#32
  ![v6.toNat, 0]
def k0_off4 (k0_t1 : Fin k0_t1_loop.trips) : Fin 3 → Nat :=
  let c0_16 : Index := 0#32
  let c0_17 : Index := 0#32
  let c0_i32 : BitVec 32 := 0#32
  let c1_i32 : BitVec 32 := 1#32
  let arg5 : BitVec 32 := Scf.iv c0_i32 c1_i32 k0_t1
  let c4_i32_14 : BitVec 32 := 4#32
  let v15 : BitVec 32 := Scalar.muli arg5 c4_i32_14
  let c1_i32_15 : BitVec 32 := 1#32
  let v16 : BitVec 32 := Scalar.addi v15 c1_i32_15
  let v17 : Index := Scalar.indexCast v16
  ![0, 0, v17.toNat]
def k0_mult3 (v18 : BitVec 32) : BitVec 32 :=
  let c16_i32_18 : BitVec 32 := 16#32
  let v19 : BitVec 32 := Scalar.muli v18 c16_i32_18
  v19

def k0_off5 (v18 : BitVec 32) : Fin 2 → Nat :=
  let c16_i32_18 : BitVec 32 := 16#32
  let v19 : BitVec 32 := Scalar.muli v18 c16_i32_18
  let v20 : BitVec 32 := v19
  let c0_i32_19 : BitVec 32 := 0#32
  ![v20.toNat, 0]

def k0_chk2 (v18 : BitVec 32) : Prop :=
  (16 ∣ (k0_mult3 v18).toNat) ∧
  (∀ a, (k0_off5 v18) a + S16x128.size a ≤ S2359296x128.size a)
theorem k0_mult3_dvd : ∀ (v18 : BitVec 32) (k0_hw2 : k0_chk2 v18), 16 ∣ (k0_mult3 v18).toNat := fun v18 k0_hw2 => k0_hw2.1
theorem k0_off5_inb : ∀ (v18 : BitVec 32) (k0_hw2 : k0_chk2 v18), ∀ a, (k0_off5 v18) a + S16x128.size a ≤ S2359296x128.size a := fun v18 k0_hw2 => k0_hw2.2

def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v5 : BitVec 32 := Scalar.muli arg5 c16_i32
  let v6 : BitVec 32 := v5
  let c0_i32_20 : BitVec 32 := 0#32
  ![v6.toNat, 0]
def k0_off7 (k0_t1 : Fin k0_t1_loop.trips) : Fin 3 → Nat :=
  let c0_22 : Index := 0#32
  let c0_23 : Index := 0#32
  let c0_i32 : BitVec 32 := 0#32
  let c1_i32 : BitVec 32 := 1#32
  let arg5 : BitVec 32 := Scf.iv c0_i32 c1_i32 k0_t1
  let c4_i32_21 : BitVec 32 := 4#32
  let v23 : BitVec 32 := Scalar.muli arg5 c4_i32_21
  let c2_i32 : BitVec 32 := 2#32
  let v24 : BitVec 32 := Scalar.addi v23 c2_i32
  let v25 : Index := Scalar.indexCast v24
  ![0, 0, v25.toNat]
def k0_mult4 (v26 : BitVec 32) : BitVec 32 :=
  let c16_i32_24 : BitVec 32 := 16#32
  let v27 : BitVec 32 := Scalar.muli v26 c16_i32_24
  v27

def k0_off8 (v26 : BitVec 32) : Fin 2 → Nat :=
  let c16_i32_24 : BitVec 32 := 16#32
  let v27 : BitVec 32 := Scalar.muli v26 c16_i32_24
  let v28 : BitVec 32 := v27
  let c0_i32_25 : BitVec 32 := 0#32
  ![v28.toNat, 0]

def k0_chk3 (v26 : BitVec 32) : Prop :=
  (16 ∣ (k0_mult4 v26).toNat) ∧
  (∀ a, (k0_off8 v26) a + S16x128.size a ≤ S2359296x128.size a)
theorem k0_mult4_dvd : ∀ (v26 : BitVec 32) (k0_hw3 : k0_chk3 v26), 16 ∣ (k0_mult4 v26).toNat := fun v26 k0_hw3 => k0_hw3.1
theorem k0_off8_inb : ∀ (v26 : BitVec 32) (k0_hw3 : k0_chk3 v26), ∀ a, (k0_off8 v26) a + S16x128.size a ≤ S2359296x128.size a := fun v26 k0_hw3 => k0_hw3.2

def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v5 : BitVec 32 := Scalar.muli arg5 c16_i32
  let v6 : BitVec 32 := v5
  let c0_i32_26 : BitVec 32 := 0#32
  ![v6.toNat, 0]
def k0_off10 (k0_t1 : Fin k0_t1_loop.trips) : Fin 3 → Nat :=
  let c0_28 : Index := 0#32
  let c0_29 : Index := 0#32
  let c0_i32 : BitVec 32 := 0#32
  let c1_i32 : BitVec 32 := 1#32
  let arg5 : BitVec 32 := Scf.iv c0_i32 c1_i32 k0_t1
  let c4_i32_27 : BitVec 32 := 4#32
  let v31 : BitVec 32 := Scalar.muli arg5 c4_i32_27
  let c3_i32 : BitVec 32 := 3#32
  let v32 : BitVec 32 := Scalar.addi v31 c3_i32
  let v33 : Index := Scalar.indexCast v32
  ![0, 0, v33.toNat]
def k0_mult5 (v34 : BitVec 32) : BitVec 32 :=
  let c16_i32_30 : BitVec 32 := 16#32
  let v35 : BitVec 32 := Scalar.muli v34 c16_i32_30
  v35

def k0_off11 (v34 : BitVec 32) : Fin 2 → Nat :=
  let c16_i32_30 : BitVec 32 := 16#32
  let v35 : BitVec 32 := Scalar.muli v34 c16_i32_30
  let v36 : BitVec 32 := v35
  let c0_i32_31 : BitVec 32 := 0#32
  ![v36.toNat, 0]

def k0_chk4 (v34 : BitVec 32) : Prop :=
  (16 ∣ (k0_mult5 v34).toNat) ∧
  (∀ a, (k0_off11 v34) a + S16x128.size a ≤ S2359296x128.size a)
theorem k0_mult5_dvd : ∀ (v34 : BitVec 32) (k0_hw4 : k0_chk4 v34), 16 ∣ (k0_mult5 v34).toNat := fun v34 k0_hw4 => k0_hw4.1
theorem k0_off11_inb : ∀ (v34 : BitVec 32) (k0_hw4 : k0_chk4 v34), ∀ a, (k0_off11 v34) a + S16x128.size a ≤ S2359296x128.size a := fun v34 k0_hw4 => k0_hw4.2

def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v5 : BitVec 32 := Scalar.muli arg5 c16_i32
  let v6 : BitVec 32 := v5
  let c0_i32_32 : BitVec 32 := 0#32
  ![v6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S589824x128 : Shape := ⟨2, ![589824, 128]⟩
abbrev S147456 : Shape := ⟨1, ![147456]⟩
abbrev S_ : Shape := ⟨0, ![]⟩
abbrev S147456x1 : Shape := ⟨2, ![147456, 1]⟩
abbrev S36864x2048 : Shape := ⟨2, ![36864, 2048]⟩
abbrev S147456x2048 : Shape := ⟨2, ![147456, 2048]⟩
abbrev S2359296x128 : Shape := ⟨2, ![2359296, 128]⟩

abbrev nBuf : Space → Nat
  | .hbm => 43
  | .vmem => 0
  | .smem => 0
  | _ => 0

abbrev bufTy : (tb : Table) → Fin (tcTables nBuf tb) → BufTy
  | .hbm, ⟨0, _⟩ => ⟨S589824x128, .f32⟩
  | .hbm, ⟨1, _⟩ => ⟨S147456, .i32⟩
  | .hbm, ⟨2, _⟩ => ⟨S_, .i32⟩
  | .hbm, ⟨3, _⟩ => ⟨S147456, .i32⟩
  | .hbm, ⟨4, _⟩ => ⟨S147456, .i32⟩
  | .hbm, ⟨5, _⟩ => ⟨S_, .i32⟩
  | .hbm, ⟨6, _⟩ => ⟨S_, .i32⟩
  | .hbm, ⟨7, _⟩ => ⟨S147456, .i32⟩
  | .hbm, ⟨8, _⟩ => ⟨S147456, .i32⟩
  | .hbm, ⟨9, _⟩ => ⟨S147456, .i32⟩
  | .hbm, ⟨10, _⟩ => ⟨S_, .i32⟩
  | .hbm, ⟨11, _⟩ => ⟨S147456, .i32⟩
  | .hbm, ⟨12, _⟩ => ⟨S147456, .i1⟩
  | .hbm, ⟨13, _⟩ => ⟨S147456, .i32⟩
  | .hbm, ⟨14, _⟩ => ⟨S147456, .i32⟩
  | .hbm, ⟨15, _⟩ => ⟨S_, .i32⟩
  | .hbm, ⟨16, _⟩ => ⟨S147456, .i32⟩
  | .hbm, ⟨17, _⟩ => ⟨S147456, .i1⟩
  | .hbm, ⟨18, _⟩ => ⟨S147456, .i1⟩
  | .hbm, ⟨19, _⟩ => ⟨S_, .i32⟩
  | .hbm, ⟨20, _⟩ => ⟨S147456, .i32⟩
  | .hbm, ⟨21, _⟩ => ⟨S147456, .i32⟩
  | .hbm, ⟨22, _⟩ => ⟨S147456, .i32⟩
  | .hbm, ⟨23, _⟩ => ⟨S_, .i32⟩
  | .hbm, ⟨24, _⟩ => ⟨S147456, .i32⟩
  | .hbm, ⟨25, _⟩ => ⟨S147456, .i1⟩
  | .hbm, ⟨26, _⟩ => ⟨S_, .i32⟩
  | .hbm, ⟨27, _⟩ => ⟨S147456, .i32⟩
  | .hbm, ⟨28, _⟩ => ⟨S147456, .i32⟩
  | .hbm, ⟨29, _⟩ => ⟨S147456, .i32⟩
  | .hbm, ⟨30, _⟩ => ⟨S147456x1, .i32⟩
  | .hbm, ⟨31, _⟩ => ⟨S147456, .i32⟩
  | .hbm, ⟨32, _⟩ => ⟨S36864x2048, .f32⟩
  | .hbm, ⟨33, _⟩ => ⟨S_, .i32⟩
  | .hbm, ⟨34, _⟩ => ⟨S147456, .i32⟩
  | .hbm, ⟨35, _⟩ => ⟨S147456, .i1⟩
  | .hbm, ⟨36, _⟩ => ⟨S_, .i32⟩
  | .hbm, ⟨37, _⟩ => ⟨S147456, .i32⟩
  | .hbm, ⟨38, _⟩ => ⟨S147456, .i32⟩
  | .hbm, ⟨39, _⟩ => ⟨S147456, .i32⟩
  | .hbm, ⟨40, _⟩ => ⟨S147456x1, .i32⟩
  | .hbm, ⟨41, _⟩ => ⟨S147456x2048, .f32⟩
  | .hbm, ⟨42, _⟩ => ⟨S2359296x128, .f32⟩
  | _, _ => ⟨S589824x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_1 : Ref sig .tc := ⟨.hbm, 23, rfl⟩
abbrev main_v3 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_3 : Ref sig .tc := ⟨.hbm, 33, rfl⟩
abbrev main_v11 : Ref sig .tc := ⟨.hbm, 34, rfl⟩
abbrev main_v12 : Ref sig .tc := ⟨.hbm, 35, rfl⟩
abbrev main_c_4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩

abbrev nD : Nat := 1
abbrev τ : Topo := Topo.v7x

variable {F : FTy → Type} [FloatOps F]
-- ==== Kernel2.lean ====
abbrev S2359296x128 : Shape := ⟨2, ![2359296, 128]⟩
abbrev S32 : Shape := ⟨1, ![32]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S64x2048x2048 : Shape := ⟨3, ![64, 2048, 2048]⟩
abbrev S64x1x2048 : Shape := ⟨3, ![64, 1, 2048]⟩
abbrev S_ : Shape := ⟨0, ![]⟩
abbrev S576 : Shape := ⟨1, ![576]⟩
abbrev S1x32 : Shape := ⟨2, ![1, 32]⟩
abbrev S576x1 : Shape := ⟨2, ![576, 1]⟩
abbrev S576x32 : Shape := ⟨2, ![576, 32]⟩
abbrev S1 : Shape := ⟨1, ![1]⟩
abbrev S607 : Shape := ⟨1, ![607]⟩
abbrev S1x576 : Shape := ⟨2, ![1, 576]⟩
abbrev S607x1 : Shape := ⟨2, ![607, 1]⟩
abbrev S607x576 : Shape := ⟨2, ![607, 576]⟩
abbrev S4096x128 : Shape := ⟨2, ![4096, 128]⟩
abbrev S1x2048x2048 : Shape := ⟨3, ![1, 2048, 2048]⟩
abbrev S1x1x2048 : Shape := ⟨3, ![1, 1, 2048]⟩
abbrev S256x2048 : Shape := ⟨2, ![256, 2048]⟩
abbrev S2048x128 : Shape := ⟨2, ![2048, 128]⟩
abbrev S128x16x128 : Shape := ⟨3, ![128, 16, 128]⟩
abbrev S16x128x128 : Shape := ⟨3, ![16, 128, 128]⟩
abbrev S1x128x128 : Shape := ⟨3, ![1, 128, 128]⟩
abbrev S128x128 : Shape := ⟨2, ![128, 128]⟩
abbrev S1x2048x1024 : Shape := ⟨3, ![1, 2048, 1024]⟩
abbrev S2048x1024 : Shape := ⟨2, ![2048, 1024]⟩
abbrev S256x1024 : Shape := ⟨2, ![256, 1024]⟩
abbrev S1x1x1024 : Shape := ⟨3, ![1, 1, 1024]⟩
abbrev S1x1024 : Shape := ⟨2, ![1, 1024]⟩
abbrev S1x1024x2048 : Shape := ⟨3, ![1, 1024, 2048]⟩
abbrev S1024x2048 : Shape := ⟨2, ![1024, 2048]⟩
abbrev S1x2048 : Shape := ⟨2, ![1, 2048]⟩
abbrev S128x2048 : Shape := ⟨2, ![128, 2048]⟩
abbrev S2048x1 : Shape := ⟨2, ![2048, 1]⟩

abbrev nBuf : Space → Nat
  | .hbm => 155
  | .vmem => 16
  | .smem => 6
  | _ => 0

abbrev hbmTy0_0 (i : Nat) : BufTy := match i % 128 with
  | 0 => ⟨S2359296x128, .f32⟩
  | 1 => ⟨S32, .i32⟩
  | 2 => ⟨S2x32x2048x4096, .f32⟩
  | 3 => ⟨S2x32x4096, .f32⟩
  | 4 => ⟨S2x32x2048x2048, .f32⟩
  | 5 => ⟨S2x32x2048, .f32⟩
  | 6 => ⟨S2x32x2048x2048, .f32⟩
  | 7 => ⟨S2x32x2048x2048, .bf16⟩
  | 8 => ⟨S64x2048x2048, .bf16⟩
  | 9 => ⟨S2x32x2048x2048, .f32⟩
  | 10 => ⟨S2x32x2048x2048, .bf16⟩
  | 11 => ⟨S64x2048x2048, .bf16⟩
  | 12 => ⟨S2x32x2048, .f32⟩
  | 13 => ⟨S64x1x2048, .f32⟩
  | 14 => ⟨S2x32x2048, .f32⟩
  | 15 => ⟨S64x1x2048, .f32⟩
  | 16 => ⟨S2x32x2048x2048, .bf16⟩
  | 17 => ⟨S64x2048x2048, .bf16⟩
  | 18 => ⟨S64x1x2048, .f32⟩
  | 19 => ⟨S_, .i32⟩
  | 20 => ⟨S_, .i32⟩
  | 21 => ⟨S32, .i32⟩
  | 22 => ⟨S32, .i32⟩
  | 23 => ⟨S576, .i32⟩
  | 24 => ⟨S_, .i32⟩
  | 25 => ⟨S576, .i32⟩
  | 26 => ⟨S576, .i32⟩
  | 27 => ⟨S1x32, .i32⟩
  | 28 => ⟨S576x1, .i32⟩
  | 29 => ⟨S576x32, .i32⟩
  | 30 => ⟨S576x32, .i32⟩
  | 31 => ⟨S576x32, .i1⟩
  | 32 => ⟨S576x32, .i32⟩
  | 33 => ⟨S_, .i32⟩
  | 34 => ⟨S576, .i32⟩
  | 35 => ⟨S_, .i32⟩
  | 36 => ⟨S576, .i32⟩
  | 37 => ⟨S576, .i32⟩
  | 38 => ⟨S_, .i32⟩
  | 39 => ⟨S576, .i32⟩
  | 40 => ⟨S576, .i32⟩
  | 41 => ⟨S_, .i32⟩
  | 42 => ⟨S576, .i32⟩
  | 43 => ⟨S576, .i32⟩
  | 44 => ⟨S1x32, .i32⟩
  | 45 => ⟨S576x1, .i32⟩
  | 46 => ⟨S576x32, .i32⟩
  | 47 => ⟨S576x32, .i32⟩
  | 48 => ⟨S576x32, .i1⟩
  | 49 => ⟨S576x32, .i32⟩
  | 50 => ⟨S_, .i32⟩
  | 51 => ⟨S576, .i32⟩
  | 52 => ⟨S_, .i32⟩
  | 53 => ⟨S576, .i32⟩
  | 54 => ⟨S576, .i32⟩
  | 55 => ⟨S576, .i32⟩
  | 56 => ⟨S_, .i32⟩
  | 57 => ⟨S576, .i32⟩
  | 58 => ⟨S576, .i32⟩
  | 59 => ⟨S_, .i32⟩
  | 60 => ⟨S_, .i32⟩
  | 61 => ⟨S576, .i32⟩
  | 62 => ⟨S576, .i32⟩
  | 63 => ⟨S1, .i32⟩
  | 64 => ⟨S_, .i32⟩
  | 65 => ⟨S607, .i32⟩
  | 66 => ⟨S607, .i32⟩
  | 67 => ⟨S607, .i1⟩
  | 68 => ⟨S1x576, .i32⟩
  | 69 => ⟨S607x1, .i32⟩
  | 70 => ⟨S607x576, .i32⟩
  | 71 => ⟨S607x576, .i32⟩
  | 72 => ⟨S607x576, .i1⟩
  | 73 => ⟨S607x576, .i32⟩
  | 74 => ⟨S_, .i32⟩
  | 75 => ⟨S607, .i32⟩
  | 76 => ⟨S_, .i32⟩
  | 77 => ⟨S607, .i32⟩
  | 78 => ⟨S_, .i32⟩
  | 79 => ⟨S607, .i32⟩
  | 80 => ⟨S607, .i1⟩
  | 81 => ⟨S_, .i32⟩
  | 82 => ⟨S607, .i32⟩
  | 83 => ⟨S607, .i32⟩
  | 84 => ⟨S607, .i32⟩
  | 85 => ⟨S607x1, .i32⟩
  | 86 => ⟨S607, .i32⟩
  | 87 => ⟨S_, .i32⟩
  | 88 => ⟨S607, .i32⟩
  | 89 => ⟨S607, .i1⟩
  | 90 => ⟨S_, .i32⟩
  | 91 => ⟨S607, .i32⟩
  | 92 => ⟨S607, .i32⟩
  | 93 => ⟨S607, .i32⟩
  | 94 => ⟨S607x1, .i32⟩
  | 95 => ⟨S607, .i32⟩
  | 96 => ⟨S607, .i32⟩
  | 97 => ⟨S607, .i32⟩
  | 98 => ⟨S1, .i32⟩
  | 99 => ⟨S_, .i32⟩
  | 100 => ⟨S607, .i32⟩
  | 101 => ⟨S607, .i32⟩
  | 102 => ⟨S_, .i32⟩
  | 103 => ⟨S607, .i32⟩
  | 104 => ⟨S607, .i1⟩
  | 105 => ⟨S_, .i32⟩
  | 106 => ⟨S607, .i32⟩
  | 107 => ⟨S607, .i32⟩
  | 108 => ⟨S607, .i32⟩
  | 109 => ⟨S607x1, .i32⟩
  | 110 => ⟨S607, .i32⟩
  | 111 => ⟨S_, .i32⟩
  | 112 => ⟨S607, .i32⟩
  | 113 => ⟨S607, .i32⟩
  | 114 => ⟨S607, .i32⟩
  | 115 => ⟨S_, .i32⟩
  | 116 => ⟨S_, .i32⟩
  | 117 => ⟨S_, .i32⟩
  | 118 => ⟨S607, .i32⟩
  | 119 => ⟨S607, .i32⟩
  | 120 => ⟨S_, .i32⟩
  | 121 => ⟨S607, .i32⟩
  | 122 => ⟨S_, .i32⟩
  | 123 => ⟨S607, .i32⟩
  | 124 => ⟨S607, .i1⟩
  | 125 => ⟨S_, .i32⟩
  | 126 => ⟨S607, .i32⟩
  | 127 => ⟨S607, .i32⟩
  | _ => ⟨S2359296x128, .f32⟩

abbrev hbmTy0_1 (i : Nat) : BufTy := match i % 128 with
  | 0 => ⟨S607, .i32⟩
  | 1 => ⟨S607x1, .i32⟩
  | 2 => ⟨S607, .i32⟩
  | 3 => ⟨S_, .i32⟩
  | 4 => ⟨S607, .i32⟩
  | 5 => ⟨S607, .i32⟩
  | 6 => ⟨S607, .i32⟩
  | 7 => ⟨S_, .i32⟩
  | 8 => ⟨S_, .i32⟩
  | 9 => ⟨S_, .i32⟩
  | 10 => ⟨S607, .i32⟩
  | 11 => ⟨S607, .i32⟩
  | 12 => ⟨S_, .i32⟩
  | 13 => ⟨S607, .i32⟩
  | 14 => ⟨S_, .i32⟩
  | 15 => ⟨S607, .i32⟩
  | 16 => ⟨S607, .i1⟩
  | 17 => ⟨S_, .i32⟩
  | 18 => ⟨S607, .i32⟩
  | 19 => ⟨S607, .i32⟩
  | 20 => ⟨S607, .i32⟩
  | 21 => ⟨S607x1, .i32⟩
  | 22 => ⟨S607, .i32⟩
  | 23 => ⟨S607, .i1⟩
  | 24 => ⟨S_, .i32⟩
  | 25 => ⟨S607, .i32⟩
  | 26 => ⟨S2359296x128, .f32⟩
  | _ => ⟨S2359296x128, .f32⟩

abbrev hbmTy (i : Nat) : BufTy := match i / 128 with
  | 0 => hbmTy0_0 i
  | 1 => hbmTy0_1 i
  | _ => ⟨S2359296x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x2048, .bf16⟩
  | .local _ .vmem, ⟨11, _⟩ => ⟨S1x1x2048, .f32⟩
  | .local _ .vmem, ⟨12, _⟩ => ⟨S1x1x2048, .f32⟩
  | .local _ .vmem, ⟨13, _⟩ => ⟨S4096x128, .f32⟩
  | .local _ .vmem, ⟨14, _⟩ => ⟨S4096x128, .f32⟩
  | .local _ .vmem, ⟨15, _⟩ => ⟨S256x2048, .bf16⟩
  | .local _ .smem, ⟨0, _⟩ => ⟨S607, .i32⟩
  | .local _ .smem, ⟨1, _⟩ => ⟨S607, .i32⟩
  | .local _ .smem, ⟨2, _⟩ => ⟨S607, .i32⟩
  | .local _ .smem, ⟨3, _⟩ => ⟨S607, .i32⟩
  | .local _ .smem, ⟨4, _⟩ => ⟨S607, .i32⟩
  | .local _ .smem, ⟨5, _⟩ => ⟨S607, .i32⟩
  | _, _ => ⟨S2359296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_call0_c : Ref sig .tc := ⟨.hbm, 19, rfl⟩
abbrev main_call0_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_0 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_call1_call0_c : Ref sig .tc := ⟨.hbm, 59, rfl⟩
abbrev main_call1_call0_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_7 : Ref sig .tc := ⟨.hbm, 74, rfl⟩
abbrev main_v56 : Ref sig .tc := ⟨.hbm, 75, rfl⟩
abbrev main_c_8 : Ref sig .tc := ⟨.hbm, 76, rfl⟩
abbrev main_v57 : Ref sig .tc := ⟨.hbm, 77, rfl⟩
abbrev main_c_9 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_11 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_call2_v0 : Ref sig .tc := ⟨.hbm, 100, rfl⟩
abbrev main_v77 : Ref sig .tc := ⟨.hbm, 101, rfl⟩
abbrev main_c_13 : Ref sig .tc := ⟨.hbm, 102, rfl⟩
abbrev main_v78 : Ref sig .tc := ⟨.hbm, 103, rfl⟩
abbrev main_v79 : Ref sig .tc := ⟨.hbm, 104, rfl⟩
abbrev main_c_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_16 : Ref sig .tc := ⟨.hbm, 115, rfl⟩
abbrev main_c_17 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_21 : Ref sig .tc := ⟨.hbm, 135, rfl⟩
abbrev main_c_22 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_c_23 : Ref sig .tc := ⟨.hbm, 142, rfl⟩
abbrev main_v100 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_25 : Ref sig .tc := ⟨.hbm, 152, rfl⟩
abbrev main_v110 : Ref sig .tc := ⟨.hbm, 153, rfl⟩
abbrev main_v112 : Ref sig .tc := ⟨.hbm, 154, rfl⟩
abbrev main_v58 : Ref sig .tc := ⟨.smem, 0, rfl⟩
abbrev main_v111 : Ref sig .tc := ⟨.smem, 1, rfl⟩
abbrev main_v88 : Ref sig .tc := ⟨.smem, 2, rfl⟩
abbrev main_v99 : Ref sig .tc := ⟨.smem, 3, rfl⟩
abbrev main_v108 : Ref sig .tc := ⟨.smem, 4, rfl⟩
abbrev main_v109 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![607], ![false]⟩

abbrev pre0 : Pipeline.Prefetch sig := ⟨6, ![main_v58.idx, main_v111.idx, main_v88.idx, main_v99.idx, main_v108.idx, main_v109.idx], fun | 0 => main_v58.names | 1 => main_v111.names | 2 => main_v88.names | 3 => main_v99.names | 4 => main_v108.names | 5 => main_v109.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v310 : Index := Scalar.indexCast arg0
  ![v310.toNat]
def k0_off3 (i : grid0.Coords) : Fin 1 → Nat :=
  let arg0 : BitVec 32 := BitVec.ofNat 32 (i 0).val
  let v326 : Index := Scalar.indexCast arg0
  ![v326.toNat]
def k0_off4 (i : grid0.Coords) : Fin 1 → Nat :=
  let arg0 : BitVec 32 := BitVec.ofNat 32 (i 0).val
  let v370 : Index := Scalar.indexCast arg0
  ![v370.toNat]
def k0_off5 (i : grid0.Coords) : Fin 1 → Nat :=
  let arg0 : BitVec 32 := BitVec.ofNat 32 (i 0).val
  let v386 : Index := Scalar.indexCast arg0
  ![v386.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v322 : BitVec 32) : BitVec 1 :=
  let c1_i32_103 : BitVec 32 := 1#32
  let v323 : BitVec 1 := Scalar.cmpi .eq v322 c1_i32_103
  let v324 : BitVec 32 := Scalar.extui v323
  let c0_i32_104 : BitVec 32 := 0#32
  let v325 : BitVec 1 := Scalar.cmpi .ne v324 c0_i32_104
  v325

def k0_cond3 (v327 : BitVec 32) : BitVec 1 :=
  let c0_i32_105 : BitVec 32 := 0#32
  let v328 : BitVec 1 := Scalar.cmpi .eq v327 c0_i32_105
  let v329 : BitVec 32 := Scalar.extui v328
  let c0_i32_106 : BitVec 32 := 0#32
  let v330 : BitVec 1 := Scalar.cmpi .ne v329 c0_i32_106
  v330

def k0_cond4 (v382 : BitVec 32) : BitVec 1 :=
  let c1_i32_109 : BitVec 32 := 1#32
  let v383 : BitVec 1 := Scalar.cmpi .eq v382 c1_i32_109
  let v384 : BitVec 32 := Scalar.extui v383
  let c0_i32_110 : BitVec 32 := 0#32
  let v385 : BitVec 1 := Scalar.cmpi .ne v384 c0_i32_110
  v385

def k0_cond5 (v387 : BitVec 32) : BitVec 1 :=
  let c0_i32_111 : BitVec 32 := 0#32
  let v388 : BitVec 1 := Scalar.cmpi .eq v387 c0_i32_111
  let v389 : BitVec 32 := Scalar.extui v388
  let c0_i32_112 : BitVec 32 := 0#32
  let v390 : BitVec 1 := Scalar.cmpi .ne v389 c0_i32_112
  v390

def cc0_transform_0 (k0_off1_inb : ∀ i : grid0.Coords, ∀ a, (k0_off1 i) a + S1.size a ≤ S607.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S607) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S607.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S607) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S607.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S607) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S607.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S607) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S607.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S607) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S607.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S607) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S607.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S607) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S607.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S607) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2359296x128 : Shape := ⟨2, ![2359296, 128]⟩
abbrev S32 : Shape := ⟨1, ![32]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S_ : Shape := ⟨0, ![]⟩
abbrev S1x32 : Shape := ⟨2, ![1, 32]⟩
abbrev S147456 : Shape := ⟨1, ![147456]⟩
abbrev S147456x1 : Shape := ⟨2, ![147456, 1]⟩
abbrev S147456x32 : Shape := ⟨2, ![147456, 32]⟩
abbrev S147456x2048 : Shape := ⟨2, ![147456, 2048]⟩
abbrev S1x32x2048x4096 : Shape := ⟨4, ![1, 32, 2048, 4096]⟩
abbrev S32x2048x4096 : Shape := ⟨3, ![32, 2048, 4096]⟩
abbrev S147456x2048x4096 : Shape := ⟨3, ![147456, 2048, 4096]⟩
abbrev S147456x4096 : Shape := ⟨2, ![147456, 4096]⟩
abbrev S1x32x4096 : Shape := ⟨3, ![1, 32, 4096]⟩
abbrev S32x4096 : Shape := ⟨2, ![32, 4096]⟩
abbrev S1x32x2048x2048 : Shape := ⟨4, ![1, 32, 2048, 2048]⟩
abbrev S32x2048x2048 : Shape := ⟨3, ![32, 2048, 2048]⟩
abbrev S147456x2048x2048 : Shape := ⟨3, ![147456, 2048, 2048]⟩
abbrev S1x32x2048 : Shape := ⟨3, ![1, 32, 2048]⟩
abbrev S32x2048 : Shape := ⟨2, ![32, 2048]⟩

abbrev nBuf : Space → Nat
  | .hbm => 97
  | .vmem => 0
  | .smem => 0
  | _ => 0

abbrev bufTy : (tb : Table) → Fin (tcTables nBuf tb) → BufTy
  | .hbm, ⟨0, _⟩ => ⟨S2359296x128, .f32⟩
  | .hbm, ⟨1, _⟩ => ⟨S32, .i32⟩
  | .hbm, ⟨2, _⟩ => ⟨S2x32x2048x4096, .f32⟩
  | .hbm, ⟨3, _⟩ => ⟨S2x32x4096, .f32⟩
  | .hbm, ⟨4, _⟩ => ⟨S2x32x2048x2048, .f32⟩
  | .hbm, ⟨5, _⟩ => ⟨S2x32x2048, .f32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S1x32, .i32⟩
  | .hbm, ⟨10, _⟩ => ⟨S147456, .i32⟩
  | .hbm, ⟨11, _⟩ => ⟨S147456x1, .i32⟩
  | .hbm, ⟨12, _⟩ => ⟨S147456x32, .i32⟩
  | .hbm, ⟨13, _⟩ => ⟨S147456x32, .i32⟩
  | .hbm, ⟨14, _⟩ => ⟨S147456x32, .i1⟩
  | .hbm, ⟨15, _⟩ => ⟨S147456x32, .i32⟩
  | .hbm, ⟨16, _⟩ => ⟨S_, .i32⟩
  | .hbm, ⟨17, _⟩ => ⟨S147456, .i32⟩
  | .hbm, ⟨18, _⟩ => ⟨S147456x2048, .f32⟩
  | .hbm, ⟨19, _⟩ => ⟨S1x32x2048x4096, .f32⟩
  | .hbm, ⟨20, _⟩ => ⟨S32x2048x4096, .f32⟩
  | .hbm, ⟨21, _⟩ => ⟨S_, .i32⟩
  | .hbm, ⟨22, _⟩ => ⟨S147456, .i32⟩
  | .hbm, ⟨23, _⟩ => ⟨S147456, .i1⟩
  | .hbm, ⟨24, _⟩ => ⟨S_, .i32⟩
  | .hbm, ⟨25, _⟩ => ⟨S147456, .i32⟩
  | .hbm, ⟨26, _⟩ => ⟨S147456, .i32⟩
  | .hbm, ⟨27, _⟩ => ⟨S147456, .i32⟩
  | .hbm, ⟨28, _⟩ => ⟨S147456x1, .i32⟩
  | .hbm, ⟨29, _⟩ => ⟨S147456x2048x4096, .f32⟩
  | .hbm, ⟨30, _⟩ => ⟨S147456x4096, .f32⟩
  | .hbm, ⟨31, _⟩ => ⟨S1x32x4096, .f32⟩
  | .hbm, ⟨32, _⟩ => ⟨S32x4096, .f32⟩
  | .hbm, ⟨33, _⟩ => ⟨S_, .i32⟩
  | .hbm, ⟨34, _⟩ => ⟨S147456, .i32⟩
  | .hbm, ⟨35, _⟩ => ⟨S147456, .i1⟩
  | .hbm, ⟨36, _⟩ => ⟨S_, .i32⟩
  | .hbm, ⟨37, _⟩ => ⟨S147456, .i32⟩
  | .hbm, ⟨38, _⟩ => ⟨S147456, .i32⟩
  | .hbm, ⟨39, _⟩ => ⟨S147456, .i32⟩
  | .hbm, ⟨40, _⟩ => ⟨S147456x1, .i32⟩
  | .hbm, ⟨41, _⟩ => ⟨S147456x4096, .f32⟩
  | .hbm, ⟨42, _⟩ => ⟨S147456x4096, .f32⟩
  | .hbm, ⟨43, _⟩ => ⟨S147456x2048, .f32⟩
  | .hbm, ⟨44, _⟩ => ⟨S_, .f32⟩
  | .hbm, ⟨45, _⟩ => ⟨S147456x2048, .f32⟩
  | .hbm, ⟨46, _⟩ => ⟨S147456x2048, .f32⟩
  | .hbm, ⟨47, _⟩ => ⟨S147456x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S147456x2048, .f32⟩
  | .hbm, ⟨52, _⟩ => ⟨S147456x2048, .f32⟩
  | .hbm, ⟨53, _⟩ => ⟨S_, .f32⟩
  | .hbm, ⟨54, _⟩ => ⟨S147456x2048, .f32⟩
  | .hbm, ⟨55, _⟩ => ⟨S147456x2048, .f32⟩
  | .hbm, ⟨56, _⟩ => ⟨S_, .f32⟩
  | .hbm, ⟨57, _⟩ => ⟨S147456x2048, .f32⟩
  | .hbm, ⟨58, _⟩ => ⟨S147456x2048, .f32⟩
  | .hbm, ⟨59, _⟩ => ⟨S147456x2048, .f32⟩
  | .hbm, ⟨60, _⟩ => ⟨S147456x2048, .f32⟩
  | .hbm, ⟨61, _⟩ => ⟨S_, .f32⟩
  | .hbm, ⟨62, _⟩ => ⟨S147456x2048, .f32⟩
  | .hbm, ⟨63, _⟩ => ⟨S147456x2048, .f32⟩
  | .hbm, ⟨64, _⟩ => ⟨S_, .f32⟩
  | .hbm, ⟨65, _⟩ => ⟨S147456x2048, .f32⟩
  | .hbm, ⟨66, _⟩ => ⟨S147456x2048, .f32⟩
  | .hbm, ⟨67, _⟩ => ⟨S147456x2048, .f32⟩
  | .hbm, ⟨68, _⟩ => ⟨S_, .f32⟩
  | .hbm, ⟨69, _⟩ => ⟨S147456x2048, .f32⟩
  | .hbm, ⟨70, _⟩ => ⟨S147456x2048, .f32⟩
  | .hbm, ⟨71, _⟩ => ⟨S147456x2048, .f32⟩
  | .hbm, ⟨72, _⟩ => ⟨S1x32x2048x2048, .f32⟩
  | .hbm, ⟨73, _⟩ => ⟨S32x2048x2048, .f32⟩
  | .hbm, ⟨74, _⟩ => ⟨S_, .i32⟩
  | .hbm, ⟨75, _⟩ => ⟨S147456, .i32⟩
  | .hbm, ⟨76, _⟩ => ⟨S147456, .i1⟩
  | .hbm, ⟨77, _⟩ => ⟨S_, .i32⟩
  | .hbm, ⟨78, _⟩ => ⟨S147456, .i32⟩
  | .hbm, ⟨79, _⟩ => ⟨S147456, .i32⟩
  | .hbm, ⟨80, _⟩ => ⟨S147456, .i32⟩
  | .hbm, ⟨81, _⟩ => ⟨S147456x1, .i32⟩
  | .hbm, ⟨82, _⟩ => ⟨S147456x2048x2048, .f32⟩
  | .hbm, ⟨83, _⟩ => ⟨S147456x2048, .f32⟩
  | .hbm, ⟨84, _⟩ => ⟨S1x32x2048, .f32⟩
  | .hbm, ⟨85, _⟩ => ⟨S32x2048, .f32⟩
  | .hbm, ⟨86, _⟩ => ⟨S_, .i32⟩
  | .hbm, ⟨87, _⟩ => ⟨S147456, .i32⟩
  | .hbm, ⟨88, _⟩ => ⟨S147456, .i1⟩
  | .hbm, ⟨89, _⟩ => ⟨S_, .i32⟩
  | .hbm, ⟨90, _⟩ => ⟨S147456, .i32⟩
  | .hbm, ⟨91, _⟩ => ⟨S147456, .i32⟩
  | .hbm, ⟨92, _⟩ => ⟨S147456, .i32⟩
  | .hbm, ⟨93, _⟩ => ⟨S147456x1, .i32⟩
  | .hbm, ⟨94, _⟩ => ⟨S147456x2048, .f32⟩
  | .hbm, ⟨95, _⟩ => ⟨S147456x2048, .f32⟩
  | .hbm, ⟨96, _⟩ => ⟨S2359296x128, .f32⟩
  | _, _ => ⟨S2359296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Kernel3.lean ====
abbrev S16x2304x2048 : Shape := ⟨3, ![16, 2304, 2048]⟩
abbrev S1x2048x6144 : Shape := ⟨3, ![1, 2048, 6144]⟩
abbrev S2x32x2048x2048 : Shape := ⟨4, ![2, 32, 2048, 2048]⟩
abbrev S36864x2048 : Shape := ⟨2, ![36864, 2048]⟩
abbrev S2048x6144 : Shape := ⟨2, ![2048, 6144]⟩
abbrev S131072x2048 : Shape := ⟨2, ![131072, 2048]⟩
abbrev S36864x6144 : Shape := ⟨2, ![36864, 6144]⟩
abbrev S1152x2048 : Shape := ⟨2, ![1152, 2048]⟩
abbrev S2048x768 : Shape := ⟨2, ![2048, 768]⟩
abbrev S512x2048 : Shape := ⟨2, ![512, 2048]⟩
abbrev S1152x768 : Shape := ⟨2, ![1152, 768]⟩

abbrev nBuf : Space → Nat
  | .hbm => 10
  | .vmem => 10
  | .smem => 0
  | _ => 0

abbrev bufTy : (tb : Table) → Fin (tcTables nBuf tb) → BufTy
  | .hbm, ⟨0, _⟩ => ⟨S16x2304x2048, .f32⟩
  | .hbm, ⟨1, _⟩ => ⟨S1x2048x6144, .f32⟩
  | .hbm, ⟨2, _⟩ => ⟨S2x32x2048x2048, .f32⟩
  | .hbm, ⟨3, _⟩ => ⟨S16x2304x2048, .bf16⟩
  | .hbm, ⟨4, _⟩ => ⟨S36864x2048, .bf16⟩
  | .hbm, ⟨5, _⟩ => ⟨S2048x6144, .f32⟩
  | .hbm, ⟨6, _⟩ => ⟨S2048x6144, .bf16⟩
  | .hbm, ⟨7, _⟩ => ⟨S131072x2048, .f32⟩
  | .hbm, ⟨8, _⟩ => ⟨S36864x6144, .bf16⟩
  | .hbm, ⟨9, _⟩ => ⟨S131072x2048, .bf16⟩
  | .local _ .vmem, ⟨0, _⟩ => ⟨S1152x2048, .bf16⟩
  | .local _ .vmem, ⟨1, _⟩ => ⟨S1152x2048, .bf16⟩
  | .local _ .vmem, ⟨2, _⟩ => ⟨S2048x768, .bf16⟩
  | .local _ .vmem, ⟨3, _⟩ => ⟨S2048x768, .bf16⟩
  | .local _ .vmem, ⟨4, _⟩ => ⟨S512x2048, .f32⟩
  | .local _ .vmem, ⟨5, _⟩ => ⟨S512x2048, .f32⟩
  | .local _ .vmem, ⟨6, _⟩ => ⟨S1152x768, .bf16⟩
  | .local _ .vmem, ⟨7, _⟩ => ⟨S1152x768, .bf16⟩
  | .local _ .vmem, ⟨8, _⟩ => ⟨S512x2048, .bf16⟩
  | .local _ .vmem, ⟨9, _⟩ => ⟨S512x2048, .bf16⟩
  | _, _ => ⟨S16x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1152x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16x2304x2048 : Shape := ⟨3, ![16, 2304, 2048]⟩
abbrev S1x2048x6144 : Shape := ⟨3, ![1, 2048, 6144]⟩
abbrev S2x32x2048x2048 : Shape := ⟨4, ![2, 32, 2048, 2048]⟩
abbrev S36864x2048 : Shape := ⟨2, ![36864, 2048]⟩
abbrev S2048x6144 : Shape := ⟨2, ![2048, 6144]⟩
abbrev S36864x6144 : Shape := ⟨2, ![36864, 6144]⟩
abbrev S131072x2048 : Shape := ⟨2, ![131072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16x2304x2048, .f32⟩
  | .hbm, ⟨1, _⟩ => ⟨S1x2048x6144, .f32⟩
  | .hbm, ⟨2, _⟩ => ⟨S2x32x2048x2048, .f32⟩
  | .hbm, ⟨3, _⟩ => ⟨S36864x2048, .f32⟩
  | .hbm, ⟨4, _⟩ => ⟨S2048x6144, .f32⟩
  | .hbm, ⟨5, _⟩ => ⟨S36864x6144, .f32⟩
  | .hbm, ⟨6, _⟩ => ⟨S36864x6144, .bf16⟩
  | .hbm, ⟨7, _⟩ => ⟨S131072x2048, .f32⟩
  | .hbm, ⟨8, _⟩ => ⟨S131072x2048, .bf16⟩
  | _, _ => ⟨S16x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S16x2304x2048 : Shape := ⟨3, ![16, 2304, 2048]⟩
abbrev S1x2048x2048 : Shape := ⟨3, ![1, 2048, 2048]⟩
abbrev S1x2048 : Shape := ⟨2, ![1, 2048]⟩
abbrev S36864x2048 : Shape := ⟨2, ![36864, 2048]⟩
abbrev S2048x2048 : Shape := ⟨2, ![2048, 2048]⟩
abbrev S2048 : Shape := ⟨1, ![2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S16x2304x2048, .f32⟩
  | .hbm, ⟨1, _⟩ => ⟨S1x2048x2048, .f32⟩
  | .hbm, ⟨2, _⟩ => ⟨S1x2048, .f32⟩
  | .hbm, ⟨3, _⟩ => ⟨S16x2304x2048, .bf16⟩
  | .hbm, ⟨4, _⟩ => ⟨S36864x2048, .bf16⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S36864x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![36, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x2304x2048 : Shape := ⟨3, ![16, 2304, 2048]⟩
abbrev S1x2048x2048 : Shape := ⟨3, ![1, 2048, 2048]⟩
abbrev S1x2048 : Shape := ⟨2, ![1, 2048]⟩
abbrev S36864x2048 : Shape := ⟨2, ![36864, 2048]⟩
abbrev S2048x2048 : Shape := ⟨2, ![2048, 2048]⟩
abbrev S2048 : Shape := ⟨1, ![2048]⟩

abbrev nBuf : Space → Nat
  | .hbm => 10
  | .vmem => 0
  | .smem => 0
  | _ => 0

abbrev bufTy : (tb : Table) → Fin (tcTables nBuf tb) → BufTy
  | .hbm, ⟨0, _⟩ => ⟨S16x2304x2048, .f32⟩
  | .hbm, ⟨1, _⟩ => ⟨S1x2048x2048, .f32⟩
  | .hbm, ⟨2, _⟩ => ⟨S1x2048, .f32⟩
  | .hbm, ⟨3, _⟩ => ⟨S36864x2048, .f32⟩
  | .hbm, ⟨4, _⟩ => ⟨S2048x2048, .f32⟩
  | .hbm, ⟨5, _⟩ => ⟨S36864x2048, .f32⟩
  | .hbm, ⟨6, _⟩ => ⟨S2048, .f32⟩
  | .hbm, ⟨7, _⟩ => ⟨S1x2048, .f32⟩
  | .hbm, ⟨8, _⟩ => ⟨S36864x2048, .f32⟩
  | .hbm, ⟨9, _⟩ => ⟨S36864x2048, .f32⟩
  | _, _ => ⟨S16x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S16x2304x2048 : Shape := ⟨3, ![16, 2304, 2048]⟩
abbrev S1x2048x2048 : Shape := ⟨3, ![1, 2048, 2048]⟩
abbrev S1x2048 : Shape := ⟨2, ![1, 2048]⟩
abbrev S36864x2048 : Shape := ⟨2, ![36864, 2048]⟩
abbrev S2048x2048 : Shape := ⟨2, ![2048, 2048]⟩
abbrev S2048 : Shape := ⟨1, ![2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S16x2304x2048, .f32⟩
  | .hbm, ⟨1, _⟩ => ⟨S1x2048x2048, .f32⟩
  | .hbm, ⟨2, _⟩ => ⟨S1x2048, .f32⟩
  | .hbm, ⟨3, _⟩ => ⟨S16x2304x2048, .bf16⟩
  | .hbm, ⟨4, _⟩ => ⟨S36864x2048, .bf16⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S36864x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![36, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x2304x2048 : Shape := ⟨3, ![16, 2304, 2048]⟩
abbrev S1x2048x2048 : Shape := ⟨3, ![1, 2048, 2048]⟩
abbrev S1x2048 : Shape := ⟨2, ![1, 2048]⟩
abbrev S36864x2048 : Shape := ⟨2, ![36864, 2048]⟩
abbrev S2048x2048 : Shape := ⟨2, ![2048, 2048]⟩
abbrev S2048 : Shape := ⟨1, ![2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16x2304x2048, .f32⟩
  | .hbm, ⟨1, _⟩ => ⟨S1x2048x2048, .f32⟩
  | .hbm, ⟨2, _⟩ => ⟨S1x2048, .f32⟩
  | .hbm, ⟨3, _⟩ => ⟨S36864x2048, .f32⟩
  | .hbm, ⟨4, _⟩ => ⟨S2048x2048, .f32⟩
  | .hbm, ⟨5, _⟩ => ⟨S36864x2048, .f32⟩
  | .hbm, ⟨6, _⟩ => ⟨S2048, .f32⟩
  | .hbm, ⟨7, _⟩ => ⟨S1x2048, .f32⟩
  | .hbm, ⟨8, _⟩ => ⟨S36864x2048, .f32⟩
  | .hbm, ⟨9, _⟩ => ⟨S36864x2048, .f32⟩
  | .hbm, ⟨10, _⟩ => ⟨S36864x2048, .f32⟩
  | .hbm, ⟨11, _⟩ => ⟨S36864x2048, .f32⟩
  | .hbm, ⟨12, _⟩ => ⟨S_, .f32⟩
  | .hbm, ⟨13, _⟩ => ⟨S36864x2048, .f32⟩
  | .hbm, ⟨14, _⟩ => ⟨S36864x2048, .f32⟩
  | .hbm, ⟨15, _⟩ => ⟨S36864x2048, .f32⟩
  | .hbm, ⟨16, _⟩ => ⟨S_, .f32⟩
  | .hbm, ⟨17, _⟩ => ⟨S36864x2048, .f32⟩
  | .hbm, ⟨18, _⟩ => ⟨S36864x2048, .f32⟩
  | .hbm, ⟨19, _⟩ => ⟨S36864x2048, .f32⟩
  | .hbm, ⟨20, _⟩ => ⟨S_, .f32⟩
  | .hbm, ⟨21, _⟩ => ⟨S36864x2048, .f32⟩
  | .hbm, ⟨22, _⟩ => ⟨S36864x2048, .f32⟩
  | .hbm, ⟨23, _⟩ => ⟨S_, .f32⟩
  | .hbm, ⟨24, _⟩ => ⟨S36864x2048, .f32⟩
  | .hbm, ⟨25, _⟩ => ⟨S36864x2048, .f32⟩
  | .hbm, ⟨26, _⟩ => ⟨S36864x2048, .f32⟩
  | _, _ => ⟨S16x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.DispatchBody.lean ====
/-
  The body of the dispatch at one grid point: 4 096 copies of one token's sixteen rows each, all started on one
  semaphore, then four waits that together take back what the 4 096 copies add to it.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Routed
public import Idealize.ShloMosaic.Lib.Batch
public import Idealize.ShloMosaic.Lib.Ring
public import Idealize.ShloMosaic.Lib.Tactic

@[expose] public section

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UC sig nD τ) ℕ

/-! ## Where things lie -/

/-- The result's rows of slot `r`: sixteen rows from row `16 r`. -/
def rowsOf (r : ℕ) : Finset S2359296x128.Idx := Finset.univ.filter fun y => (y 0).val / 16 = r
/-- The window's rows of token `k`: sixteen rows from row `16 k`. -/
def tokRows (k : ℕ) : Finset S16384x128.Idx := Finset.univ.filter fun y => (y 0).val / 16 = k

/-- The word of the slot table that transfer `j` of the step reads. -/
def wordIx (j : ℕ) (h : j < 4096) : S1x1x4096.Idx := fun a => ⟨(![0, 0, j] : Fin 3 → ℕ) a, by fin_cases a <;> simp [h]⟩

section Step

variable (c : Dev nD) (arg1 : Memref sig .tc .smem S1x1x4096 .i32) (harg1 : arg1.IsWhole)
  (arg2 : Memref sig .tc .vmem S16384x128 .f32) (harg2 : arg2.IsWhole)
  (fw : Buf (Elt F) (arg1.view.loc (c : Thread nD τ))) (fs : Buf (Elt F) (arg2.view.loc (c : Thread nD τ)))
  (X : S2359296x128.Idx → Elt F .f32)

/-- The slot transfer `j` writes. -/
def slot (j : Fin 4096) : ℕ := BitVec.toNat (arg1.view.read (Elt F) fw (wordIx j.val j.isLt))

/-- Slot `r`'s rows of the result, held at `g`. -/
abbrev slotPt (r : ℕ) (g : S2359296x128.Idx → Elt F .f32) : sProp 𝕄 :=
  (Memref.whole main_v1 : Memref sig .tc .hbm S2359296x128 .f32).view.loc (c : Thread nD τ) ↦[rowsOf r]{fullShare} g
/-- Token `k`'s rows of the window, held at share `q`. -/
abbrev tokPt (k : ℕ) (q : PosShare TreeShare) : sProp 𝕄 :=
  arg2.view.loc (c : Thread nD τ) ↦[(tokRows k).map arg2.view.emb]{q} fs

/-- What transfer `j` delivers: its slot's rows at the final contents, and the rows it read. -/
def deliv (j : Fin 4096) : sProp 𝕄 :=
  iprop(slotPt c (slot c arg1 fw j) X ∗ tokPt c arg2 fs (j.val / 4) (Transfers.dealShare fullShare 4 (j.val % 4)))

instance deliv_storable (j : Fin 4096) : Storable (upEmb : UEmb _ 𝕄) (deliv c arg1 arg2 fw fs X j) := by
  unfold deliv; infer_instance

/-- The step's batch: `j` of the transfers started, `u` units taken back. -/
abbrev batch (j u : ℕ) : sProp 𝕄 :=
  Transfers.Batch (countersEmb (U := Pipeline.UC sig nD τ)) (c : Thread nD τ) (.dma cc0_scratch0.sem) () (sig.dmaCredit .tc (Kind.tc.table .hbm) main_v1.idx S16x128 .f32) (deliv c arg1 arg2 fw fs X) j u

/-- The token's rows a copy reads are the window's rows from row `16 k`. -/
theorem src_set (k : ℕ) (off : Fin 2 → ℕ) (inb : ∀ a, off a + S16x128.size a ≤ S16384x128.size a) (h : off = ![16 * k, 0]) :
    (arg2.slice (Rect.unit (s := S16384x128) off S16x128.size inb) (fun _ => rfl)).view.set = (tokRows k).map arg2.view.emb := by
  subst h
  refine (View.set_slice arg2.view _).trans (congrArg (Finset.map arg2.view.emb) ?_)
  ext y
  have h1 : (y 1).val < 128 := (y 1).isLt
  rw [Rect.mem_set_unit, tokRows, Finset.mem_filter]
  constructor
  · intro H; have a0 : 16 * k ≤ (y 0).val ∧ (y 0).val < 16 * k + 16 := H 0
    exact ⟨Finset.mem_univ _, by omega⟩
  · rintro ⟨-, H⟩ a; fin_cases a
    · show 16 * k ≤ (y 0).val ∧ (y 0).val < 16 * k + 16; omega
    · show 0 ≤ (y 1).val ∧ (y 1).val < 0 + 128; omega

/-- The rows a copy writes are its slot's. -/
theorem dst_set (r : ℕ) (off : Fin 2 → ℕ) (inb : ∀ a, off a + S16x128.size a ≤ S2359296x128.size a) (h : off = ![16 * r, 0]) :
    ((Memref.whole main_v1 : Memref sig .tc .hbm S2359296x128 .f32).slice (Rect.unit (s := S2359296x128) off S16x128.size inb) (fun _ => rfl)).view.set
      = rowsOf r := by
  subst h
  refine (View.set_slice_whole _ _).trans ?_
  ext y
  have h1 : (y 1).val < 128 := (y 1).isLt
  rw [Rect.mem_set_unit, rowsOf, Finset.mem_filter]
  constructor
  · intro H; have a0 : 16 * r ≤ (y 0).val ∧ (y 0).val < 16 * r + 16 := H 0
    exact ⟨Finset.mem_univ _, by omega⟩
  · rintro ⟨-, H⟩ a; fin_cases a
    · show 16 * r ≤ (y 0).val ∧ (y 0).val < 16 * r + 16; omega
    · show 0 ≤ (y 1).val ∧ (y 1).val < 0 + 128; omega

/-- The element of the window's token `k` that lands at element `y` of the result. -/
def tokIx (k : ℕ) (hk : k < 1024) (y : S2359296x128.Idx) : S16384x128.Idx :=
  fun a => ⟨(![16 * k + (y 0).val % 16, (y 1).val] : Fin 2 → ℕ) a, by
    have h1 : (y 1).val < 128 := (y 1).isLt
    fin_cases a
    · show 16 * k + (y 0).val % 16 < 16384; omega
    · exact h1⟩

/-- After a copy its slot's rows hold the token's. -/
theorem landed (r k : ℕ) (hk : k < 1024) (offd offs : Fin 2 → ℕ) (inbd : ∀ a, offd a + S16x128.size a ≤ S2359296x128.size a)
    (inbs : ∀ a, offs a + S16x128.size a ≤ S16384x128.size a) (hd : offd = ![16 * r, 0]) (hs : offs = ![16 * k, 0])
    (f0 : S2359296x128.Idx → Elt F .f32) (y : S2359296x128.Idx) (hy : y ∈ rowsOf r) :
    ((Memref.whole main_v1 : Memref sig .tc .hbm S2359296x128 .f32).slice (Rect.unit (s := S2359296x128) offd S16x128.size inbd) (fun _ => rfl)).view.write (Elt F) f0
      (ReadAs.same.apply ((arg2.slice (Rect.unit (s := S16384x128) offs S16x128.size inbs) (fun _ => rfl)).view.read (Elt F) fs)) Finset.univ y
      = arg2.view.read (Elt F) fs (tokIx k hk y) := by
  subst hd hs
  have hy' : (y 0).val / 16 = r := (Finset.mem_filter.mp hy).2
  have h1 : (y 1).val < 128 := (y 1).isLt
  let x : S16x128.Idx := fun a => ⟨(![(y 0).val % 16, (y 1).val] : Fin 2 → ℕ) a, by
    fin_cases a
    · show (y 0).val % 16 < 16; omega
    · exact h1⟩
  have hx : ((Memref.whole main_v1 : Memref sig .tc .hbm S2359296x128 .f32).slice (Rect.unit (s := S2359296x128) ![16 * r, 0] S16x128.size inbd) (fun _ => rfl)).view.emb x = y := by
    funext a; apply Fin.ext
    refine (Rect.emb_apply (r := Rect.unit (s := S2359296x128) ![16 * r, 0] S16x128.size inbd) x a).trans ?_
    fin_cases a
    · show 16 * r + 1 * ((y 0).val % 16) = (y 0).val; omega
    · show 0 + 1 * (y 1).val = (y 1).val; omega
  conv_lhs => rw [← hx]
  rw [View.write_emb_of_mem _ _ (Finset.mem_univ _)]
  show (arg2.slice (Rect.unit (s := S16384x128) ![16 * k, 0] S16x128.size inbs) (fun _ => rfl)).view.read (Elt F) fs x = _
  rw [View.read_apply, View.read_apply]
  have he : (arg2.slice (Rect.unit (s := S16384x128) ![16 * k, 0] S16x128.size inbs) (fun _ => rfl)).view.emb x = arg2.view.emb (tokIx k hk y) := by
    show arg2.view.emb ((Rect.unit (s := S16384x128) ![16 * k, 0] S16x128.size inbs).emb x) = _
    congr 1
    funext a; apply Fin.ext
    refine (Rect.emb_apply (r := Rect.unit (s := S16384x128) ![16 * k, 0] S16x128.size inbs) x a).trans ?_
    fin_cases a
    · show 16 * k + 1 * ((y 0).val % 16) = 16 * k + (y 0).val % 16; omega
    · show 0 + 1 * (y 1).val = (y 1).val; omega
  exact congrArg (fun z => _root_.cast _ (fs z)) he

/-- The result is, slot by slot, the window's tokens. -/
def Lands : Prop := ∀ (j : Fin 4096) (y : S2359296x128.Idx), (y 0).val / 16 = slot c arg1 fw j →
  X y = arg2.view.read (Elt F) fs (tokIx (j.val / 4) (by omega) y)

/-- One copy started: its slot and a share of its token's rows go into the batch. -/
theorem issue (hX : Lands c arg1 arg2 fw fs X) {α : Type} {Q : α → sProp 𝕄} (f0 : S2359296x128.Idx → Elt F .f32) (j k : ℕ) (hj : j < 4096) (hk : k = j / 4) (q : PosShare TreeShare)
    (hq : q = Transfers.dealShare fullShare 4 (j % 4))
    (offd offs : Fin 2 → ℕ) (inbd : ∀ a, offd a + S16x128.size a ≤ S2359296x128.size a)
    (inbs : ∀ a, offs a + S16x128.size a ≤ S16384x128.size a) (hd : offd = ![16 * slot c arg1 fw ⟨j, hj⟩, 0]) (hs : offs = ![16 * k, 0])
    {K : PUnit → Prog (TpuEff nD τ sig (Elt F) Λ₀ .tc) α} {h₁ h₂ h₃} :
    iprop(tokPt c arg2 fs k q ∗ slotPt c (slot c arg1 fw ⟨j, hj⟩) f0 ∗ batch c arg1 arg2 fw fs X j 0)
      ⊢ iprop((batch c arg1 arg2 fw fs X (j + 1) 0 -∗ wp frame (wpE (defs₀ (F := F)) Variants.none (c : Thread nD τ) none) Set.univ (K ⟨⟩) Q)
        -∗ wp frame (wpE (defs₀ (F := F)) Variants.none (c : Thread nD τ) none) Set.univ
          (.op (.enqueueDma (arg2.slice (Rect.unit (s := S16384x128) offs S16x128.size inbs) (fun _ => rfl))
            (.here ((Memref.whole main_v1 : Memref sig .tc .hbm S2359296x128 .f32).slice (Rect.unit (s := S2359296x128) offd S16x128.size inbd) (fun _ => rfl)))
            (.dma cc0_scratch0.sem) h₁ h₂ h₃) K) Q) := by
  have hset := src_set arg2 k offs inbs hs
  have hl := fun y hy => landed c arg2 fs (slot c arg1 fw ⟨j, hj⟩) k (by omega) offd offs inbd inbs hd hs f0 y hy
  unfold tokPt
  rw [← hset]
  have hN : ((Memref.whole main_v1 : Memref sig .tc .hbm S2359296x128 .f32).slice (Rect.unit (s := S2359296x128) offd S16x128.size inbd) (fun _ => rfl)).view.amount
      (.dma cc0_scratch0.sem) = sig.dmaCredit .tc (Kind.tc.table .hbm) main_v1.idx S16x128 .f32 := rfl
  have hle := (dst_set _ offd inbd hd).le
  refine Transfers.wp_dmaBatch (countersEmb (U := Pipeline.UC sig nD τ)) Variants.none (c : Thread nD τ) none
    (src := arg2.slice (Rect.unit (s := S16384x128) offs S16x128.size inbs) (fun _ => rfl))
    (dst := (Memref.whole main_v1 : Memref sig .tc .hbm S2359296x128 .f32).slice (Rect.unit (s := S2359296x128) offd S16x128.size inbd) (fun _ => rfl))
    (via := ReadAs.same) (D := deliv c arg1 arg2 fw fs X) (j := j) (u := 0) (fs := fs) (fd := f0) (q := q) (k := K) (Q := Q)
    (sm := .dma cc0_scratch0.sem) () _ hN hle hj (Nat.zero_le _) ?_
  unfold deliv slotPt tokPt
  subst hk hq
  rw [hset]
  refine sep_mono ?_ .rfl
  refine Entails.of_eq (pointsTo_congr fun y hy => ?_)
  rw [hl y hy]
  exact (hX ⟨j, hj⟩ y (Finset.mem_filter.mp hy).2).symm

/-- Before trip `k`: `4 k` transfers started; the later slots and tokens still in hand; the table. -/
def inv (f0 : S2359296x128.Idx → Elt F .f32) (k : ℕ) (_ : Unit) : sProp 𝕄 :=
  iprop(batch c arg1 arg2 fw fs X (4 * k) 0
    ∗ bigSep (Ring.rangeSet 4096 (4 * k) 4096) (fun j => slotPt c (slot c arg1 fw j) f0)
    ∗ bigSep (Ring.rangeSet 1024 k 1024) (fun k => tokPt c arg2 fs k.val fullShare)
    ∗ (arg1.view.loc (c : Thread nD τ) ↦[arg1.view.set]{fullShare} fw))

theorem trips_eq : k0_t1_loop.trips = 1024 := by decide +kernel

/-- The word a scalar load at `![0, 0, j]` reads. -/
theorem word_read (j : ℕ) (hj : j < 4096) (off : Fin 3 → ℕ) (inb : ∀ a, off a + S1x1x1.size a ≤ S1x1x4096.size a) (h : off = ![0, 0, j])
    (x : (Rect.unit (s := S1x1x4096) off S1x1x1.size inb).shape.Idx) :
    arg1.view.readAt (Elt F) (Rect.unit (s := S1x1x4096) off S1x1x1.size inb).toLoadRect fw x = arg1.view.read (Elt F) fw (wordIx j hj) := by
  subst h
  rw [View.readAt_apply]
  congr 1
  funext a; apply Fin.ext
  refine (Rect.emb_apply (r := Rect.unit (s := S1x1x4096) ![0, 0, j] S1x1x1.size inb) x a).trans ?_
  have hx : (x a).val < 1 := by
    have := (x a).isLt
    fin_cases a <;> exact this
  have hx0 : (x a).val = 0 := by omega
  show (![0, 0, j] : Fin 3 → ℕ) a + 1 * (x a).val = (![0, 0, j] : Fin 3 → ℕ) a
  omega

/-- The induction variable is the trip's number. -/
theorem iv_nat (k : ℕ) (hk : k < 1024) : (Scf.iv (0#32) (1#32) k).toNat = k := by
  simp [Scf.iv, BitVec.toNat_add, BitVec.toNat_mul, BitVec.toNat_ofNat]; omega

theorem off_word (k : ℕ) (hk : k < 1024) (d : ℕ) (hd : d < 4) :
    (Scalar.indexCast (Scalar.addi (Scalar.muli (Scf.iv (0#32) (1#32) k) 4#32) (BitVec.ofNat 32 d)) : Index).toNat = 4 * k + d := by
  have := iv_nat k hk
  simp only [Scalar.indexCast, Scalar.addi, Scalar.muli, IntOp.addi, IntOp.muli, BitVec.toNat_add, BitVec.toNat_mul, BitVec.toNat_ofNat, this]
  omega

theorem off_tok (k : ℕ) (hk : k < 1024) : (Scalar.muli (Scf.iv (0#32) (1#32) k) 16#32).toNat = 16 * k := by
  have := iv_nat k hk
  simp only [Scalar.muli, IntOp.muli, BitVec.toNat_mul, BitVec.toNat_ofNat, this]
  omega

theorem off_slot (w : BitVec 32) (h : w.toNat < 147456) : (Scalar.muli w 16#32).toNat = 16 * w.toNat := by
  simp only [Scalar.muli, IntOp.muli, BitVec.toNat_mul, BitVec.toNat_ofNat]
  omega

/-- A slot's sixteen rows are inside the result: what the kernel's bounds facts ask of a word of the table. -/
theorem chk (w : BitVec 32) (h : w.toNat < 147456) : k0_chk1 w := by
  have e := off_slot w h
  refine ⟨?_, fun a => ?_⟩
  · show 16 ∣ (Scalar.muli w 16#32).toNat
    omega
  · fin_cases a
    · show (Scalar.muli w 16#32).toNat + 16 ≤ 2359296
      omega
    · show 0 + 128 ≤ 128
      omega

/-- A token's rows are read by four copies, each at its own share. -/
theorem tok_split (k : ℕ) : (tokPt c arg2 fs k fullShare : sProp 𝕄)
    = iprop(tokPt c arg2 fs k (Transfers.dealShare fullShare 4 0) ∗ tokPt c arg2 fs k (Transfers.dealShare fullShare 4 1)
      ∗ tokPt c arg2 fs k (Transfers.dealShare fullShare 4 2) ∗ tokPt c arg2 fs k (Transfers.dealShare fullShare 4 3)) := by
  unfold tokPt
  rw [Transfers.pointsTo_deal (Finset.univ : Finset (Fin 4)) Finset.univ_nonempty fullShare,
    BI.bigSep_univ_eq_bigSepL [0, 1, 2, 3] (by decide) (by decide)]
  rfl

/-- One trip: the four words read, each a slot inside the result, and the four copies started. -/
theorem step (i : grid0.Coords) (hX : Lands c arg1 arg2 fw fs X) (f0 : S2359296x128.Idx → Elt F .f32)
    (hlt : ∀ j, slot c arg1 fw j < 147456) (k : Fin k0_t1_loop.trips) (acc : Unit) :
    inv c arg1 arg2 fw fs X f0 k acc ⊢ wp frame (wpE (defs₀ (F := F)) Variants.none (c : Thread nD τ) none) Set.univ
      (k0_t1_body i arg1 harg1 arg2 harg2 (Memref.whole main_v1) (Memref.isWhole_whole _) cc0_scratch0 k acc)
      (inv c arg1 arg2 fw fs X f0 (k.val + 1)) := by
  have hk : k.val < 1024 := trips_eq ▸ k.isLt
  unfold inv
  rw [Ring.bigSep_rangeSet_head (lo := 4 * k.val) (by omega) (by omega),
    Ring.bigSep_rangeSet_head (lo := 4 * k.val + 1) (by omega) (by omega),
    Ring.bigSep_rangeSet_head (lo := 4 * k.val + 1 + 1) (by omega) (by omega),
    Ring.bigSep_rangeSet_head (lo := 4 * k.val + 1 + 1 + 1) (by omega) (by omega),
    Ring.bigSep_rangeSet_head (lo := k.val) (by omega) (by omega), tok_split]
  iintro ⟨HB, ⟨H0, H1, H2, H3, Hs⟩, ⟨⟨Ht0, Ht1, Ht2, Ht3⟩, Hts⟩, Hw⟩
  have hd : ∀ (j : ℕ) (hj : j < 4096), BitVec.toNat (arg1.view.read (Elt F) fw (wordIx j hj)) = slot c arg1 fw ⟨j, hj⟩ := fun _ _ => rfl
  have ho1 : k0_off1 k = ![0, 0, 4 * k.val] := by
    show ![0, 0, _] = _
    rw [off_word k.val hk 0 (by omega)]; rfl
  have ho4 : k0_off4 k = ![0, 0, 4 * k.val + 1] := by
    show ![0, 0, _] = _
    rw [off_word k.val hk 1 (by omega)]
  have ho7 : k0_off7 k = ![0, 0, 4 * k.val + 1 + 1] := by
    show ![0, 0, _] = _
    rw [off_word k.val hk 2 (by omega)]
  have ho10 : k0_off10 k = ![0, 0, 4 * k.val + 1 + 1 + 1] := by
    show ![0, 0, _] = _
    rw [off_word k.val hk 3 (by omega)]
  have ht3 : k0_off3 k = ![16 * k.val, 0] := by
    show ![_, 0] = _
    rw [off_tok k.val hk]
  have hw : ∀ (j : ℕ) (hj : j < 4096), (arg1.view.read (Elt F) fw (wordIx j hj)).toNat < 147456 := fun j hj => hlt ⟨j, hj⟩
  have hofd : ∀ (j : ℕ) (hj : j < 4096), k0_off2 (arg1.view.read (Elt F) fw (wordIx j hj)) = ![16 * slot c arg1 fw ⟨j, hj⟩, 0] := fun j hj => by
    show ![(Scalar.muli _ 16#32).toNat, 0] = _
    rw [off_slot _ (hw j hj)]; rfl
  unfold k0_t1_body
  rw [k0_part1_eq_skeleton]
  unfold k0_part1_skel
  sl_exec
  have w0 : step.sl.r c arg1 fw k = arg1.view.read (Elt F) fw (wordIx (4 * k.val) (by omega)) := word_read c arg1 fw _ _ _ _ ho1 _
  have c0 : k0_chk1 (step.sl.r c arg1 fw k) := by rw [w0]; exact chk _ (hw _ _)
  sl_exec
  iapply (issue c arg1 arg2 fw fs X hX f0 (4 * k.val) k.val (by omega) (by omega) (Transfers.dealShare fullShare 4 0)
    (by rw [show 4 * k.val % 4 = 0 by omega]) _ _ _ _ (by rw [w0]; exact hofd _ _) ht3) $$ [Ht0 H0 HB]
  · isplitl [Ht0]; · iexact Ht0
    isplitl [H0]; · iexact H0
    iexact HB
  iintro HB
  sl_exec
  have w1 : step.sl.r_1 c arg1 fw k = arg1.view.read (Elt F) fw (wordIx (4 * k.val + 1) (by omega)) := word_read c arg1 fw _ _ _ _ ho4 _
  have c1 : k0_chk2 (step.sl.r_1 c arg1 fw k) := by rw [w1]; exact chk _ (hw _ _)
  sl_exec
  iapply (issue c arg1 arg2 fw fs X hX f0 (4 * k.val + 1) k.val (by omega) (by omega) (Transfers.dealShare fullShare 4 1)
    (by rw [show (4 * k.val + 1) % 4 = 1 by omega]) _ _ _ _ (by rw [w1]; exact hofd _ _) ht3) $$ [Ht1 H1 HB]
  · isplitl [Ht1]; · iexact Ht1
    isplitl [H1]; · iexact H1
    iexact HB
  iintro HB
  sl_exec
  have w2 : step.sl.r_2 c arg1 fw k = arg1.view.read (Elt F) fw (wordIx (4 * k.val + 1 + 1) (by omega)) := word_read c arg1 fw _ _ _ _ ho7 _
  have c2 : k0_chk3 (step.sl.r_2 c arg1 fw k) := by rw [w2]; exact chk _ (hw _ _)
  sl_exec
  iapply (issue c arg1 arg2 fw fs X hX f0 (4 * k.val + 1 + 1) k.val (by omega) (by omega) (Transfers.dealShare fullShare 4 2)
    (by rw [show (4 * k.val + 1 + 1) % 4 = 2 by omega]) _ _ _ _ (by rw [w2]; exact hofd _ _) ht3) $$ [Ht2 H2 HB]
  · isplitl [Ht2]; · iexact Ht2
    isplitl [H2]; · iexact H2
    iexact HB
  iintro HB
  sl_exec
  have w3 : step.sl.r_3 c arg1 fw k = arg1.view.read (Elt F) fw (wordIx (4 * k.val + 1 + 1 + 1) (by omega)) := word_read c arg1 fw _ _ _ _ ho10 _
  have c3 : k0_chk4 (step.sl.r_3 c arg1 fw k) := by rw [w3]; exact chk _ (hw _ _)
  sl_exec
  iapply (issue c arg1 arg2 fw fs X hX f0 (4 * k.val + 1 + 1 + 1) k.val (by omega) (by omega) (Transfers.dealShare fullShare 4 3)
    (by rw [show (4 * k.val + 1 + 1 + 1) % 4 = 3 by omega]) _ _ _ _ (by rw [w3]; exact hofd _ _) ht3) $$ [Ht3 H3 HB]
  · isplitl [Ht3]; · iexact Ht3
    isplitl [H3]; · iexact H3
    iexact HB
  iintro HB
  sl_exec
  sl_step
  rw [show 4 * (k.val + 1) = 4 * k.val + 1 + 1 + 1 + 1 by omega]
  isplitl [HB]; · iexact HB
  isplitl [Hs]; · iexact Hs
  isplitl [Hts]; · iexact Hts
  iexact Hw

/-- The step's tokens, each read by four copies, are the window's rows again. -/
theorem toks_back : (bigSep Finset.univ (fun j : Fin 4096 => tokPt c arg2 fs (j.val / 4) (Transfers.dealShare fullShare 4 (j.val % 4))) : sProp 𝕄)
    = bigSep Finset.univ (fun k : Fin 1024 => tokPt c arg2 fs k.val fullShare) := by
  rw [BI.bigSep_univ_equiv (finProdFinEquiv : Fin 1024 × Fin 4 ≃ Fin 4096), BI.bigSep_univ_prod]
  refine BI.bigSep_congr fun k _ => ?_
  rw [tok_split, BI.bigSep_univ_eq_bigSepL [0, 1, 2, 3] (by decide) (by decide)]
  have e : ∀ (i : Fin 4), (tokPt c arg2 fs ((finProdFinEquiv (k, i) : Fin (1024 * 4)).val / 4) (Transfers.dealShare fullShare 4 ((finProdFinEquiv (k, i) : Fin (1024 * 4)).val % 4)) : sProp 𝕄)
      = tokPt c arg2 fs k.val (Transfers.dealShare fullShare 4 i.val) := fun i => by
    have hi := i.isLt
    rw [finProdFinEquiv_apply_val]
    dsimp only
    rw [show (i.val + 4 * k.val) / 4 = k.val by omega, show (i.val + 4 * k.val) % 4 = i.val by omega]
  have e' : ∀ (a b c' d : sProp 𝕄), bigSepL [0, 1, 2, 3] (![a, b, c', d] : Fin 4 → sProp 𝕄) = iprop(a ∗ b ∗ c' ∗ d) := fun _ _ _ _ => rfl
  rw [← e']
  congr 1
  funext i
  refine (e i).trans ?_
  fin_cases i <;> rfl

/-- The window held whole is its tokens' rows. -/
theorem toks_split : (arg2.view.loc (c : Thread nD τ) ↦[arg2.view.set]{fullShare} fs : sProp 𝕄)
    = bigSep Finset.univ (fun k : Fin 1024 => tokPt c arg2 fs k.val fullShare) := by
  have hset : arg2.view.set = Finset.univ.biUnion (fun k : Fin 1024 => (tokRows k.val).map arg2.view.emb) := by
    ext z
    simp only [View.set, Finset.mem_biUnion, Finset.mem_map, Finset.mem_univ, true_and, tokRows, Finset.mem_filter]
    constructor
    · rintro ⟨y, rfl⟩
      have h0 : (y 0).val < 16384 := (y 0).isLt
      exact ⟨⟨(y 0).val / 16, by omega⟩, y, rfl, rfl⟩
    · rintro ⟨k, y, -, rfl⟩
      exact ⟨y, rfl⟩
  unfold tokPt
  rw [hset]
  exact pointsTo_biUnion (ℓ := arg2.view.loc (c : Thread nD τ)) (q := fullShare) (f := fs) Finset.univ (fun k : Fin 1024 => (tokRows k.val).map arg2.view.emb) (fun b _ b' _ h => by
    rw [Finset.disjoint_map, Finset.disjoint_left]
    intro y hy hy'
    exact h (Fin.ext ((Finset.mem_filter.mp hy).2.symm.trans (Finset.mem_filter.mp hy').2)))

/-- A wait of the step takes back what 1 024 of its copies add. -/
theorem wait_amount (inb) : (((Memref.whole main_v1 : Memref sig .tc .hbm S2359296x128 .f32).slice (Rect.unit (s := S2359296x128) ![0, 0] S16384x128.size inb) (fun _ => rfl)).view.dmaCredit)
    = 1024 * sig.dmaCredit .tc (Kind.tc.table .hbm) main_v1.idx S16x128 .f32 := by
  show sig.dmaCredit .tc (Kind.tc.table .hbm) main_v1.idx S16384x128 .f32 = 1024 * sig.dmaCredit .tc (Kind.tc.table .hbm) main_v1.idx S16x128 .f32
  decide +kernel

/-- THE BODY: from the step's slots at `f0`, the step's words and tokens and the semaphore at zero, the body runs to the
    same with every slot at the final contents. -/
theorem run (i : grid0.Coords) (hX : Lands c arg1 arg2 fw fs X) (f0 : S2359296x128.Idx → Elt F .f32)
    (hlt : ∀ j, slot c arg1 fw j < 147456) (W : Waits sig Unit) (K : PUnit → sProp 𝕄) :
    iprop((arg1.view.loc (c : Thread nD τ) ↦[arg1.view.set]{fullShare} fw) ∗ (arg2.view.loc (c : Thread nD τ) ↦[arg2.view.set]{fullShare} fs)
        ∗ semVal ((c : Thread nD τ), SemLoc.dma cc0_scratch0.sem) 0
        ∗ bigSep Finset.univ (fun j => slotPt c (slot c arg1 fw j) f0) ∗ owes (c : Thread nD τ) 0 W
        ∗ (iprop((arg1.view.loc (c : Thread nD τ) ↦[arg1.view.set]{fullShare} fw) ∗ (arg2.view.loc (c : Thread nD τ) ↦[arg2.view.set]{fullShare} fs)
            ∗ semVal ((c : Thread nD τ), SemLoc.dma cc0_scratch0.sem) 0
            ∗ bigSep Finset.univ (fun j => slotPt c (slot c arg1 fw j) X) ∗ (∃ W', owes (c : Thread nD τ) 0 W')) -∗ K ⟨⟩))
      ⊢ wp frame (wpE (defs₀ (F := F)) Variants.none (c : Thread nD τ) none) Set.univ
          (cc0_moe_dispatch i arg1 harg1 arg2 harg2 (Memref.whole main_v1) (Memref.isWhole_whole _) cc0_scratch0) K := by
  rw [toks_split]
  iintro ⟨Hw, Ht, Hc, Hs, HO, HK⟩
  imod (Transfers.batch_alloc' (Lvl := ℕ) (countersEmb (U := Pipeline.UC sig nD τ)) (c : Thread nD τ) ()
    (sig.dmaCredit .tc (Kind.tc.table .hbm) main_v1.idx S16x128 .f32) (deliv c arg1 arg2 fw fs X) (sm := .dma cc0_scratch0.sem) (E := Set.univ)) $$ Hc with HB
  rw [cc0_moe_dispatch_eq_skeleton]
  unfold cc0_moe_dispatch_skel
  sl_for (inv c arg1 arg2 fw fs X f0) $$ [HB Hs Ht Hw]
  · intro k acc; exact step c arg1 harg1 arg2 harg2 fw fs X i hX f0 hlt k acc
  · unfold inv
    rw [Nat.mul_zero, Ring.rangeSet_univ, Ring.rangeSet_univ]
    isplitl [HB]; · iexact HB
    isplitl [Hs]; · iexact Hs
    isplitl [Ht]; · iexact Ht
    iexact Hw
  iintro %acc HL
  ihave HL' := (show inv c arg1 arg2 fw fs X f0 k0_t1_loop.trips acc
      ⊢ iprop(batch c arg1 arg2 fw fs X 4096 0 ∗ (arg1.view.loc (c : Thread nD τ) ↦[arg1.view.set]{fullShare} fw)) from by
    rw [trips_eq]; unfold inv
    rw [Ring.bigSep_rangeSet_empty le_rfl, Ring.bigSep_rangeSet_empty le_rfl]
    iintro ⟨HB, -, -, Hw⟩
    isplitl [HB] <;> iassumption) $$ HL
  icases HL' with ⟨HB, Hw⟩
  sl_exec
  iapply (Transfers.wp_waitBatchMul (countersEmb (U := Pipeline.UC sig nD τ)) Variants.none (c : Thread nD τ) none
    (sem := cc0_scratch0.sem) () 1024 (wait_amount _) (D := deliv c arg1 arg2 fw fs X) (j := 4096) (u := 0) (by omega)) $$ [HB HO]
  · isplitl [HB] <;> iassumption
  iintro ⟨HB, HO⟩
  sl_exec
  iapply (Transfers.wp_waitBatchMul (countersEmb (U := Pipeline.UC sig nD τ)) Variants.none (c : Thread nD τ) none
    (sem := cc0_scratch0.sem) () 1024 (wait_amount _) (D := deliv c arg1 arg2 fw fs X) (j := 4096) (u := 0 + 1024 * sig.dmaCredit .tc (Kind.tc.table .hbm) main_v1.idx S16x128 .f32) (by omega)) $$ [HB HO]
  · isplitl [HB] <;> iassumption
  iintro ⟨HB, HO⟩
  sl_exec
  iapply (Transfers.wp_waitBatchMul (countersEmb (U := Pipeline.UC sig nD τ)) Variants.none (c : Thread nD τ) none
    (sem := cc0_scratch0.sem) () 1024 (wait_amount _) (D := deliv c arg1 arg2 fw fs X) (j := 4096) (u := 0 + 1024 * sig.dmaCredit .tc (Kind.tc.table .hbm) main_v1.idx S16x128 .f32 + 1024 * sig.dmaCredit .tc (Kind.tc.table .hbm) main_v1.idx S16x128 .f32) (by omega)) $$ [HB HO]
  · isplitl [HB] <;> iassumption
  iintro ⟨HB, HO⟩
  dsimp only [Prog.bind_lift]
  iapply (Transfers.wp_waitBatchAll (countersEmb (U := Pipeline.UC sig nD τ)) Variants.none (c : Thread nD τ) none
    (sem := cc0_scratch0.sem) (N := sig.dmaCredit .tc (Kind.tc.table .hbm) main_v1.idx S16x128 .f32) () (wait_amount _) (by decide +kernel) (D := deliv c arg1 arg2 fw fs X) (u := 0 + 1024 * sig.dmaCredit .tc (Kind.tc.table .hbm) main_v1.idx S16x128 .f32 + 1024 * sig.dmaCredit .tc (Kind.tc.table .hbm) main_v1.idx S16x128 .f32 + 1024 * sig.dmaCredit .tc (Kind.tc.table .hbm) main_v1.idx S16x128 .f32) (by omega)) $$ [HB HO]
  · isplitl [HB] <;> iassumption
  iintro ⟨HD, Hc, HO⟩
  sl_exec
  sl_step
  ihave HD' := (show bigSep Finset.univ (deliv c arg1 arg2 fw fs X)
      ⊢ iprop(bigSep Finset.univ (fun j => slotPt c (slot c arg1 fw j) X) ∗ bigSep Finset.univ (fun k : Fin 1024 => tokPt c arg2 fs k.val fullShare)) from by
    rw [← toks_back]
    exact Entails.of_eq (BI.bigSep_sep _ _ _)) $$ HD
  icases HD' with ⟨Hs, Ht⟩
  iapply HK
  isplitl [Hw]; · iexact Hw
  isplitl [Ht]; · iexact Ht
  isplitl [Hc]; · iexact Hc
  isplitl [Hs]; · iexact Hs
  iexists _; iexact HO

end Step

end Cert.Dispatch

end
-- ==== Proof.DispatchFacts.lean ====
/-
  The table of slots as a map from positions to slots: by the precondition (the table sorts to 0, 1, 2, …) it is one to
  one and onto, and the result the dispatch is to reach is defined from its inverse.
-/
module

public import proofs.«01_k».proof.Proof.DispatchBody
public import Idealize.ShloMosaic.Lib.SortFacts

@[expose] public section

noncomputable section

namespace Cert.Dispatch

open Cert.KernelIdeal Cert.KernelIdeal.Gen
open Idealize.ShloMosaic

variable {F : FTy → Type} [FloatOps F]

/-- The slot of position `i`: the table's word there, as a number. -/
def slotAt (idx : IVec S147456 32) (i : Fin 147456) : ℕ := (idx (Shape.Idx.ofFin i)).toNat

/-- The table's words are the numbers below its length, each once. -/
structure Permutes (idx : IVec S147456 32) : Prop where
  inj : Function.Injective (slotAt idx)
  lt : ∀ i, slotAt idx i < 147456

/-- A table that sorts to 0, 1, 2, … is such a table. -/
theorem permutes_of_sort (cmp : BitVec 32 → BitVec 32 → BitVec 1) (idx : IVec S147456 32)
    (h : ∀ j, Host.sort S147456 0 cmp idx j = iotaInDim S147456 32 0 j) : Permutes idx where
  inj := by
    intro i j hij
    have := injective_toNat_of_sort_eq_iota (n := 147456) (w := 32) (by decide) cmp idx h hij
    exact congrFun this 0
  lt i := by
    obtain ⟨k, hk⟩ := sortedFrom_surjective (fun k k' => cmp (idx (Shape.Idx.ofFin k)) (idx (Shape.Idx.ofFin k')) == 1#1) i
    have e := h (Shape.Idx.ofFin k)
    rw [Host.sort_rank1] at e
    simp only [iotaInDim] at e
    unfold slotAt
    rw [← hk]
    refine lt_of_eq_of_lt (congrArg BitVec.toNat e) ?_
    rw [BitVec.toNat_ofNat]
    exact lt_of_le_of_lt (Nat.mod_le _ _) k.isLt

/-- Every slot is some position's. -/
theorem Permutes.surj {idx : IVec S147456 32} (h : Permutes idx) {r : ℕ} (hr : r < 147456) : ∃ i, slotAt idx i = r := by
  have hf : Function.Injective (fun i : Fin 147456 => (⟨slotAt idx i, h.lt i⟩ : Fin 147456)) :=
    fun a b hab => h.inj (Fin.mk.inj_iff.mp hab)
  obtain ⟨i, hi⟩ := (Finite.injective_iff_surjective.mp hf) ⟨r, hr⟩
  exact ⟨i, congrArg Fin.val hi⟩

/-- The position that holds slot `r`. -/
def posOf (idx : IVec S147456 32) (r : ℕ) : Fin 147456 :=
  haveI : Nonempty (Fin 147456) := ⟨⟨0, by omega⟩⟩
  Function.invFun (slotAt idx) r

theorem Permutes.posOf_slotAt {idx : IVec S147456 32} (h : Permutes idx) (i : Fin 147456) : posOf idx (slotAt idx i) = i :=
  haveI : Nonempty (Fin 147456) := ⟨⟨0, by omega⟩⟩
  Function.leftInverse_invFun h.inj i

/-- The row of the tokens that the result's row `y 0` is a copy of: row `(y 0) % 16` of the token whose position holds
    slot `(y 0) / 16`, four positions to a token. -/
def srcIx (idx : IVec S147456 32) (y : S2359296x128.Idx) : S589824x128.Idx :=
  fun a => ⟨(![16 * ((posOf idx ((y 0).val / 16)).val / 4) + (y 0).val % 16, (y 1).val] : Fin 2 → ℕ) a, by
    have h1 := (posOf idx ((y 0).val / 16)).isLt
    have h2 : (y 1).val < 128 := (y 1).isLt
    fin_cases a <;> simp <;> omega⟩

/-- The dispatched array: each slot's sixteen rows are its token's. -/
def moved {α : Type} (idx : IVec S147456 32) (x : S589824x128.Idx → α) : S2359296x128.Idx → α := fun y => x (srcIx idx y)

/-- Two positions' slots lie on different rows. -/
theorem Permutes.rows_disjoint {idx : IVec S147456 32} (h : Permutes idx) (i j : Fin 147456) (hij : i ≠ j) :
    Disjoint (rowsOf (slotAt idx i)) (rowsOf (slotAt idx j)) := by
  rw [Finset.disjoint_left]
  intro y hy hy'
  simp only [rowsOf, Finset.mem_filter, Finset.mem_univ, true_and] at hy hy'
  exact hij (h.inj (hy.symm.trans hy'))

/-- The slots' rows are all the rows. -/
theorem Permutes.rows_cover {idx : IVec S147456 32} (h : Permutes idx) :
    (Finset.univ.biUnion fun i : Fin 147456 => rowsOf (slotAt idx i)) = Finset.univ := by
  ext y
  simp only [rowsOf, Finset.mem_biUnion, Finset.mem_filter, Finset.mem_univ, true_and, iff_true]
  have hy : (y 0).val < 2359296 := (y 0).isLt
  obtain ⟨i, hi⟩ := h.surj (r := (y 0).val / 16) (by omega)
  exact ⟨i, hi.symm⟩

end Cert.Dispatch

end
-- ==== Proof.DispatchLaunch.lean ====
/-
  The dispatch run whole: 36 points, each moving 4 096 of the 147 456 slots. Between two points the result is held slot
  by slot: those of the positions done at the final contents, the rest as they were found.
-/
module

public import proofs.«01_k».proof.Proof.DispatchFacts
public import proofs.«01_k».proof.Proof.Gen.KernelIdeal.Points
public import proofs.«01_k».proof.Proof.Gen.KernelIdeal.Frame
public import Idealize.ShloMosaic.Lib.Pipeline.FrameBody

@[expose] public section

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-- The table of slots as launched. -/
abbrev tab (c : Dev nD) : IVec S147456 32 := m ((c : Thread nD τ).loc main_arg1)

/-- The dispatched array of the launched arguments. -/
abbrev result (c : Dev nD) : S2359296x128.Idx → Elt F .f32 :=
  moved (tab m c) (m ((c : Thread nD τ).loc main_arg0) : S589824x128.Idx → Elt F .f32)

/-! ## What the windows hold -/

theorem index0 : ∀ t : Fin grid0.N, win0_0.index t 0 = t.val ∧ win0_0.index t 1 = 0 ∧ win0_0.index t 2 = 0 := by decide
theorem index1 : ∀ t : Fin grid0.N, win0_1.index t 0 = t.val ∧ win0_1.index t 1 = 0 := by decide

/-- The table's block at point `t`: words `4096 t` on. -/
theorem word_eq (c : Dev nD) (t : Fin cfg0.N) (j : ℕ) (hj : j < 4096) (h : 4096 * t.val + j < 147456) :
    BitVec.toNat (iblk m c 0 t (wordIx j hj) : BitVec 32) = slotAt (tab m c) ⟨4096 * t.val + j, h⟩ := by
  obtain ⟨h0, h1, h2⟩ := index0 t
  unfold iblk slotAt
  rw [View.read_apply]
  have e : V m c main_v0 = shapeCast S36x1x4096 (tab m c) shapeCasts_S147456_S36x1x4096 := by
    show StableHlo.after hostOps0 _ (Proc.devRef .tc main_v0) = _
    after_results
    rfl
  show BitVec.toNat (V m c main_v0 _) = _
  rw [e]
  unfold shapeCast
  congr 2
  funext a
  apply Fin.ext
  have key : ∀ z : S36x1x4096.Idx, (z 0).val = t.val → (z 1).val = 0 → (z 2).val = j →
      ((Shape.reshapeEquiv shapeCasts_S147456_S36x1x4096 z) 0).val = 4096 * t.val + j := by
    intro z e0 e1 e2
    rw [← Shape.rowMajor_val_one, Shape.rowMajor_reshapeEquiv, Shape.rowMajor_val_three, e0, e1, e2]
    show (t.val * 1 + 0) * 4096 + j = _
    omega
  match a with
  | ⟨0, _⟩ =>
    refine key _ ?_ ?_ ?_
    · show win0_0.index t 0 * 1 + 1 * 0 = t.val; omega
    · show win0_0.index t 1 * 1 + 1 * 0 = 0; omega
    · show win0_0.index t 2 * 4096 + 1 * j = j; omega

/-- The tokens' block at point `t`: rows `16384 t` on. -/
theorem row_eq (c : Dev nD) (t : Fin cfg0.N) (x : S16384x128.Idx) (z : S589824x128.Idx)
    (h0 : (z 0).val = 16384 * t.val + (x 0).val) (h1 : (z 1).val = (x 1).val) :
    (iblk m c 1 t x : Elt F .f32) = (m ((c : Thread nD τ).loc main_arg0) : S589824x128.Idx → Elt F .f32) z := by
  obtain ⟨i0, i1⟩ := index1 t
  unfold iblk
  rw [View.read_apply]
  show V m c main_arg0 _ = _
  rw [V_main_arg0]
  congr 1
  funext a
  apply Fin.ext
  match a with
  | ⟨0, _⟩ => show win0_1.index t 0 * 16384 + 1 * (x 0).val = (z 0).val; omega
  | ⟨1, _⟩ => show win0_1.index t 1 * 128 + 1 * (x 1).val = (z 1).val; omega

/-! ## The proof data -/

/-- The result between two points, `n` of the positions done. -/
def held (c : Dev nD) (n : ℕ) : sProp 𝕄 :=
  iprop(bigSep (Ring.rangeSet 147456 0 n) (fun i => slotPt c (slotAt (tab m c) i) (result m c))
    ∗ bigSep (Ring.rangeSet 147456 n 147456) (fun i => slotPt c (slotAt (tab m c) i) (m ((c : Thread nD τ).loc main_v1) : S2359296x128.Idx → Elt F .f32)))

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := iprop(held m c (4096 * t.val) ∗ semVal ((c : Thread nD τ), SemLoc.dma cc0_scratch0.sem) 0 ∗ ∃ r, prngReg c r)
  q _ := fullShare
  owed _ := 0

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; rfl) t d).trans rfl

/-- The slots of one point, taken out of those still to be done, at any contents. -/
theorem slots_eq (c : Dev nD) (t : Fin cfg0.N) (g : S2359296x128.Idx → Elt F .f32)
    (arg1 : Memref sig .tc .smem S1x1x4096 .i32) (fw : Buf (Elt F) (arg1.view.loc (c : Thread nD τ)))
    (hfw : arg1.view.read (Elt F) fw = iblk m c 0 t) :
    (bigSep (Ring.rangeSet 147456 (4096 * t.val) (4096 * (t.val + 1))) (fun i => slotPt c (slotAt (tab m c) i) g) : sProp 𝕄)
      = bigSep Finset.univ (fun j : Fin 4096 => slotPt c (slot c arg1 fw j) g) := by
  have ht : t.val < 36 := lt_of_lt_of_eq t.isLt N_0
  rw [Ring.bigSep_rangeSet_eq_range (by omega) (fun k => if h : 4096 * t.val + k < 147456 then slotPt c (slotAt (tab m c) ⟨4096 * t.val + k, h⟩) g else BI.emp) (fun k h => dif_pos h)]
  rw [show 4096 * (t.val + 1) - 4096 * t.val = 4096 by omega]
  refine (Ring.bigSep_fin_eq_range 4096 _ _ fun k hk => ?_).symm
  have h : 4096 * t.val + k < 147456 := by omega
  rw [dif_pos h]
  unfold slot
  rw [hfw, word_eq m c t k hk h]

variable (hp : ∀ c, Permutes (tab m c))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem slot_of (c : Dev nD) (t : Fin cfg0.N) (arg1 : Memref sig .tc .smem S1x1x4096 .i32) (fw : Buf (Elt F) (arg1.view.loc (c : Thread nD τ)))
    (hfw : arg1.view.read (Elt F) fw = iblk m c 0 t) (j : Fin 4096) (h : 4096 * t.val + j.val < 147456) :
    slot c arg1 fw j = slotAt (tab m c) ⟨4096 * t.val + j.val, h⟩ := by
  unfold slot; rw [hfw, word_eq m c t j.val j.isLt h]

include hp in
/-- Every row a point's transfer writes is the result's. -/
theorem lands (c : Dev nD) (t : Fin cfg0.N) (arg1 : Memref sig .tc .smem S1x1x4096 .i32) (fw : Buf (Elt F) (arg1.view.loc (c : Thread nD τ)))
    (hfw : arg1.view.read (Elt F) fw = iblk m c 0 t)
    (arg2 : Memref sig .tc .vmem S16384x128 .f32) (fs : Buf (Elt F) (arg2.view.loc (c : Thread nD τ)))
    (hfs : arg2.view.read (Elt F) fs = iblk m c 1 t) : Lands c arg1 arg2 fw fs (result m c) := by
  intro j y hy
  have ht : t.val < 36 := lt_of_lt_of_eq t.isLt N_0
  have h : 4096 * t.val + j.val < 147456 := by have := j.isLt; omega
  rw [slot_of m c t arg1 fw hfw j h] at hy
  rw [hfs]
  refine (row_eq m c t _ (srcIx (tab m c) y) ?_ ?_).symm
  · simp only [srcIx, tokIx]
    rw [hy, (hp c).posOf_slotAt]
    simp
    omega
  · simp [srcIx, tokIx]

include hp in
theorem sound_body (c : Dev nD) (t : Fin cfg0.N) :
    bodyPre m c t ⊢ wp frame (wpE (defs₀ (F := F)) Variants.none c none) Set.univ (bodyAt0 t) (fun _ => bodyPost m c t) := by
  have ht : t.val < 36 := lt_of_lt_of_eq t.isLt N_0
  unfold bodyPre bodyPost bodyAt0
  rw [show (dats m 0 c).Φ t.succ = iprop(held m c (4096 * (t.val + 1)) ∗ semVal ((c : Thread nD τ), SemLoc.dma cc0_scratch0.sem) 0 ∗ ∃ r, prngReg c r) from rfl,
    show (dats m 0 c).Φ t.castSucc = iprop(held m c (4096 * t.val) ∗ semVal ((c : Thread nD τ), SemLoc.dma cc0_scratch0.sem) 0 ∗ ∃ r, prngReg c r) from rfl]
  simp only [before0, before1]
  rw [after0, after1]
  unfold Dat.owesAt Pipeline.owesWithin
  rw [show (dats m 0 c).owed t.castSucc = 0 from rfl, show (dats m 0 c).owed t.succ = 0 from rfl]
  unfold owns held
  rw [Ring.bigSep_rangeSet_split (a := 4096 * t.val) (b := 4096 * (t.val + 1)) (d := 147456) (by omega) (by omega),
    Ring.bigSep_rangeSet_split (a := 0) (b := 4096 * t.val) (d := 4096 * (t.val + 1)) (by omega) (by omega)]
  iintro ⟨⟨⟨Hdone, Hnow, Hrest⟩, Hsem, Hp⟩, ⟨%W, -, HW⟩, ⟨%d0, %fw, %hfw, Hw⟩, ⟨%d1, %fs, %hfs, Ht⟩⟩
  iapply (run c (st0_0 t) (hstage0_0 ((cfg0.slots t 0).cast nbuf0_0)) (st0_1 t) (hstage0_1 ((cfg0.slots t 1).cast nbuf0_1)) fw fs (result m c) (grid0.coords t)
    (lands m hp c t _ fw hfw _ fs hfs) (m ((c : Thread nD τ).loc main_v1) : S2359296x128.Idx → Elt F .f32)
    (fun j => lt_of_eq_of_lt (slot_of m c t (st0_0 t) fw hfw j (by have := j.isLt; omega)) ((hp c).lt _)) W _)
  isplitl [Hw]; · iexact Hw
  isplitl [Ht]; · iexact Ht
  isplitl [Hsem]; · iexact Hsem
  isplitl [Hnow]
  · iapply (Entails.of_eq (slots_eq m c t _ (st0_0 t) fw hfw)); iexact Hnow
  isplitl [HW]; · iexact HW
  iintro ⟨Hw, Ht, Hsem, Hnow, ⟨%W', HW'⟩⟩
  isplitl [Hdone Hnow Hrest Hsem Hp]
  · isplitl [Hdone Hnow Hrest]
    · isplitl [Hdone Hnow]
      · isplitl [Hdone]; · iexact Hdone
        iapply (Entails.of_eq (slots_eq m c t _ (st0_0 t) fw hfw).symm); iexact Hnow
      iexact Hrest
    isplitl [Hsem]; · iexact Hsem
    iexact Hp
  isplitl [HW']
  · iexists W'; isplitr; · ipureintro; exact fun _ _ => Or.inl trivial
    iexact HW'
  isplitl [Hw]
  · iexists fw; isplitr
    · ipureintro; exact hfw
    iexact Hw
  · iexists fs; isplitr
    · ipureintro; exact hfs
    iexact Ht

theorem defs₀_row (t : Fin cfg0.N) :
    defs₀ (F := F) .tc cfg0.body (cfg0.bodyArgs t (cfg0.slots t)) = bodyAt0 t := by
  unfold defs₀; rw [Defs.onTc_tc]

include hp in
theorem body_obligation (c : Dev nD) : BodyObligation (dats (F := F) m 0 c) (defs₀ (F := F)) Variants.none () Set.univ := fun t => by
  rw [bigSep_W0, bigSep_W0, defs₀_row]
  exact triple_restated (sound_body m hp c t) rfl .rfl fun _ => .rfl

/-! ## The launch -/

/-- The kernel's own semaphore. -/
abbrev osem0 : Fin 1 → SemLoc sig := fun _ => SemLoc.dma cc0_scratch0.sem
theorem ownSemFacts0 : Pipeline.OwnSemFacts spec0 osem0 := by decide

/-- The result's final contents, by buffer. -/
def Y (c : Dev nD) (b : Ref sig .tc) : Buf (Elt F) ((c : Thread nD τ).loc b) :=
  if h : b = main_v1 then h ▸ (result m c : Buf (Elt F) ((c : Thread nD τ).loc main_v1)) else V m c b

theorem Y_v1 (c : Dev nD) : Y m c main_v1 = result m c := by unfold Y; rw [dif_pos rfl]

theorem V_main_v1 (c : Dev nD) : V m c main_v1 = m ((c : Thread nD τ).loc main_v1) :=
  StableHlo.after_of_forall_not_mem (b := Proc.devRef .tc main_v1) _ _ (List.forall_iff_forall_mem.mp (by
    simp only [hostOps0, List.Forall, StableHlo.reshape_writes, Finset.mem_singleton]
    exact StableHlo.devRef_ne_of_ne (by decide)))

include hp in
/-- The result whole is the result slot by slot. -/
theorem whole_eq (c : Dev nD) (g : S2359296x128.Idx → Elt F .f32) :
    (((c : Thread nD τ).loc main_v1) ↦{fullShare} (g : Buf (Elt F) ((c : Thread nD τ).loc main_v1)) : sProp 𝕄)
      = bigSep Finset.univ (fun i : Fin 147456 => slotPt c (slotAt (tab m c) i) g) :=
  Ring.pointsTo_blocks (ℓ := (c : Thread nD τ).loc main_v1) (fun i : Fin 147456 => rowsOf (slotAt (tab m c) i)) (hp c).rows_disjoint (hp c).rows_cover g

theorem ends_eq (c : Dev nD) (W : (b : Ref sig .tc) → Buf (Elt F) ((c.tc : Thread nD τ).loc b)) :
    (Pipeline.Ends spec0 osem0 {main_v1} c W : sProp 𝕄)
      = iprop((((c : Thread nD τ).loc main_v1) ↦{fullShare} W main_v1) ∗ semVal ((c : Thread nD τ), SemLoc.dma cc0_scratch0.sem) 0 ∗ BI.emp ∗ ∃ r, prngReg c r) := by
  unfold Pipeline.Ends
  rw [Pipeline.routed_singleton, scopedRest0_eq, Pipeline.ownSems0_eq_of_list c osem0 [0] (by decide) (by decide)]
  rfl

include hp in
theorem hin (c : Dev nD) : Pipeline.Ends spec0 osem0 {main_v1} c (V m c) ⊢ (dats m 0 c).Φ 0 := by
  rw [ends_eq, show (dats m 0 c).Φ 0 = iprop(held m c (4096 * 0) ∗ semVal ((c : Thread nD τ), SemLoc.dma cc0_scratch0.sem) 0 ∗ ∃ r, prngReg c r) from rfl,
    V_main_v1, whole_eq m hp]
  unfold held
  rw [Nat.mul_zero, Ring.bigSep_rangeSet_empty le_rfl, Ring.rangeSet_univ]
  iintro ⟨HR, Hs, -, Hp⟩
  isplitl [HR]
  · isplitr [HR]; · iempintro
    iexact HR
  isplitl [Hs]; · iexact Hs
  iexact Hp

include hp in
theorem hout (c : Dev nD) : (dats m 0 c).Φ (Fin.last cfg0.N) ⊢ Pipeline.Ends spec0 osem0 {main_v1} c (Y m c) := by
  rw [ends_eq, show (dats m 0 c).Φ (Fin.last cfg0.N) = iprop(held m c (4096 * grid0.N) ∗ semVal ((c : Thread nD τ), SemLoc.dma cc0_scratch0.sem) 0 ∗ ∃ r, prngReg c r) from rfl,
    Y_v1, whole_eq m hp, N_0]
  unfold held
  rw [Ring.bigSep_rangeSet_empty (lo := 4096 * 36) (by omega), show 4096 * 36 = 147456 from rfl, Ring.rangeSet_univ]
  iintro ⟨⟨HR, -⟩, Hs, Hp⟩
  isplitl [HR]; · iexact HR
  isplitl [Hs]; · iexact Hs
  isplitr [Hp]; · iempintro
  iexact Hp

theorem hmainC : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
include hp in
/-- THE RUN: every execution ends, the result is the dispatched array, the arguments are as launched and every
    semaphore reads zero. -/
theorem run_main : θ_run defs (onTc (τ := τ) (main (F := F))) ⟨m, fun _ => 0, ρ⟩ (fun r => (∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_routed (Q' := _) cfgs (dats m) (0 : Fin 1) launch0 ownSemFacts0 defs₀ Variants.none m ρ main
    (hbody := fun c => (body_obligation m hp c).loose) (hshare := fun c => (dats m 0 c).share_full fun _ => rfl)
    (howed := fun _ _ => rfl) (V := V m) (hmain := hmainC m) (hA := fun _ _ => rfl)
    (R := {main_v1}) (hR := by decide) (Y := Y m) (hin := hin m hp) (hout := hout m hp)
    (hQ' := fun r h => ⟨fun c => ⟨((h.1 c).2.1 main_v1 (Finset.mem_singleton_self _)).trans (Y_v1 m c),
      ((h.1 c).1 1).trans (((dats m 0 c).arrAt_in 1 rfl _).trans (V_main_arg0 m c)),
      ((h.1 c).2.2 main_arg1 (Finset.mem_sdiff.mpr ⟨Pipeline.mem_restRefs_of main_arg1 (by decide) (by decide), by decide⟩)).trans (V_main_arg1 m c)⟩, h.2⟩)

end Cert.Dispatch

end
-- ==== Proof.DispatchRef.lean ====
/-
  The dispatch's reference: which token each slot gets (the positions' tokens, scattered to their slots), then the
  tokens' rows taken by that table. Read at a row it is the dispatched array.
-/
module

public import proofs.«01_k».proof.Proof.DispatchFacts
public import proofs.«01_k».proof.Proof.Gen.ReferenceIdeal
public import proofs.«01_k».proof.Proof.Gen.ReferenceIdeal.Run
public import Idealize.ShloMosaic.Lib.Routing.Ops
public import Idealize.ShloMosaic.Lib.Routing.OpsSet
public import Idealize.ShloMosaic.Lib.Routing.OpsPair
public import Idealize.ShloMosaic.Lib.Routing.Words

@[expose] public section

noncomputable section

namespace Cert.Dispatch

open Cert.ReferenceIdeal Cert.ReferenceIdeal.Gen
open Idealize.ShloMosaic Idealize.ShloMosaic.TcCoe Idealize.SL.Sem
open Idealize.ShloMosaic.Routing Idealize.ShloMosaic.ValueIdx

/-- A table's words wrapped as jnp wraps an index: a negative one counts from the end. -/
abbrev wrap (n : BitVec 32) (x : IVec S147456 32) : IVec S147456 32 :=
  select (cmpi .slt x (broadcastInDim S147456 ![] bcast_S_S147456 (constantI S_ 32 0#32)))
    (addi x (broadcastInDim S147456 ![] bcast_S_S147456 (constantI S_ 32 n))) x

/-- Each position's token. -/
abbrev tokOf : IVec S147456 32 := pyDiv bcast_S_S147456 (iotaInDim S147456 32 0) (id (constantI S_ 32 4#32))

/-- Each slot's token: the positions' tokens set at their slots. -/
abbrev slotTok (idx : IVec S147456 32) : IVec S147456 32 :=
  Host.scatter scatter_S147456_S147456x1_S147456_n_0_0_1 (fun _ b => b) (broadcastInDim S147456 ![] bcast_S_S147456 (constantI S_ 32 0#32))
    (broadcastInDim S147456x1 ![0] bcast_S147456_S147456x1_0 (wrap 147456#32 idx)) tokOf

/-- The reference's result. -/
abbrev refMoved {α : Type} (idx : IVec S147456 32) (x : S589824x128.Idx → α) : S2359296x128.Idx → α :=
  shapeCast S2359296x128 (Host.gather gather_S36864x2048_S147456x1_S147456x2048_1_0_n_n_0_1_12048
    (shapeCast S36864x2048 x shapeCasts_S589824x128_S36864x2048)
    (broadcastInDim S147456x1 ![0] bcast_S147456_S147456x1_0 (wrap 36864#32 (slotTok idx)))) shapeCasts_S147456x2048_S2359296x128

theorem ofFin_eq (i : Fin 147456) : (Shape.Idx.ofFin i : S147456.Idx) = ix1 i := by
  funext a; match a with | ⟨0, _⟩ => rfl

/-- A word below 2³¹ is wrapped to itself. -/
theorem wrap_at (n : BitVec 32) (x : IVec S147456 32) (i : Fin 147456) (h : (x (ix1 i)).toNat < 2 ^ 31) :
    wrap n x (ix1 i) = x (ix1 i) := by
  show Scalar.select (IntOp.cmpi .slt (x (ix1 i)) _) _ (x (ix1 i)) = _
  rw [bc0 bcast_S_S147456]
  exact wrap_of_lt _ _ h

/-- Position `i` is one of token `i / 4`'s. -/
theorem tokOf_at (i : Fin 147456) : tokOf (ix1 i) = BitVec.ofNat 32 (i.val / 4) :=
  pyDiv_ap bcast_S_S147456 _ _ _ rfl rfl (by have := i.isLt; omega) (by decide) (by decide)

/-- Slot `r`'s token is that of the position which holds it. -/
theorem slotTok_at (idx : IVec S147456 32) (hp : Permutes idx) (r : Fin 147456) :
    slotTok idx (ix1 r) = BitVec.ofNat 32 ((posOf idx r.val).val / 4) := by
  have hw : ∀ i : Fin 147456, wrap 147456#32 idx (ix1 i) = BitVec.ofNat 32 (slotAt idx i) := by
    intro i
    have hi : (idx (ix1 i)).toNat = slotAt idx i := by unfold slotAt; rw [ofFin_eq]
    rw [wrap_at _ _ _ (by rw [hi]; exact lt_trans (hp.lt i) (by decide)), ← hi, BitVec.ofNat_toNat, BitVec.setWidth_eq]
  obtain ⟨i, hi⟩ := hp.surj r.isLt
  refine (scatter_set scatter_S147456_S147456x1_S147456_n_0_0_1 rfl rfl rfl _ _ _
    (fun k => if h : k < 147456 then slotAt idx ⟨k, h⟩ else 0) (fun k => ?_) (fun k => ?_) r _ (fun k hk => ?_)).1 ⟨i, ?_⟩
  · rw [bcCol bcast_S147456_S147456x1_0, hw, dif_pos k.isLt]
  · rw [dif_pos k.isLt]; exact lt_trans (hp.lt k) (by decide)
  · rw [dif_pos k.isLt] at hk
    rw [tokOf_at, ← hk, hp.posOf_slotAt]
  · rw [dif_pos i.isLt]; exact hi

/-- The reference's result is the dispatched array. -/
theorem refMoved_eq {α : Type} (idx : IVec S147456 32) (hp : Permutes idx) (x : S589824x128.Idx → α) : refMoved idx x = moved idx x := by
  funext y
  have h0 : (y 0).val < 2359296 := (y 0).isLt
  have h1 : (y 1).val < 128 := (y 1).isLt
  have hpos := (posOf idx ((y 0).val / 16)).isLt
  let r : Fin 147456 := ⟨(y 0).val / 16, by omega⟩
  let q : Fin 2048 := ⟨(y 0).val % 16 * 128 + (y 1).val, by omega⟩
  let b : Fin 36864 := ⟨(posOf idx ((y 0).val / 16)).val / 4, by omega⟩
  refine (shapeCast_apply _ shapeCasts_S147456x2048_S2359296x128 y (ix2 r q) ?_).trans ?_
  · rw [Shape.rowMajor_val_two, Shape.rowMajor_val_two]
    show (y 0).val / 16 * 2048 + ((y 0).val % 16 * 128 + (y 1).val) = (y 0).val * 128 + (y 1).val
    omega
  refine (gather_row gather_S36864x2048_S147456x1_S147456x2048_1_0_n_n_0_1_12048 rfl rfl rfl rfl rfl _ _ r q b ?_ (by decide)).trans ?_
  · rw [bcCol bcast_S147456_S147456x1_0, wrap_at, slotTok_at idx hp r]
    rw [slotTok_at idx hp r, BitVec.toNat_ofNat]
    exact lt_of_le_of_lt (Nat.mod_le _ _) (by show _ / 4 < _; have := (posOf idx r.val).isLt; omega)
  refine shapeCast_apply _ shapeCasts_S589824x128_S36864x2048 (ix2 b q) (srcIx idx y) ?_
  rw [Shape.rowMajor_val_two, Shape.rowMajor_val_two]
  show (16 * ((posOf idx ((y 0).val / 16)).val / 4) + (y 0).val % 16) * 128 + (y 1).val
    = (posOf idx ((y 0).val / 16)).val / 4 * 2048 + ((y 0).val % 16 * 128 + (y 1).val)
  omega

/-- The reference's run ends at the dispatched array. -/
theorem ref_run {F : FTy → Type} [FloatOps F] (m : (ℓ : Loc nD τ sig) → Buf (Elt F) ℓ) (ρ : Dev nD → PrngReg)
    (hp : ∀ c : Dev nD, Permutes (m ((c : Thread nD τ).loc main_arg1))) :
    θ_run defs (onTc (τ := τ) (main (F := F))) ⟨m, fun _ => 0, ρ⟩ fun r => ∀ c : Dev nD,
      r.2.mem ((c.tc : Thread nD τ).loc main_v18) = (moved (m ((c : Thread nD τ).loc main_arg1)) (m ((c : Thread nD τ).loc main_arg0) : S589824x128.Idx → Elt F .f32) : S2359296x128.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refMoved_eq _ (hp c) _), (h c).2⟩) (Cert.ReferenceIdeal.Value.run m ρ)

end Cert.Dispatch

end
-- ==== Proof.GmmItems.lean ====
/-
  The list of work items as numbers: expert `e` owns the slots from `pre n e` up to `pre n (e + 1)`, tile `T` is slots
  `256 T` to `256 T + 255`, an item is a tile and an expert owning some slot of it, and items are numbered tile by tile.
-/
module

public import Idealize.ShloMosaic.Lib.Routing.Ops

@[expose] public section

namespace Cert.Gmm

open Idealize.ShloMosaic

/-- The sum of the first `k` values of `f`. -/
def pre (f : ℕ → ℕ) (k : ℕ) : ℕ := ((List.range k).map f).sum

/-- The empty sum. -/
theorem pre_zero (f : ℕ → ℕ) : pre f 0 = 0 := rfl

/-- One more term. -/
theorem pre_succ (f : ℕ → ℕ) (k : ℕ) : pre f (k + 1) = pre f k + f k := by
  unfold pre
  rw [List.range_succ, List.map_append, List.sum_append, List.map_singleton, List.sum_singleton]

/-- Partial sums grow. -/
theorem pre_mono (f : ℕ → ℕ) {a b : ℕ} (h : a ≤ b) : pre f a ≤ pre f b := by
  induction b, h using Nat.le_induction with
  | base => exact le_rfl
  | succ b _ ih => rw [pre_succ]; omega

/-- How many of the first `N` partial sums (from the first term on) are at most `m`. -/
def passed (f : ℕ → ℕ) (N m : ℕ) : ℕ := Nat.count (fun e => pre f (e + 1) ≤ m) N

/-- Below the whole sum, that count is the place `m` falls in. -/
theorem passed_spec (f : ℕ → ℕ) {N m : ℕ} (h : m < pre f N) :
    passed f N m < N ∧ pre f (passed f N m) ≤ m ∧ m < pre f (passed f N m + 1) := by
  have hQ : ∀ a b, a ≤ b → b < N → pre f (b + 1) ≤ m → pre f (a + 1) ≤ m := fun a b hab _ hb =>
    (pre_mono f (by omega)).trans hb
  have hle : passed f N m ≤ N := Nat.count_le _
  have hlt : passed f N m < N := by
    by_contra hn
    rcases N with _ | N
    · rw [pre_zero] at h; omega
    · have := (Routing.lt_count_iff hQ (r := N) (by omega)).2 (by unfold passed at *; omega)
      omega
  refine ⟨hlt, ?_, ?_⟩
  · rcases hc : passed f N m with _ | c
    · rw [pre_zero]; omega
    · exact (Routing.lt_count_iff hQ (r := c) (by omega)).2 (by unfold passed at *; omega)
  · by_contra hn
    have := (Routing.lt_count_iff hQ hlt).1 (by omega)
    exact absurd this (lt_irrefl _)

/-- The place is the only one. -/
theorem place_unique (f : ℕ → ℕ) {m a b : ℕ} (ha : pre f a ≤ m) (ha' : m < pre f (a + 1)) (hb : pre f b ≤ m)
    (hb' : m < pre f (b + 1)) : a = b := by
  by_contra hn
  rcases Nat.lt_or_gt_of_ne hn with h | h
  · have := pre_mono f (show a + 1 ≤ b by omega); omega
  · have := pre_mono f (show b + 1 ≤ a by omega); omega

/-- The place grows with `m`. -/
theorem passed_mono (f : ℕ → ℕ) (N : ℕ) {a b : ℕ} (h : a ≤ b) : passed f N a ≤ passed f N b := by
  unfold passed
  exact Nat.count_mono_left fun e _ he => le_trans he h

section Items

variable (n : ℕ → ℕ)

/-- The expert of slot `b`, capped at the last expert. -/
def cut (b : ℕ) : ℕ := min (passed n 32 b) 31

/-- The items of tile `T`. -/
def per (T : ℕ) : ℕ := cut n (256 * T + 255) - cut n (256 * T) + 1

/-- All items. -/
def total : ℕ := pre (per n) 576

/-- The tile of item `m`. -/
def tileOf (m : ℕ) : ℕ := min (passed (per n) 576 m) 575

/-- The expert of item `m`. -/
def exOf (m : ℕ) : ℕ :=
  if m < total n then cut n (256 * tileOf n m) + (m - pre (per n) (tileOf n m)) else cut n (256 * 575 + 255)

/-- The expert of a slot is one of the 32. -/
theorem cut_le (b : ℕ) : cut n b ≤ 31 := min_le_right _ _

/-- It grows with the slot. -/
theorem cut_mono {a b : ℕ} (h : a ≤ b) : cut n a ≤ cut n b := min_le_min (passed_mono n 32 h) le_rfl

/-- A slot below the number of slots lies among its expert's slots. -/
theorem cut_spec {b : ℕ} (h : b < pre n 32) : passed n 32 b = cut n b ∧ pre n (cut n b) ≤ b ∧ b < pre n (cut n b + 1) := by
  have h1 := passed_spec n h
  have e : cut n b = passed n 32 b := by unfold cut; omega
  rw [e]
  exact ⟨rfl, h1.2⟩

/-- The tile of an item is one of the 576. -/
theorem tileOf_le (m : ℕ) : tileOf n m ≤ 575 := min_le_right _ _

/-- The first `T + 1` tiles have at most `T + 1` items more than the last one's last expert. -/
theorem pre_per_le (T : ℕ) : pre (per n) (T + 1) ≤ cut n (256 * T + 255) + T + 1 := by
  induction T with
  | zero => rw [pre_succ, pre_zero]; unfold per; omega
  | succ T ih =>
    rw [pre_succ]
    have h1 := cut_mono n (show 256 * T + 255 ≤ 256 * (T + 1) by omega)
    have h2 := cut_mono n (show 256 * (T + 1) ≤ 256 * (T + 1) + 255 by omega)
    have h3 : per n (T + 1) = cut n (256 * (T + 1) + 255) - cut n (256 * (T + 1)) + 1 := rfl
    omega

/-- Every item has a place in the grid. -/
theorem total_le : total n ≤ 607 := by
  have h1 : total n ≤ _ := pre_per_le n 575
  have h2 := cut_le n (256 * 575 + 255)
  omega

/-- Each tile has an item. -/
theorem le_pre_per (T : ℕ) : T ≤ pre (per n) T := by
  induction T with
  | zero => exact Nat.zero_le _
  | succ T ih => rw [pre_succ]; unfold per at *; omega

/-- There are at least 576 items. -/
theorem le_total : 576 ≤ total n := le_pre_per n 576

/-- A live item lies among its tile's items. -/
theorem tileOf_spec {m : ℕ} (h : m < total n) :
    pre (per n) (tileOf n m) ≤ m ∧ m < pre (per n) (tileOf n m + 1) := by
  have h1 := passed_spec (per n) h
  have e : tileOf n m = passed (per n) 576 m := by unfold tileOf; omega
  rw [e]
  exact h1.2

/-- The expert of an item is one of the 32. -/
theorem exOf_le (m : ℕ) : exOf n m ≤ 31 := by
  unfold exOf
  split
  · rename_i h
    have h1 := tileOf_spec n h
    rw [pre_succ] at h1
    have h2 := cut_le n (256 * tileOf n m + 255)
    have h3 := cut_mono n (show 256 * tileOf n m ≤ 256 * tileOf n m + 255 by omega)
    unfold per at h1
    unfold per
    omega
  · exact cut_le n _

/-- The first item is the first tile's first. -/
theorem first_item : 0 < total n ∧ tileOf n 0 = 0 ∧ exOf n 0 = cut n 0 := by
  have h := le_total n
  have h0 : 0 < total n := by omega
  have h1 := tileOf_spec n h0
  have h2 := le_pre_per n (tileOf n 0)
  have e : tileOf n 0 = 0 := by omega
  refine ⟨h0, e, ?_⟩
  unfold exOf
  rw [if_pos h0, e, Nat.mul_zero, Nat.zero_sub, Nat.add_zero]

/-- The next live item: either the same tile and the next expert, or the next tile's first item, the last tile's last
    expert done. -/
theorem next_item {m : ℕ} (h : m + 1 < total n) :
    (tileOf n (m + 1) = tileOf n m ∧ exOf n (m + 1) = exOf n m + 1 ∧ m + 1 ≠ pre (per n) (tileOf n (m + 1)))
    ∨ (tileOf n (m + 1) = tileOf n m + 1 ∧ m + 1 = pre (per n) (tileOf n (m + 1))
        ∧ exOf n m = cut n (256 * tileOf n m + 255) ∧ exOf n (m + 1) = cut n (256 * tileOf n (m + 1))) := by
  have h0 : m < total n := by omega
  have s0 := tileOf_spec n h0
  have s1 := tileOf_spec n h
  have hc := cut_mono n (show 256 * tileOf n m ≤ 256 * tileOf n m + 255 by omega)
  have hp : pre (per n) (tileOf n m + 1) = pre (per n) (tileOf n m) + (cut n (256 * tileOf n m + 255) - cut n (256 * tileOf n m) + 1) := pre_succ _ _
  by_cases hk : m + 1 < pre (per n) (tileOf n m + 1)
  · have e : tileOf n (m + 1) = tileOf n m := place_unique (per n) s1.1 s1.2 (by omega) hk
    refine Or.inl ⟨e, ?_, by rw [e]; omega⟩
    unfold exOf
    rw [if_pos h, if_pos h0, e]
    omega
  · have e1 : pre (per n) (tileOf n m + 1) = m + 1 := by omega
    have e : tileOf n (m + 1) = tileOf n m + 1 := place_unique (per n) s1.1 s1.2 (by omega) (by
      rw [pre_succ]; unfold per at *; omega)
    refine Or.inr ⟨e, by rw [e]; omega, ?_, ?_⟩
    · unfold exOf
      rw [if_pos h0]
      omega
    · unfold exOf
      rw [if_pos h, e]
      omega

/-- The last live item is the last tile's last. -/
theorem last_item {m : ℕ} (h : m + 1 = total n) : tileOf n m = 575 ∧ exOf n m = cut n (256 * 575 + 255) := by
  have h0 : m < total n := by omega
  have s0 := tileOf_spec n h0
  have ht : total n = pre (per n) 575 + (cut n (256 * 575 + 255) - cut n (256 * 575) + 1) := pre_succ _ _
  have hc := cut_mono n (show 256 * 575 ≤ 256 * 575 + 255 by omega)
  have e : tileOf n m = 575 := place_unique (per n) s0.1 s0.2 (by omega) (by rw [pre_succ]; unfold per at *; omega)
  refine ⟨e, ?_⟩
  unfold exOf
  rw [if_pos h0, e]
  omega

/-- Past the items the tile stays the last one. -/
theorem past_items {m : ℕ} (h : total n ≤ m) : tileOf n m = 575 := by
  have hall : passed (per n) 576 m = 576 := by
    unfold passed
    exact Nat.count_iff_forall.mpr fun T hT => (pre_mono (per n) (show T + 1 ≤ 576 by omega)).trans h
  unfold tileOf
  omega

end Items

end Cert.Gmm

end
-- ==== Proof.GmmTables.lean ====
/-
  The six tables of the grouped matmul as the host code before the call leaves them: each word is the number the item
  list (Proof/GmmItems.lean) has there. Stretch by stretch of that host code, each read at an index.
-/
module

public import proofs.«01_k».proof.Proof.GmmItems
public import proofs.«01_k».proof.Proof.Gen.Kernel2Ideal
public import proofs.«01_k».proof.Proof.Gen.Kernel2Ideal.Launch
public import Idealize.ShloMosaic.Lib.Routing.OpsSet
public import Idealize.ShloMosaic.Lib.Routing.Words
public import Idealize.ShloMosaic.Lib.StableHlo.RunRead

@[expose] public section

noncomputable section

namespace Cert.Gmm

open Cert.Kernel2Ideal Cert.Kernel2Ideal.Gen
open Idealize.ShloMosaic Idealize.ShloMosaic.TcCoe Idealize.SL.Sem
open Idealize.ShloMosaic.Routing Idealize.ShloMosaic.ValueIdx

variable {F : FTy → Type} [FloatOps F]

/-! ## Words that hold small numbers -/

/-- The difference of two such words. -/
theorem sub_word {a b : ℕ} (h : b ≤ a) : BitVec.ofNat 32 a - BitVec.ofNat 32 b = BitVec.ofNat 32 (a - b) := by
  have e : BitVec.ofNat 32 a = BitVec.ofNat 32 (a - b) + BitVec.ofNat 32 b := by rw [← BitVec.ofNat_add]; congr 1; omega
  rw [e, BitVec.add_sub_cancel]

/-- The smaller of two such words. -/
theorem min_word {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [if_pos (by simpa using h), Nat.min_eq_left (by omega)]
  · rw [if_neg (by simpa using h), Nat.min_eq_right (by omega)]

/-- A comparison of two such words. -/
theorem sle_word {a b : ℕ} (ha : a < 2 ^ 31) (hb : b < 2 ^ 31) :
    IntOp.cmpi .sle (BitVec.ofNat 32 a) (BitVec.ofNat 32 b) = 1#1 ↔ a ≤ b := by
  unfold IntOp.cmpi
  rw [StableHlo.Predicate.ofBool_eq_one_iff, sle_ofNat32 ha hb]
  simp

/-- Another. -/
theorem slt_word {a b : ℕ} (ha : a < 2 ^ 31) (hb : b < 2 ^ 31) :
    IntOp.cmpi .slt (BitVec.ofNat 32 a) (BitVec.ofNat 32 b) = 1#1 ↔ a < b := by
  unfold IntOp.cmpi
  rw [StableHlo.Predicate.ofBool_eq_one_iff, slt_ofNat32 ha hb]
  simp

/-- An index wrapped as jnp wraps it, when it is not negative. -/
theorem wrap_word {a : ℕ} (ha : a < 2 ^ 31) (w : BitVec 32) :
    Scalar.select (IntOp.cmpi .slt (BitVec.ofNat 32 a) 0#32) w (BitVec.ofNat 32 a) = BitVec.ofNat 32 a := by
  unfold Scalar.select
  rw [if_neg]
  intro h
  exact absurd ((slt_word ha (by decide)).1 h) (Nat.not_lt_zero _)

/-- A difference of two such words, clipped between zero and 256. -/
theorem clip_word {a b : ℕ} (ha : a < 2 ^ 30) (hb : b < 2 ^ 30) :
    IntOp.minsi 256#32 (IntOp.maxsi 0#32 (BitVec.ofNat 32 a - BitVec.ofNat 32 b)) = BitVec.ofNat 32 (min (a - b) 256) := by
  by_cases h : b ≤ a
  · rw [sub_word h, maxsi_zero_left (by omega), show (256#32 : BitVec 32) = BitVec.ofNat 32 256 from rfl,
      min_word (by decide) (by omega), Nat.min_comm]
  · have e : IntOp.maxsi 0#32 (BitVec.ofNat 32 a - BitVec.ofNat 32 b) = 0#32 := by
      unfold IntOp.maxsi
      rw [if_pos]
      have hd : BitVec.ofNat 32 a - BitVec.ofNat 32 b = BitVec.ofNat 32 (2 ^ 32 - (b - a)) := by
        apply BitVec.eq_of_toNat_eq
        rw [BitVec.toNat_sub, BitVec.toNat_ofNat, BitVec.toNat_ofNat, BitVec.toNat_ofNat]
        omega
      rw [hd, BitVec.slt_eq_decide, decide_eq_true_eq, BitVec.toInt_eq_toNat_cond, BitVec.toNat_ofNat]
      rw [if_neg (by omega)]
      show _ < (0 : ℤ)
      omega
    rw [e, show a - b = 0 by omega]
    rfl

/-! ## The stretches -/

/-- A buffer's contents. -/
abbrev rd (V : Valuation τ sig (Elt F)) (r : Ref sig .tc) := V (Proc.devRef .tc r)

/-- The buffers stretch 0 of the preparation writes. -/
abbrev wr0 : List (Ref sig .tc) := [main_v0, main_v1, main_v2, main_v3, main_v4, main_v5, main_v6, main_v7, main_v8, main_v9, main_v10, main_v11, main_v12]

/-- It writes these alone. -/
theorem keep0 (V : Valuation τ sig (Elt F)) {r : Ref sig .tc} (hr : r ∉ wr0) :
    StableHlo.after (hostOps0 (F := F)) V (Proc.devRef .tc r) = V (Proc.devRef .tc r) :=
  StableHlo.after_unwritten wr0 rfl hr V

/-- The buffers stretch 1 of the preparation writes. -/
abbrev wr1 : List (Ref sig .tc) := [main_call0_call0_c, main_call0_call0_v0, main_v13]

/-- It writes these alone. -/
theorem keep1 (V : Valuation τ sig (Elt F)) {r : Ref sig .tc} (hr : r ∉ wr1) :
    StableHlo.after (hostOps0_1 (F := F)) V (Proc.devRef .tc r) = V (Proc.devRef .tc r) :=
  StableHlo.after_unwritten wr1 rfl hr V

/-- The buffers stretch 2 of the preparation writes. -/
abbrev wr2 : List (Ref sig .tc) := [main_v14, main_v15, main_c, main_v16, main_v17, main_v18, main_v19, main_v20, main_v21, main_v22, main_v23, main_c_0, main_v24, main_c_1, main_v25, main_v26, main_c_2, main_v27, main_v28, main_c_3, main_v29, main_v30, main_v31, main_v32, main_v33, main_v34, main_v35, main_v36, main_c_4, main_v37, main_c_5, main_v38, main_v39, main_v40, main_c_6, main_v41, main_v42]

/-- It writes these alone. -/
theorem keep2 (V : Valuation τ sig (Elt F)) {r : Ref sig .tc} (hr : r ∉ wr2) :
    StableHlo.after (hostOps0_2 (F := F)) V (Proc.devRef .tc r) = V (Proc.devRef .tc r) :=
  StableHlo.after_unwritten wr2 rfl hr V

/-- The buffers stretch 3 of the preparation writes. -/
abbrev wr3 : List (Ref sig .tc) := [main_call1_call0_c, main_call1_call0_v0, main_v43]

/-- It writes these alone. -/
theorem keep3 (V : Valuation τ sig (Elt F)) {r : Ref sig .tc} (hr : r ∉ wr3) :
    StableHlo.after (hostOps0_3 (F := F)) V (Proc.devRef .tc r) = V (Proc.devRef .tc r) :=
  StableHlo.after_unwritten wr3 rfl hr V

/-- The buffers stretch 4 of the preparation writes. -/
abbrev wr4 : List (Ref sig .tc) := [main_v44, main_v45, main_v46, main_v47, main_v48, main_v49, main_v50, main_v51, main_v52, main_v53, main_v54, main_v55, main_c_7, main_v56, main_c_8, main_v57, main_v58, main_c_9, main_v59, main_v60, main_c_10, main_v61, main_v62, main_v63, main_v64, main_v65, main_c_11, main_v66, main_v67, main_c_12, main_v68, main_v69, main_v70, main_v71, main_v72, main_v73, main_v74, main_v75, main_v76]

/-- It writes these alone. -/
theorem keep4 (V : Valuation τ sig (Elt F)) {r : Ref sig .tc} (hr : r ∉ wr4) :
    StableHlo.after (hostOps0_4 (F := F)) V (Proc.devRef .tc r) = V (Proc.devRef .tc r) :=
  StableHlo.after_unwritten wr4 rfl hr V

/-- The buffers stretch 5 of the preparation writes. -/
abbrev wr5 : List (Ref sig .tc) := [main_call2_v0, main_v77]

/-- It writes these alone. -/
theorem keep5 (V : Valuation τ sig (Elt F)) {r : Ref sig .tc} (hr : r ∉ wr5) :
    StableHlo.after (hostOps0_5 (F := F)) V (Proc.devRef .tc r) = V (Proc.devRef .tc r) :=
  StableHlo.after_unwritten wr5 rfl hr V

/-- The buffers stretch 6 of the preparation writes. -/
abbrev wr6 : List (Ref sig .tc) := [main_c_13, main_v78, main_v79, main_c_14, main_v80, main_v81, main_v82, main_v83, main_v84, main_c_15, main_v85, main_v86, main_v87, main_c_16, main_c_17]

/-- It writes these alone. -/
theorem keep6 (V : Valuation τ sig (Elt F)) {r : Ref sig .tc} (hr : r ∉ wr6) :
    StableHlo.after (hostOps0_6 (F := F)) V (Proc.devRef .tc r) = V (Proc.devRef .tc r) :=
  StableHlo.after_unwritten wr6 rfl hr V

/-- The buffers stretch 7 of the preparation writes. -/
abbrev wr7 : List (Ref sig .tc) := [main_call3_v0, main_call3_v1, main_call3_v2, main_call3_v3, main_call3_v4, main_v88]

/-- It writes these alone. -/
theorem keep7 (V : Valuation τ sig (Elt F)) {r : Ref sig .tc} (hr : r ∉ wr7) :
    StableHlo.after (hostOps0_7 (F := F)) V (Proc.devRef .tc r) = V (Proc.devRef .tc r) :=
  StableHlo.after_unwritten wr7 rfl hr V

/-- The buffers stretch 8 of the preparation writes. -/
abbrev wr8 : List (Ref sig .tc) := [main_c_18, main_v89, main_v90, main_c_19, main_v91, main_v92, main_v93, main_v94, main_v95, main_c_20, main_v96, main_v97, main_v98, main_c_21, main_c_22]

/-- It writes these alone. -/
theorem keep8 (V : Valuation τ sig (Elt F)) {r : Ref sig .tc} (hr : r ∉ wr8) :
    StableHlo.after (hostOps0_8 (F := F)) V (Proc.devRef .tc r) = V (Proc.devRef .tc r) :=
  StableHlo.after_unwritten wr8 rfl hr V

/-- The buffers stretch 9 of the preparation writes. -/
abbrev wr9 : List (Ref sig .tc) := [main_call4_v0, main_call4_v1, main_call4_v2, main_call4_v3, main_call4_v4, main_v99]

/-- It writes these alone. -/
theorem keep9 (V : Valuation τ sig (Elt F)) {r : Ref sig .tc} (hr : r ∉ wr9) :
    StableHlo.after (hostOps0_9 (F := F)) V (Proc.devRef .tc r) = V (Proc.devRef .tc r) :=
  StableHlo.after_unwritten wr9 rfl hr V

/-- The buffers stretch 10 of the preparation writes. -/
abbrev wr10 : List (Ref sig .tc) := [main_c_23, main_v100, main_v101, main_c_24, main_v102, main_v103, main_v104, main_v105, main_v106, main_v107, main_v108, main_v109, main_c_25, main_v110, main_v111]

/-- It writes these alone. -/
theorem keep10 (V : Valuation τ sig (Elt F)) {r : Ref sig .tc} (hr : r ∉ wr10) :
    StableHlo.after (hostOps0_10 (F := F)) V (Proc.devRef .tc r) = V (Proc.devRef .tc r) :=
  StableHlo.after_unwritten wr10 rfl hr V

section Stretches

variable (V : Valuation τ sig (Elt F)) (n : ℕ → ℕ)

/-- Stretch 1: the running sums of the counts. -/
theorem st1_ends (h : ∀ e : Fin 32, (rd V main_arg1 : IVec S32 32) (ix1 e) = BitVec.ofNat 32 (n e.val)) (e : Fin 32) :
    (rd (StableHlo.after (hostOps0_1 (F := F)) V) main_v13 : IVec S32 32) (ix1 e) = BitVec.ofNat 32 (pre n (e.val + 1)) := by
  simp only [rd, hostOps0_1, StableHlo.TRef.binary, StableHlo.TRef.nullary, StableHlo.TRef.unary, StableHlo.TRef.toBuf, StableHlo.TRef.ofBuf, cast_eq]
  after_results_simp
  exact cumsum1 (N := 32) (Nm1 := 31) rfl _ n h _ rfl _ _ e

variable (hE : ∀ k, k ≤ 32 → pre n k ≤ 147456)
  (h13 : ∀ e : Fin 32, (rd V main_v13 : IVec S32 32) (ix1 e) = BitVec.ofNat 32 (pre n (e.val + 1)))

include h13 in
/-- Stretch 2: where each expert's slots begin. -/
theorem st2_starts (h : ∀ e : Fin 32, (rd V main_arg1 : IVec S32 32) (ix1 e) = BitVec.ofNat 32 (n e.val)) (e : Fin 32) :
    (rd (StableHlo.after (hostOps0_2 (F := F)) V) main_v14 : IVec S32 32) (ix1 e) = BitVec.ofNat 32 (pre n e.val) := by
  show (StableHlo.after hostOps0_2 V (Proc.devRef .tc main_v14) : IVec S32 32) (ix1 e) = _
  after_results
  refine (congrArg₂ (fun a b : BitVec 32 => a - b) (h13 e) (h e)).trans ?_
  rw [sub_word (by rw [pre_succ]; omega), pre_succ, Nat.add_sub_cancel]

include hE h13 in
/-- How many experts' slots end at or before slot `b`, capped. -/
theorem count_ends (b : Fin 576 → ℕ) (hb : ∀ T, b T < 2 ^ 30) (q : IVec S576 32) (hq : ∀ T, q (ix1 T) = BitVec.ofNat 32 (b T)) (T : Fin 576) :
    minsi (Host.reduce IntOp.addi (extui 32 (cmpi .sle
        (broadcastInDim S576x32 ![0, 1] bcast_S1x32_S576x32_0_1 (broadcastInDim S1x32 ![1] bcast_S32_S1x32_1 (rd V main_v13 : IVec S32 32)))
        (broadcastInDim S576x32 ![0, 1] bcast_S576x1_S576x32_0_1 (broadcastInDim S576x1 ![0] bcast_S576_S576x1_0 q))) natLt_1_32)
        (constantI S_ 32 0#32) reducesTo_S576x32_S576_d1 h_S_)
      (broadcastInDim S576 ![] bcast_S_S576 (constantI S_ 32 31#32)) (ix1 T) = BitVec.ofNat 32 (cut n (b T)) := by
  have e1 := reduce_count (n := 576) (m := 32) (by decide) (cmpi .sle
        (broadcastInDim S576x32 ![0, 1] bcast_S1x32_S576x32_0_1 (broadcastInDim S1x32 ![1] bcast_S32_S1x32_1 (rd V main_v13 : IVec S32 32)))
        (broadcastInDim S576x32 ![0, 1] bcast_S576x1_S576x32_0_1 (broadcastInDim S576x1 ![0] bcast_S576_S576x1_0 q))) natLt_1_32
    reducesTo_S576x32_S576_d1 h_S_ T (fun e => pre n (e + 1) ≤ b T) (fun e => by
      have l := bcCols bcast_S32_S1x32_1 bcast_S1x32_S576x32_0_1 (rd V main_v13 : IVec S32 32) T e
      have r := bcRows bcast_S576_S576x1_0 bcast_S576x1_S576x32_0_1 q T e
      have k1 := hE (e.val + 1) (by have := e.isLt; omega)
      have k2 := hb T
      show IntOp.cmpi .sle _ _ = 1#1 ↔ _
      rw [l, r, h13, hq, sle_word (by omega) (by omega)])
  have hc : Nat.count (fun e => pre n (e + 1) ≤ b T) 32 ≤ 32 := Nat.count_le _
  show IntOp.minsi _ _ = _
  rw [e1, show broadcastInDim S576 ![] bcast_S_S576 (constantI S_ 32 31#32) (ix1 T) = BitVec.ofNat 32 31 from rfl,
    min_word (by omega) (by decide)]
  rfl

include hE h13 in
/-- Stretch 2: each tile's first expert. -/
theorem st2_lo (T : Fin 576) :
    (rd (StableHlo.after (hostOps0_2 (F := F)) V) main_v26 : IVec S576 32) (ix1 T) = BitVec.ofNat 32 (cut n (256 * T.val)) := by
  show (StableHlo.after hostOps0_2 V (Proc.devRef .tc main_v26) : IVec S576 32) (ix1 T) = _
  after_results
  refine count_ends V n hE h13 (fun T => 256 * T.val) (fun T => by have := T.isLt; omega) _ (fun T => ?_) T
  show BitVec.ofNat 32 T.val * BitVec.ofNat 32 256 = _
  rw [← BitVec.ofNat_mul, Nat.mul_comm]

include hE h13 in
/-- Stretch 2: each tile's last expert. -/
theorem st2_hi (T : Fin 576) :
    (rd (StableHlo.after (hostOps0_2 (F := F)) V) main_v39 : IVec S576 32) (ix1 T) = BitVec.ofNat 32 (cut n (256 * T.val + 255)) := by
  show (StableHlo.after hostOps0_2 V (Proc.devRef .tc main_v39) : IVec S576 32) (ix1 T) = _
  after_results
  refine count_ends V n hE h13 (fun T => 256 * T.val + 255) (fun T => by have := T.isLt; omega) _ (fun T => ?_) T
  show BitVec.ofNat 32 T.val * BitVec.ofNat 32 256 + BitVec.ofNat 32 256 - BitVec.ofNat 32 1 = _
  rw [← BitVec.ofNat_mul, ← BitVec.ofNat_add, sub_word (by omega)]
  congr 1
  omega

include hE h13 in
/-- Stretch 2: how many items each tile has. -/
theorem st2_per (T : Fin 576) :
    (rd (StableHlo.after (hostOps0_2 (F := F)) V) main_v42 : IVec S576 32) (ix1 T) = BitVec.ofNat 32 (per n T.val) := by
  have h1 := st2_lo V n hE h13 T
  have h2 := st2_hi V n hE h13 T
  have e : (rd (StableHlo.after (hostOps0_2 (F := F)) V) main_v42 : IVec S576 32)
      = addi (subi (rd (StableHlo.after (hostOps0_2 (F := F)) V) main_v39 : IVec S576 32)
          (rd (StableHlo.after (hostOps0_2 (F := F)) V) main_v26 : IVec S576 32))
        (broadcastInDim S576 ![] bcast_S_S576 (constantI S_ 32 1#32)) := by
    show (StableHlo.after hostOps0_2 V (Proc.devRef .tc main_v42) : IVec S576 32)
      = addi (subi (StableHlo.after hostOps0_2 V (Proc.devRef .tc main_v39) : IVec S576 32)
          (StableHlo.after hostOps0_2 V (Proc.devRef .tc main_v26) : IVec S576 32)) _
    after_results
  rw [e]
  refine (congrArg₂ (fun a b : BitVec 32 => a - b + 1#32) h2 h1).trans ?_
  rw [sub_word (cut_mono n (by omega)), show (1#32 : BitVec 32) = BitVec.ofNat 32 1 from rfl, ← BitVec.ofNat_add]
  rfl

/-- Stretch 3: the running sums of the items. -/
theorem st3_item_end (h : ∀ T : Fin 576, (rd V main_v42 : IVec S576 32) (ix1 T) = BitVec.ofNat 32 (per n T.val)) (T : Fin 576) :
    (rd (StableHlo.after (hostOps0_3 (F := F)) V) main_v43 : IVec S576 32) (ix1 T) = BitVec.ofNat 32 (pre (per n) (T.val + 1)) := by
  simp only [rd, hostOps0_3, StableHlo.TRef.binary, StableHlo.TRef.nullary, StableHlo.TRef.unary, StableHlo.TRef.toBuf, StableHlo.TRef.ofBuf, cast_eq]
  after_results_simp
  exact cumsum1 (N := 576) (Nm1 := 575) rfl _ (per n) h _ rfl _ _ T

end Stretches

/-- A table read at an index that a wrapped column of numbers gives. -/
theorem take_word {N : ℕ} (d : GatherDims (shape1 N) S607x1 S607) (hcoll : d.collapsedSliceDims = [0])
    (hob : d.operandBatchingDims = []) (hsim : d.startIndexMap = [0]) (hivd : d.indexVectorDim = 1) (hN : N < 2 ^ 31)
    (x : (shape1 N).Idx → BitVec 32) (t w : IVec S607 32) (z : IVec S_ 32) (hz : z ix0 = 0#32) (p : Fin 607) (b : Fin N) (hb : t (ix1 p) = BitVec.ofNat 32 b.val) :
    Host.gather d x (broadcastInDim S607x1 ![0] bcast_S607_S607x1_0
      (select (cmpi .slt t (broadcastInDim S607 ![] bcast_S_S607 z)) w t)) (ix1 p) = x (ix1 b) := by
  refine gather_take1 d hcoll hob hsim hivd x _ p b ?_ hN
  rw [bcCol bcast_S607_S607x1_0 _ p]
  show Scalar.select (IntOp.cmpi .slt (t (ix1 p)) (broadcastInDim S607 ![] bcast_S_S607 z (ix1 p))) (w (ix1 p)) (t (ix1 p)) = _
  rw [bc0 bcast_S_S607 z (ix1 p), hz, hb]
  exact wrap_word (by have := b.isLt; omega) _

section Later

variable (V : Valuation τ sig (Elt F)) (n : ℕ → ℕ)

section Four

variable (h43 : ∀ T : Fin 576, (rd V main_v43 : IVec S576 32) (ix1 T) = BitVec.ofNat 32 (pre (per n) (T.val + 1)))

include h43 in
/-- Stretch 4: each tile's first item. -/
theorem st4_item_start (h42 : ∀ T : Fin 576, (rd V main_v42 : IVec S576 32) (ix1 T) = BitVec.ofNat 32 (per n T.val)) (T : Fin 576) :
    (rd (StableHlo.after (hostOps0_4 (F := F)) V) main_v44 : IVec S576 32) (ix1 T) = BitVec.ofNat 32 (pre (per n) T.val) := by
  show (StableHlo.after hostOps0_4 V (Proc.devRef .tc main_v44) : IVec S576 32) (ix1 T) = _
  after_results
  refine (congrArg₂ (fun a b : BitVec 32 => a - b) (h43 T) (h42 T)).trans ?_
  rw [sub_word (by rw [pre_succ]; omega), pre_succ, Nat.add_sub_cancel]

/-- Stretch 4: the items' numbers. -/
theorem st4_m (p : Fin 607) :
    (rd (StableHlo.after (hostOps0_4 (F := F)) V) main_v47 : IVec S607 32) (ix1 p) = BitVec.ofNat 32 p.val := by
  show (StableHlo.after hostOps0_4 V (Proc.devRef .tc main_v47) : IVec S607 32) (ix1 p) = _
  after_results
  rfl

include h43 in
/-- Stretch 4: which items are live. -/
theorem st4_valid (p : Fin 607) :
    (rd (StableHlo.after (hostOps0_4 (F := F)) V) main_v49 : IVec S607 1) (ix1 p) = BitVec.ofBool (decide (p.val < total n)) := by
  show (StableHlo.after hostOps0_4 V (Proc.devRef .tc main_v49) : IVec S607 1) (ix1 p) = _
  after_results
  have e : shapeCast S_ (extractStridedSlice S1 ![575] (rd V main_v43 : IVec S576 32) slices_S576_S1_575) shapeCasts_S1_S_ ix0
      = BitVec.ofNat 32 (total n) := by
    refine Eq.trans (shapeCast_apply (s := S1) _ shapeCasts_S1_S_ ix0 (ix1 (0 : Fin 1)) ?_) ?_
    · exact (Nat.lt_one_iff.1 ((S1.rowMajor (ix1 (0 : Fin 1))).isLt)).trans (Nat.lt_one_iff.1 ((S_.rowMajor ix0).isLt)).symm
    · rw [slice1 575 _ slices_S576_S1_575 (0 : Fin 1) (by decide)]
      exact h43 ⟨575, by decide⟩
  have ht := total_le n
  have hp := p.isLt
  refine Eq.trans (congrArg₂ (fun a b : BitVec 32 => IntOp.cmpi .slt a b) (show _ = BitVec.ofNat 32 p.val from rfl)
    ((bc0 bcast_S_S607 _ (ix1 p)).trans e)) ?_
  unfold IntOp.cmpi
  rw [slt_ofNat32 (by omega) (by omega)]

include h43 in
/-- Stretch 4: each item's tile. -/
theorem st4_tile (p : Fin 607) :
    (rd (StableHlo.after (hostOps0_4 (F := F)) V) main_v58 : IVec S607 32) (ix1 p) = BitVec.ofNat 32 (tileOf n p.val) := by
  show (StableHlo.after hostOps0_4 V (Proc.devRef .tc main_v58) : IVec S607 32) (ix1 p) = _
  after_results
  have ht := total_le n
  have hp := p.isLt
  have e1 := reduce_count (n := 607) (m := 576) (by decide) (cmpi .sle
        (broadcastInDim S607x576 ![0, 1] bcast_S1x576_S607x576_0_1 (broadcastInDim S1x576 ![1] bcast_S576_S1x576_1 (rd V main_v43 : IVec S576 32)))
        (broadcastInDim S607x576 ![0, 1] bcast_S607x1_S607x576_0_1 (broadcastInDim S607x1 ![0] bcast_S607_S607x1_0 (iotaInDim S607 32 0)))) natLt_1_32
    reducesTo_S607x576_S607_d1 h_S_ p (fun e => pre (per n) (e + 1) ≤ p.val) (fun e => by
      have l := bcCols bcast_S576_S1x576_1 bcast_S1x576_S607x576_0_1 (rd V main_v43 : IVec S576 32) p e
      have r := bcRows bcast_S607_S607x1_0 bcast_S607x1_S607x576_0_1 (iotaInDim S607 32 0) p e
      have k1 : pre (per n) (e.val + 1) ≤ total n := pre_mono _ (by have := e.isLt; omega)
      show IntOp.cmpi .sle _ _ = 1#1 ↔ _
      rw [l, r, h43, iota1_ap, sle_word (by omega) (by omega)])
  have hc : Nat.count (fun e => pre (per n) (e + 1) ≤ p.val) 576 ≤ 576 := Nat.count_le _
  refine Eq.trans (congrArg₂ (fun a b : BitVec 32 => IntOp.minsi a b) e1 (show _ = BitVec.ofNat 32 575 from rfl)) ?_
  rw [min_word (by omega) (by decide)]
  rfl

include h43 in
/-- Stretch 4: a live item's expert. -/
theorem st4_ex (h42 : ∀ T : Fin 576, (rd V main_v42 : IVec S576 32) (ix1 T) = BitVec.ofNat 32 (per n T.val))
    (h26 : ∀ T : Fin 576, (rd V main_v26 : IVec S576 32) (ix1 T) = BitVec.ofNat 32 (cut n (256 * T.val))) (p : Fin 607) (hl : p.val < total n) :
    (rd (StableHlo.after (hostOps0_4 (F := F)) V) main_v74 : IVec S607 32) (ix1 p)
      = BitVec.ofNat 32 (cut n (256 * tileOf n p.val) + (p.val - pre (per n) (tileOf n p.val))) := by
  have h58 := st4_tile V n h43 p
  have h47 := st4_m V p
  have h44 := st4_item_start V n h43 h42 ⟨tileOf n p.val, by have := tileOf_le n p.val; omega⟩
  have hs := tileOf_spec n hl
  have e : (rd (StableHlo.after (hostOps0_4 (F := F)) V) main_v74 : IVec S607 32)
      = addi (Host.gather gather_S576_S607x1_S607_n_0_n_n_0_1_1 (rd V main_v26 : IVec S576 32) (broadcastInDim S607x1 ![0] bcast_S607_S607x1_0
          (select (cmpi .slt (rd (StableHlo.after (hostOps0_4 (F := F)) V) main_v58 : IVec S607 32) (broadcastInDim S607 ![] bcast_S_S607 (constantI S_ 32 0#32)))
            (addi (rd (StableHlo.after (hostOps0_4 (F := F)) V) main_v58 : IVec S607 32) (broadcastInDim S607 ![] bcast_S_S607 (constantI S_ 32 576#32)))
            (rd (StableHlo.after (hostOps0_4 (F := F)) V) main_v58 : IVec S607 32))))
        (subi (rd (StableHlo.after (hostOps0_4 (F := F)) V) main_v47 : IVec S607 32)
          (Host.gather gather_S576_S607x1_S607_n_0_n_n_0_1_1 (rd (StableHlo.after (hostOps0_4 (F := F)) V) main_v44 : IVec S576 32) (broadcastInDim S607x1 ![0] bcast_S607_S607x1_0
          (select (cmpi .slt (rd (StableHlo.after (hostOps0_4 (F := F)) V) main_v58 : IVec S607 32) (broadcastInDim S607 ![] bcast_S_S607 (constantI S_ 32 0#32)))
            (addi (rd (StableHlo.after (hostOps0_4 (F := F)) V) main_v58 : IVec S607 32) (broadcastInDim S607 ![] bcast_S_S607 (constantI S_ 32 576#32)))
            (rd (StableHlo.after (hostOps0_4 (F := F)) V) main_v58 : IVec S607 32))))) := by
    unfold rd
    after_results_simp
  rw [e]
  have g1 := take_word gather_S576_S607x1_S607_n_0_n_n_0_1_1 rfl rfl rfl rfl (by decide) (rd V main_v26 : IVec S576 32)
    (rd (StableHlo.after (hostOps0_4 (F := F)) V) main_v58 : IVec S607 32)
    (addi (rd (StableHlo.after (hostOps0_4 (F := F)) V) main_v58 : IVec S607 32) (broadcastInDim S607 ![] bcast_S_S607 (constantI S_ 32 576#32)))
    (constantI S_ 32 0#32) rfl p ⟨tileOf n p.val, by have := tileOf_le n p.val; omega⟩ h58
  have g2 := take_word gather_S576_S607x1_S607_n_0_n_n_0_1_1 rfl rfl rfl rfl (by decide) (rd (StableHlo.after (hostOps0_4 (F := F)) V) main_v44 : IVec S576 32)
    (rd (StableHlo.after (hostOps0_4 (F := F)) V) main_v58 : IVec S607 32)
    (addi (rd (StableHlo.after (hostOps0_4 (F := F)) V) main_v58 : IVec S607 32) (broadcastInDim S607 ![] bcast_S_S607 (constantI S_ 32 576#32)))
    (constantI S_ 32 0#32) rfl p ⟨tileOf n p.val, by have := tileOf_le n p.val; omega⟩ h58
  rw [addi_ap, subi_ap, g1, g2, h26, h44, h47, sub_word hs.1, ← BitVec.ofNat_add]

/-- Stretch 4: the last tile's last expert. -/
theorem st4_last (h39 : ∀ T : Fin 576, (rd V main_v39 : IVec S576 32) (ix1 T) = BitVec.ofNat 32 (cut n (256 * T.val + 255))) :
    (rd (StableHlo.after (hostOps0_4 (F := F)) V) main_v76 : IVec S_ 32) ix0 = BitVec.ofNat 32 (cut n (256 * 575 + 255)) := by
  show (StableHlo.after hostOps0_4 V (Proc.devRef .tc main_v76) : IVec S_ 32) ix0 = _
  after_results
  refine Eq.trans (shapeCast_apply (s := S1) _ shapeCasts_S1_S_ ix0 (ix1 (0 : Fin 1)) ?_) ?_
  · exact (Nat.lt_one_iff.1 ((S1.rowMajor (ix1 (0 : Fin 1))).isLt)).trans (Nat.lt_one_iff.1 ((S_.rowMajor ix0).isLt)).symm
  · rw [slice1 575 _ slices_S576_S1_575 (0 : Fin 1) (by decide)]
    exact h39 ⟨575, by decide⟩

end Four

/-- Stretch 5: each item's expert. -/
theorem st5_ex (h49 : ∀ p : Fin 607, (rd V main_v49 : IVec S607 1) (ix1 p) = BitVec.ofBool (decide (p.val < total n)))
    (h74 : ∀ p : Fin 607, p.val < total n → (rd V main_v74 : IVec S607 32) (ix1 p)
      = BitVec.ofNat 32 (cut n (256 * tileOf n p.val) + (p.val - pre (per n) (tileOf n p.val))))
    (h76 : (rd V main_v76 : IVec S_ 32) ix0 = BitVec.ofNat 32 (cut n (256 * 575 + 255))) (p : Fin 607) :
    (rd (StableHlo.after (hostOps0_5 (F := F)) V) main_v77 : IVec S607 32) (ix1 p) = BitVec.ofNat 32 (exOf n p.val) := by
  simp only [rd, hostOps0_5, StableHlo.TRef.ternary, StableHlo.TRef.unary, StableHlo.TRef.toBuf, StableHlo.TRef.ofBuf, cast_eq]
  after_results_simp
  show Scalar.select ((rd V main_v49 : IVec S607 1) (ix1 p)) ((rd V main_v74 : IVec S607 32) (ix1 p))
    (broadcastInDim S607 ![] bcast_S_S607 (rd V main_v76 : IVec S_ 32) (ix1 p)) = _
  rw [bc0 bcast_S_S607 _ (ix1 p), h49, h76]
  unfold Scalar.select exOf
  by_cases h : p.val < total n
  · rw [decide_eq_true h, if_pos (by decide), if_pos h, h74 p h]
  · rw [decide_eq_false h, if_neg (by decide), if_neg h]

/-- Stretches 6 and 8: where an expert's slots begin or end, from the tile's first slot. -/
theorem bound_word (x : IVec S32 32) (f : ℕ → ℕ) (hx : ∀ e : Fin 32, x (ix1 e) = BitVec.ofNat 32 (f e.val)) (ex tl w : IVec S607 32)
    (hex : ∀ p : Fin 607, ex (ix1 p) = BitVec.ofNat 32 (exOf n p.val)) (htl : ∀ p : Fin 607, tl (ix1 p) = BitVec.ofNat 32 (tileOf n p.val)) (p : Fin 607) :
    subi (Host.gather gather_S32_S607x1_S607_n_0_n_n_0_1_1 x (broadcastInDim S607x1 ![0] bcast_S607_S607x1_0
      (select (cmpi .slt ex (broadcastInDim S607 ![] bcast_S_S607 (constantI S_ 32 0#32))) w ex)))
      (muli tl (broadcastInDim S607 ![] bcast_S_S607 (constantI S_ 32 256#32))) (ix1 p)
      = BitVec.ofNat 32 (f (exOf n p.val)) - BitVec.ofNat 32 (256 * tileOf n p.val) := by
  have hk := exOf_le n p.val
  have hp := hex p
  generalize exOf n p.val = k at hk hp ⊢
  obtain ⟨b, hb⟩ : ∃ b : Fin 32, b.val = k := ⟨⟨k, by omega⟩, rfl⟩
  have g := take_word gather_S32_S607x1_S607_n_0_n_n_0_1_1 rfl rfl rfl rfl (by decide) x ex w (constantI S_ 32 0#32) rfl p b
    (hp.trans (congrArg (BitVec.ofNat 32) hb.symm))
  rw [subi_ap, muli_ap, g, hx, htl, hb, show broadcastInDim S607 ![] bcast_S_S607 (constantI S_ 32 256#32) (ix1 p) = BitVec.ofNat 32 256 from rfl,
    ← BitVec.ofNat_mul, Nat.mul_comm]

section Bounds

variable (h77 : ∀ p : Fin 607, (rd V main_v77 : IVec S607 32) (ix1 p) = BitVec.ofNat 32 (exOf n p.val))
  (h58 : ∀ p : Fin 607, (rd V main_v58 : IVec S607 32) (ix1 p) = BitVec.ofNat 32 (tileOf n p.val))

include h77 h58 in
/-- Stretch 6. -/
theorem st6_lo (h14 : ∀ e : Fin 32, (rd V main_v14 : IVec S32 32) (ix1 e) = BitVec.ofNat 32 (pre n e.val)) (p : Fin 607) :
    (rd (StableHlo.after (hostOps0_6 (F := F)) V) main_v87 : IVec S607 32) (ix1 p)
      = BitVec.ofNat 32 (pre n (exOf n p.val)) - BitVec.ofNat 32 (256 * tileOf n p.val) := by
  show (StableHlo.after hostOps0_6 V (Proc.devRef .tc main_v87) : IVec S607 32) (ix1 p) = _
  after_results
  exact bound_word n _ (pre n) h14 _ _ _ h77 h58 p

/-- Stretch 6: the clip's ends. -/
theorem st6_ends : (rd (StableHlo.after (hostOps0_6 (F := F)) V) main_c_16 : IVec S_ 32) = constantI S_ 32 0#32
    ∧ (rd (StableHlo.after (hostOps0_6 (F := F)) V) main_c_17 : IVec S_ 32) = constantI S_ 32 256#32 := by
  constructor <;> (unfold rd; after_results)

include h77 h58 in
/-- Stretch 8. -/
theorem st8_hi (h13 : ∀ e : Fin 32, (rd V main_v13 : IVec S32 32) (ix1 e) = BitVec.ofNat 32 (pre n (e.val + 1))) (p : Fin 607) :
    (rd (StableHlo.after (hostOps0_8 (F := F)) V) main_v98 : IVec S607 32) (ix1 p)
      = BitVec.ofNat 32 (pre n (exOf n p.val + 1)) - BitVec.ofNat 32 (256 * tileOf n p.val) := by
  show (StableHlo.after hostOps0_8 V (Proc.devRef .tc main_v98) : IVec S607 32) (ix1 p) = _
  after_results
  exact bound_word n _ (fun e => pre n (e + 1)) h13 _ _ _ h77 h58 p

/-- Stretch 8: the clip's ends. -/
theorem st8_ends : (rd (StableHlo.after (hostOps0_8 (F := F)) V) main_c_21 : IVec S_ 32) = constantI S_ 32 0#32
    ∧ (rd (StableHlo.after (hostOps0_8 (F := F)) V) main_c_22 : IVec S_ 32) = constantI S_ 32 256#32 := by
  constructor <;> (unfold rd; after_results)

end Bounds

/-- Stretch 7: the clipped begin. -/
theorem st7_lo (a b : ℕ) (ha : a < 2 ^ 30) (hb : b < 2 ^ 30) (p : Fin 607)
    (hc : (rd V main_c_16 : IVec S_ 32) = constantI S_ 32 0#32 ∧ (rd V main_c_17 : IVec S_ 32) = constantI S_ 32 256#32)
    (h87 : (rd V main_v87 : IVec S607 32) (ix1 p) = BitVec.ofNat 32 a - BitVec.ofNat 32 b) :
    (rd (StableHlo.after (hostOps0_7 (F := F)) V) main_v88 : IVec S607 32) (ix1 p) = BitVec.ofNat 32 (min (a - b) 256) := by
  simp only [rd, hostOps0_7, StableHlo.TRef.binary, StableHlo.TRef.unary, StableHlo.TRef.toBuf, StableHlo.TRef.ofBuf, cast_eq]
  after_results_simp
  show IntOp.minsi (broadcastInDim S607 ![] bcast_S_S607 (rd V main_c_17 : IVec S_ 32) (ix1 p))
    (IntOp.maxsi (broadcastInDim S607 ![] bcast_S_S607 (rd V main_c_16 : IVec S_ 32) (ix1 p)) ((rd V main_v87 : IVec S607 32) (ix1 p))) = _
  rw [bc0 bcast_S_S607 _ (ix1 p), bc0 bcast_S_S607 _ (ix1 p), hc.1, hc.2, h87]
  exact clip_word ha hb

/-- Stretch 9: the clipped end. -/
theorem st9_hi (a b : ℕ) (ha : a < 2 ^ 30) (hb : b < 2 ^ 30) (p : Fin 607)
    (hc : (rd V main_c_21 : IVec S_ 32) = constantI S_ 32 0#32 ∧ (rd V main_c_22 : IVec S_ 32) = constantI S_ 32 256#32)
    (h98 : (rd V main_v98 : IVec S607 32) (ix1 p) = BitVec.ofNat 32 a - BitVec.ofNat 32 b) :
    (rd (StableHlo.after (hostOps0_9 (F := F)) V) main_v99 : IVec S607 32) (ix1 p) = BitVec.ofNat 32 (min (a - b) 256) := by
  simp only [rd, hostOps0_9, StableHlo.TRef.binary, StableHlo.TRef.unary, StableHlo.TRef.toBuf, StableHlo.TRef.ofBuf, cast_eq]
  after_results_simp
  show IntOp.minsi (broadcastInDim S607 ![] bcast_S_S607 (rd V main_c_22 : IVec S_ 32) (ix1 p))
    (IntOp.maxsi (broadcastInDim S607 ![] bcast_S_S607 (rd V main_c_21 : IVec S_ 32) (ix1 p)) ((rd V main_v98 : IVec S607 32) (ix1 p))) = _
  rw [bc0 bcast_S_S607 _ (ix1 p), bc0 bcast_S_S607 _ (ix1 p), hc.1, hc.2, h98]
  exact clip_word ha hb

/-- Stretch 10: which items are their tiles' first. -/
theorem st10_first (h58 : ∀ p : Fin 607, (rd V main_v58 : IVec S607 32) (ix1 p) = BitVec.ofNat 32 (tileOf n p.val))
    (h47 : ∀ p : Fin 607, (rd V main_v47 : IVec S607 32) (ix1 p) = BitVec.ofNat 32 p.val)
    (h44 : ∀ T : Fin 576, (rd V main_v44 : IVec S576 32) (ix1 T) = BitVec.ofNat 32 (pre (per n) T.val)) (p : Fin 607) :
    (rd (StableHlo.after (hostOps0_10 (F := F)) V) main_v108 : IVec S607 32) (ix1 p)
      = BitVec.ofNat 32 (if p.val = pre (per n) (tileOf n p.val) then 1 else 0) := by
  show (StableHlo.after hostOps0_10 V (Proc.devRef .tc main_v108) : IVec S607 32) (ix1 p) = _
  after_results
  have hT := tileOf_le n p.val
  have g := take_word gather_S576_S607x1_S607_n_0_n_n_0_1_1 rfl rfl rfl rfl (by decide) (rd V main_v44 : IVec S576 32)
    (rd V main_v58 : IVec S607 32)
    (addi (rd V main_v58 : IVec S607 32) (broadcastInDim S607 ![] bcast_S_S607 (constantI S_ 32 576#32)))
    (constantI S_ 32 0#32) rfl p ⟨tileOf n p.val, by omega⟩ (h58 p)
  refine Eq.trans (congrArg₂ (fun a b : BitVec 32 => (IntOp.cmpi .eq a b).setWidth 32) (h47 p) (g.trans (h44 _))) ?_
  have k : pre (per n) (tileOf n p.val) ≤ total n := pre_mono _ (by omega)
  have ht := total_le n
  have hp := p.isLt
  have e : IntOp.cmpi .eq (BitVec.ofNat 32 p.val) (BitVec.ofNat 32 (pre (per n) (tileOf n p.val)))
      = BitVec.ofBool (decide (p.val = pre (per n) (tileOf n p.val))) := by
    unfold IntOp.cmpi
    congr 1
    show (BitVec.ofNat 32 p.val == BitVec.ofNat 32 (pre (per n) (tileOf n p.val))) = _
    by_cases h : p.val = pre (per n) (tileOf n p.val)
    · rw [decide_eq_true h, ← h, beq_self_eq_true]
    · rw [decide_eq_false h, beq_eq_false_iff_ne]
      intro he
      have := congrArg BitVec.toNat he
      rw [BitVec.toNat_ofNat, BitVec.toNat_ofNat] at this
      omega
  rw [e]
  exact setWidth_ofBool _

/-- Stretch 10: which items are live. -/
theorem st10_valid (h49 : ∀ p : Fin 607, (rd V main_v49 : IVec S607 1) (ix1 p) = BitVec.ofBool (decide (p.val < total n))) (p : Fin 607) :
    (rd (StableHlo.after (hostOps0_10 (F := F)) V) main_v109 : IVec S607 32) (ix1 p) = BitVec.ofNat 32 (if p.val < total n then 1 else 0) := by
  show (StableHlo.after hostOps0_10 V (Proc.devRef .tc main_v109) : IVec S607 32) (ix1 p) = _
  after_results
  exact (congrArg (fun b : BitVec 1 => b.setWidth 32) (h49 p)).trans (setWidth_ofBool _)

/-- Stretch 10: the weights' row of each item. -/
theorem st10_ex (h77 : ∀ p : Fin 607, (rd V main_v77 : IVec S607 32) (ix1 p) = BitVec.ofNat 32 (exOf n p.val)) (p : Fin 607) :
    (rd (StableHlo.after (hostOps0_10 (F := F)) V) main_v111 : IVec S607 32) (ix1 p) = BitVec.ofNat 32 (exOf n p.val) := by
  show (StableHlo.after hostOps0_10 V (Proc.devRef .tc main_v111) : IVec S607 32) (ix1 p) = _
  after_results
  refine (congrArg (fun b : BitVec 32 => b + 0#32) (h77 p)).trans ?_
  rw [BitVec.add_zero]

end Later

end Cert.Gmm

end
-- ==== Proof.GmmChain.lean ====
/-
  The tables and the weights the grouped matmul is called with, as functions of the arguments: the host code's stretches
  (Proof/GmmTables.lean) one after another. The precondition read as: the counts are numbers and add up to the slots.
-/
module

public import proofs.«01_k».proof.Proof.GmmTables
public import proofs.«01_k».proof.Pre_counts_add_up

@[expose] public section

noncomputable section

namespace Cert.Gmm

open Cert.Kernel2Ideal Cert.Kernel2Ideal.Gen
open Idealize.ShloMosaic Idealize.ShloMosaic.TcCoe Idealize.SL.Sem
open Idealize.ShloMosaic.Routing Idealize.ShloMosaic.ValueIdx

variable {F : FTy → Type} [FloatOps F]

/-! ## The counts -/

/-- The counts as numbers. -/
def num (x : IVec S32 32) (e : ℕ) : ℕ := if h : e < 32 then (x (ix1 ⟨e, h⟩)).toNat else 0

/-- The counts' words hold them. -/
theorem num_word (x : IVec S32 32) (e : Fin 32) : x (ix1 e) = BitVec.ofNat 32 (num x e.val) := by
  unfold num
  rw [dif_pos e.isLt, BitVec.ofNat_toNat, BitVec.setWidth_eq]

/-- Two bits both set. -/
theorem and_one : ∀ a b : BitVec 1, IntOp.andi a b = 1#1 → a = 1#1 ∧ b = 1#1 := by decide

/-- A word between two bounds, read off the two comparisons. -/
theorem word_le (w : BitVec 32) (h1 : IntOp.cmpi .sge w 0#32 = 1#1) (h2 : IntOp.cmpi .sle w 147456#32 = 1#1) : w.toNat ≤ 147456 := by
  simp only [IntOp.cmpi] at h1 h2
  rw [StableHlo.Predicate.ofBool_eq_one_iff, BitVec.sle_eq_decide, decide_eq_true_eq] at h1 h2
  have z0 : (0#32 : BitVec 32).toInt = 0 := by decide
  have z1 : (147456#32 : BitVec 32).toInt = 147456 := by decide
  rw [z0] at h1
  rw [z1] at h2
  rw [BitVec.toInt_eq_toNat_cond] at h1 h2
  have hw := w.isLt
  split at h1 <;> omega

/-- One count's part of the precondition, and the part about the sum. -/
theorem pre_read (x : IVec S32 32) (hb : S_.BroadcastsInDim S32 (![] : Fin 0 → Fin S32.rank)) (C : IVec S_ 1) (e : Fin 32)
    (h : andi (andi (cmpi .sge x (broadcastInDim S32 ![] hb (constantI S_ 32 0#32))) (cmpi .sle x (broadcastInDim S32 ![] hb (constantI S_ 32 147456#32))))
      (broadcastInDim S32 ![] hb C) (ix1 e) = 1#1) : (x (ix1 e)).toNat ≤ 147456 ∧ C ix0 = 1#1 := by
  obtain ⟨h1, h2⟩ := and_one _ _ h
  obtain ⟨h3, h4⟩ := and_one _ _ h1
  rw [bc0 hb C (ix1 e)] at h2
  exact ⟨word_le _ h3 h4, h2⟩

/-- The part about the sum, at the last running sum. -/
theorem last_read (v : IVec S32 32) (hs : S32.Slices ![31] S1) (hc : S1.ShapeCasts S_)
    (h : cmpi .eq (shapeCast S_ (extractStridedSlice S1 ![31] v hs) hc) (constantI S_ 32 147456#32) ix0 = 1#1) : v (ix1 31) = 147456#32 := by
  simp only [cmpi, IntOp.cmpi] at h
  rw [StableHlo.Predicate.ofBool_eq_one_iff, beq_iff_eq] at h
  refine Eq.trans ?_ h
  symm
  refine Eq.trans (shapeCast_apply (s := S1) _ _ ix0 (ix1 (0 : Fin 1)) ?_) ?_
  · exact (Nat.lt_one_iff.1 ((S1.rowMajor (ix1 (0 : Fin 1))).isLt)).trans (Nat.lt_one_iff.1 ((S_.rowMajor ix0).isLt)).symm
  · exact slice1 31 _ _ (0 : Fin 1) (by decide)

/-- The precondition, read: the counts add up to the number of slots. -/
theorem sum_of_pre [Cert.Pre_counts_add_up.Facts] (x0 : FVec F Cert.Pre_counts_add_up.S2359296x128 .f32) (x : IVec S32 32)
    (x2 : FVec F Cert.Pre_counts_add_up.S2x32x2048x4096 .f32) (x3 : FVec F Cert.Pre_counts_add_up.S2x32x4096 .f32)
    (x4 : FVec F Cert.Pre_counts_add_up.S2x32x2048x2048 .f32) (x5 : FVec F Cert.Pre_counts_add_up.S2x32x2048 .f32)
    (h : Cert.Pre_counts_add_up.fn (F := F) x0 x x2 x3 x4 x5 = fun _ => 1#1) : pre (num x) 32 = 147456 := by
  simp only [Cert.Pre_counts_add_up.fn, Cert.Pre_counts_add_up.fn_cumsum, Cert.Pre_counts_add_up.fn_cumsum_0] at h
  have hj := fun e : Fin 32 => pre_read x _ _ e (congrFun h (ix1 e))
  have hn : ∀ e, num x e ≤ 147456 := fun e => by
    unfold num
    by_cases he : e < 32
    · rw [dif_pos he]; exact (hj ⟨e, he⟩).1
    · rw [dif_neg he]; omega
  have hsum : ∀ k, pre (num x) k ≤ k * 147456 := fun k => by
    induction k with
    | zero => rw [pre_zero]
    | succ k ih => rw [pre_succ]; have := hn k; omega
  have e3 : BitVec.ofNat 32 (pre (num x) 32) = 147456#32 := by
    rw [← last_read _ _ _ (hj 0).2]
    symm
    exact cumsum1 (N := 32) (Nm1 := 31) rfl _ (num x) (num_word x) _ rfl _ _ ⟨31, by decide⟩
  have h4 := hsum 32
  have := congrArg BitVec.toNat e3
  rw [BitVec.toNat_ofNat] at this
  have z : (147456#32 : BitVec 32).toNat = 147456 := by decide
  rw [z] at this
  omega

/-! ## The stretches one after another -/

/-- The host code before the call. -/
abbrev prep : List (List (HloOp τ sig (Elt F))) :=
  [hostOps0, hostOps0_1, hostOps0_2, hostOps0_3, hostOps0_4, hostOps0_5, hostOps0_6, hostOps0_7, hostOps0_8, hostOps0_9, hostOps0_10]

/-- A line of operations cut in two. -/
theorem after_app (a b : List (HloOp τ sig (Elt F))) (V : Valuation τ sig (Elt F)) :
    StableHlo.after (a ++ b) V = StableHlo.after b (StableHlo.after a V) := by
  induction a generalizing V with
  | nil => rfl
  | cons op a ih => exact ih _

variable (V : Valuation τ sig (Elt F))

/-- The buffers after stretch 0. -/
def at0 : Valuation τ sig (Elt F) := StableHlo.after hostOps0 V
/-- The buffers after stretch 1. -/
def at1 : Valuation τ sig (Elt F) := StableHlo.after hostOps0_1 (at0 V)
/-- The buffers after stretch 2. -/
def at2 : Valuation τ sig (Elt F) := StableHlo.after hostOps0_2 (at1 V)
/-- The buffers after stretch 3. -/
def at3 : Valuation τ sig (Elt F) := StableHlo.after hostOps0_3 (at2 V)
/-- The buffers after stretch 4. -/
def at4 : Valuation τ sig (Elt F) := StableHlo.after hostOps0_4 (at3 V)
/-- The buffers after stretch 5. -/
def at5 : Valuation τ sig (Elt F) := StableHlo.after hostOps0_5 (at4 V)
/-- The buffers after stretch 6. -/
def at6 : Valuation τ sig (Elt F) := StableHlo.after hostOps0_6 (at5 V)
/-- The buffers after stretch 7. -/
def at7 : Valuation τ sig (Elt F) := StableHlo.after hostOps0_7 (at6 V)
/-- The buffers after stretch 8. -/
def at8 : Valuation τ sig (Elt F) := StableHlo.after hostOps0_8 (at7 V)
/-- The buffers after stretch 9. -/
def at9 : Valuation τ sig (Elt F) := StableHlo.after hostOps0_9 (at8 V)
/-- The buffers after stretch 10. -/
def at10 : Valuation τ sig (Elt F) := StableHlo.after hostOps0_10 (at9 V)

/-- After the eleven lines. -/
theorem after_lines (a0 a1 a2 a3 a4 a5 a6 a7 a8 a9 a10 : List (HloOp τ sig (Elt F))) :
    StableHlo.after ([a0, a1, a2, a3, a4, a5, a6, a7, a8, a9, a10].flatten) V
      = StableHlo.after a10 (StableHlo.after a9 (StableHlo.after a8 (StableHlo.after a7 (StableHlo.after a6 (StableHlo.after a5
          (StableHlo.after a4 (StableHlo.after a3 (StableHlo.after a2 (StableHlo.after a1 (StableHlo.after a0 V)))))))))) := by
  simp only [List.flatten_cons, List.flatten_nil, List.append_nil, after_app]

/-- All of it. -/
theorem after_prep : StableHlo.after (prep (F := F)).flatten V = at10 V :=
  after_lines V _ _ _ _ _ _ _ _ _ _ _

/-- Kept. -/
theorem keep_main_v13_1_2 : rd (at2 V) main_v13 = rd (at1 V) main_v13 :=
  (keep2 (at1 V) (r := main_v13) (by decide))
/-- Kept. -/
theorem keep_main_v13_1_7 : rd (at7 V) main_v13 = rd (at1 V) main_v13 :=
  (keep7 (at6 V) (r := main_v13) (by decide)).trans <| (keep6 (at5 V) (r := main_v13) (by decide)).trans <| (keep5 (at4 V) (r := main_v13) (by decide)).trans <| (keep4 (at3 V) (r := main_v13) (by decide)).trans <| (keep3 (at2 V) (r := main_v13) (by decide)).trans <| (keep2 (at1 V) (r := main_v13) (by decide))
/-- Kept. -/
theorem keep_main_v42_2_3 : rd (at3 V) main_v42 = rd (at2 V) main_v42 :=
  (keep3 (at2 V) (r := main_v42) (by decide))
/-- Kept. -/
theorem keep_main_v26_2_3 : rd (at3 V) main_v26 = rd (at2 V) main_v26 :=
  (keep3 (at2 V) (r := main_v26) (by decide))
/-- Kept. -/
theorem keep_main_v39_2_3 : rd (at3 V) main_v39 = rd (at2 V) main_v39 :=
  (keep3 (at2 V) (r := main_v39) (by decide))
/-- Kept. -/
theorem keep_main_v14_2_5 : rd (at5 V) main_v14 = rd (at2 V) main_v14 :=
  (keep5 (at4 V) (r := main_v14) (by decide)).trans <| (keep4 (at3 V) (r := main_v14) (by decide)).trans <| (keep3 (at2 V) (r := main_v14) (by decide))
/-- Kept. -/
theorem keep_main_v58_4_5 : rd (at5 V) main_v58 = rd (at4 V) main_v58 :=
  (keep5 (at4 V) (r := main_v58) (by decide))
/-- Kept. -/
theorem keep_main_v58_4_7 : rd (at7 V) main_v58 = rd (at4 V) main_v58 :=
  (keep7 (at6 V) (r := main_v58) (by decide)).trans <| (keep6 (at5 V) (r := main_v58) (by decide)).trans <| (keep5 (at4 V) (r := main_v58) (by decide))
/-- Kept. -/
theorem keep_main_v58_4_9 : rd (at9 V) main_v58 = rd (at4 V) main_v58 :=
  (keep9 (at8 V) (r := main_v58) (by decide)).trans <| (keep8 (at7 V) (r := main_v58) (by decide)).trans <| (keep7 (at6 V) (r := main_v58) (by decide)).trans <| (keep6 (at5 V) (r := main_v58) (by decide)).trans <| (keep5 (at4 V) (r := main_v58) (by decide))
/-- Kept. -/
theorem keep_main_v58_4_10 : rd (at10 V) main_v58 = rd (at4 V) main_v58 :=
  (keep10 (at9 V) (r := main_v58) (by decide)).trans <| (keep9 (at8 V) (r := main_v58) (by decide)).trans <| (keep8 (at7 V) (r := main_v58) (by decide)).trans <| (keep7 (at6 V) (r := main_v58) (by decide)).trans <| (keep6 (at5 V) (r := main_v58) (by decide)).trans <| (keep5 (at4 V) (r := main_v58) (by decide))
/-- Kept. -/
theorem keep_main_v77_5_7 : rd (at7 V) main_v77 = rd (at5 V) main_v77 :=
  (keep7 (at6 V) (r := main_v77) (by decide)).trans <| (keep6 (at5 V) (r := main_v77) (by decide))
/-- Kept. -/
theorem keep_main_v77_5_9 : rd (at9 V) main_v77 = rd (at5 V) main_v77 :=
  (keep9 (at8 V) (r := main_v77) (by decide)).trans <| (keep8 (at7 V) (r := main_v77) (by decide)).trans <| (keep7 (at6 V) (r := main_v77) (by decide)).trans <| (keep6 (at5 V) (r := main_v77) (by decide))
/-- Kept. -/
theorem keep_main_v47_4_9 : rd (at9 V) main_v47 = rd (at4 V) main_v47 :=
  (keep9 (at8 V) (r := main_v47) (by decide)).trans <| (keep8 (at7 V) (r := main_v47) (by decide)).trans <| (keep7 (at6 V) (r := main_v47) (by decide)).trans <| (keep6 (at5 V) (r := main_v47) (by decide)).trans <| (keep5 (at4 V) (r := main_v47) (by decide))
/-- Kept. -/
theorem keep_main_v44_4_9 : rd (at9 V) main_v44 = rd (at4 V) main_v44 :=
  (keep9 (at8 V) (r := main_v44) (by decide)).trans <| (keep8 (at7 V) (r := main_v44) (by decide)).trans <| (keep7 (at6 V) (r := main_v44) (by decide)).trans <| (keep6 (at5 V) (r := main_v44) (by decide)).trans <| (keep5 (at4 V) (r := main_v44) (by decide))
/-- Kept. -/
theorem keep_main_v49_4_9 : rd (at9 V) main_v49 = rd (at4 V) main_v49 :=
  (keep9 (at8 V) (r := main_v49) (by decide)).trans <| (keep8 (at7 V) (r := main_v49) (by decide)).trans <| (keep7 (at6 V) (r := main_v49) (by decide)).trans <| (keep6 (at5 V) (r := main_v49) (by decide)).trans <| (keep5 (at4 V) (r := main_v49) (by decide))
/-- Kept. -/
theorem keep_main_v88_7_10 : rd (at10 V) main_v88 = rd (at7 V) main_v88 :=
  (keep10 (at9 V) (r := main_v88) (by decide)).trans <| (keep9 (at8 V) (r := main_v88) (by decide)).trans <| (keep8 (at7 V) (r := main_v88) (by decide))
/-- Kept. -/
theorem keep_main_v99_9_10 : rd (at10 V) main_v99 = rd (at9 V) main_v99 :=
  (keep10 (at9 V) (r := main_v99) (by decide))
/-- Kept. -/
theorem keep_main_v2_0_10 : rd (at10 V) main_v2 = rd (at0 V) main_v2 :=
  (keep10 (at9 V) (r := main_v2) (by decide)).trans <| (keep9 (at8 V) (r := main_v2) (by decide)).trans <| (keep8 (at7 V) (r := main_v2) (by decide)).trans <| (keep7 (at6 V) (r := main_v2) (by decide)).trans <| (keep6 (at5 V) (r := main_v2) (by decide)).trans <| (keep5 (at4 V) (r := main_v2) (by decide)).trans <| (keep4 (at3 V) (r := main_v2) (by decide)).trans <| (keep3 (at2 V) (r := main_v2) (by decide)).trans <| (keep2 (at1 V) (r := main_v2) (by decide)).trans <| (keep1 (at0 V) (r := main_v2) (by decide))
/-- Kept. -/
theorem keep_main_v5_0_10 : rd (at10 V) main_v5 = rd (at0 V) main_v5 :=
  (keep10 (at9 V) (r := main_v5) (by decide)).trans <| (keep9 (at8 V) (r := main_v5) (by decide)).trans <| (keep8 (at7 V) (r := main_v5) (by decide)).trans <| (keep7 (at6 V) (r := main_v5) (by decide)).trans <| (keep6 (at5 V) (r := main_v5) (by decide)).trans <| (keep5 (at4 V) (r := main_v5) (by decide)).trans <| (keep4 (at3 V) (r := main_v5) (by decide)).trans <| (keep3 (at2 V) (r := main_v5) (by decide)).trans <| (keep2 (at1 V) (r := main_v5) (by decide)).trans <| (keep1 (at0 V) (r := main_v5) (by decide))
/-- Kept. -/
theorem keep_main_v7_0_10 : rd (at10 V) main_v7 = rd (at0 V) main_v7 :=
  (keep10 (at9 V) (r := main_v7) (by decide)).trans <| (keep9 (at8 V) (r := main_v7) (by decide)).trans <| (keep8 (at7 V) (r := main_v7) (by decide)).trans <| (keep7 (at6 V) (r := main_v7) (by decide)).trans <| (keep6 (at5 V) (r := main_v7) (by decide)).trans <| (keep5 (at4 V) (r := main_v7) (by decide)).trans <| (keep4 (at3 V) (r := main_v7) (by decide)).trans <| (keep3 (at2 V) (r := main_v7) (by decide)).trans <| (keep2 (at1 V) (r := main_v7) (by decide)).trans <| (keep1 (at0 V) (r := main_v7) (by decide))
/-- Kept. -/
theorem keep_main_v9_0_10 : rd (at10 V) main_v9 = rd (at0 V) main_v9 :=
  (keep10 (at9 V) (r := main_v9) (by decide)).trans <| (keep9 (at8 V) (r := main_v9) (by decide)).trans <| (keep8 (at7 V) (r := main_v9) (by decide)).trans <| (keep7 (at6 V) (r := main_v9) (by decide)).trans <| (keep6 (at5 V) (r := main_v9) (by decide)).trans <| (keep5 (at4 V) (r := main_v9) (by decide)).trans <| (keep4 (at3 V) (r := main_v9) (by decide)).trans <| (keep3 (at2 V) (r := main_v9) (by decide)).trans <| (keep2 (at1 V) (r := main_v9) (by decide)).trans <| (keep1 (at0 V) (r := main_v9) (by decide))
/-- Kept. -/
theorem keep_main_v11_0_10 : rd (at10 V) main_v11 = rd (at0 V) main_v11 :=
  (keep10 (at9 V) (r := main_v11) (by decide)).trans <| (keep9 (at8 V) (r := main_v11) (by decide)).trans <| (keep8 (at7 V) (r := main_v11) (by decide)).trans <| (keep7 (at6 V) (r := main_v11) (by decide)).trans <| (keep6 (at5 V) (r := main_v11) (by decide)).trans <| (keep5 (at4 V) (r := main_v11) (by decide)).trans <| (keep4 (at3 V) (r := main_v11) (by decide)).trans <| (keep3 (at2 V) (r := main_v11) (by decide)).trans <| (keep2 (at1 V) (r := main_v11) (by decide)).trans <| (keep1 (at0 V) (r := main_v11) (by decide))
/-- Kept. -/
theorem keep_main_v12_0_10 : rd (at10 V) main_v12 = rd (at0 V) main_v12 :=
  (keep10 (at9 V) (r := main_v12) (by decide)).trans <| (keep9 (at8 V) (r := main_v12) (by decide)).trans <| (keep8 (at7 V) (r := main_v12) (by decide)).trans <| (keep7 (at6 V) (r := main_v12) (by decide)).trans <| (keep6 (at5 V) (r := main_v12) (by decide)).trans <| (keep5 (at4 V) (r := main_v12) (by decide)).trans <| (keep4 (at3 V) (r := main_v12) (by decide)).trans <| (keep3 (at2 V) (r := main_v12) (by decide)).trans <| (keep2 (at1 V) (r := main_v12) (by decide)).trans <| (keep1 (at0 V) (r := main_v12) (by decide))
/-- Kept. -/
theorem keep_main_arg0 : rd (at10 V) main_arg0 = rd V main_arg0 :=
  (keep10 (at9 V) (r := main_arg0) (by decide)).trans <| (keep9 (at8 V) (r := main_arg0) (by decide)).trans <| (keep8 (at7 V) (r := main_arg0) (by decide)).trans <| (keep7 (at6 V) (r := main_arg0) (by decide)).trans <| (keep6 (at5 V) (r := main_arg0) (by decide)).trans <| (keep5 (at4 V) (r := main_arg0) (by decide)).trans <| (keep4 (at3 V) (r := main_arg0) (by decide)).trans <| (keep3 (at2 V) (r := main_arg0) (by decide)).trans <| (keep2 (at1 V) (r := main_arg0) (by decide)).trans <| (keep1 (at0 V) (r := main_arg0) (by decide)).trans <| (keep0 V (r := main_arg0) (by decide))
/-- Kept. -/
theorem keep_main_arg1 : rd (at10 V) main_arg1 = rd V main_arg1 :=
  (keep10 (at9 V) (r := main_arg1) (by decide)).trans <| (keep9 (at8 V) (r := main_arg1) (by decide)).trans <| (keep8 (at7 V) (r := main_arg1) (by decide)).trans <| (keep7 (at6 V) (r := main_arg1) (by decide)).trans <| (keep6 (at5 V) (r := main_arg1) (by decide)).trans <| (keep5 (at4 V) (r := main_arg1) (by decide)).trans <| (keep4 (at3 V) (r := main_arg1) (by decide)).trans <| (keep3 (at2 V) (r := main_arg1) (by decide)).trans <| (keep2 (at1 V) (r := main_arg1) (by decide)).trans <| (keep1 (at0 V) (r := main_arg1) (by decide)).trans <| (keep0 V (r := main_arg1) (by decide))
/-- Kept. -/
theorem keep_main_arg2 : rd (at10 V) main_arg2 = rd V main_arg2 :=
  (keep10 (at9 V) (r := main_arg2) (by decide)).trans <| (keep9 (at8 V) (r := main_arg2) (by decide)).trans <| (keep8 (at7 V) (r := main_arg2) (by decide)).trans <| (keep7 (at6 V) (r := main_arg2) (by decide)).trans <| (keep6 (at5 V) (r := main_arg2) (by decide)).trans <| (keep5 (at4 V) (r := main_arg2) (by decide)).trans <| (keep4 (at3 V) (r := main_arg2) (by decide)).trans <| (keep3 (at2 V) (r := main_arg2) (by decide)).trans <| (keep2 (at1 V) (r := main_arg2) (by decide)).trans <| (keep1 (at0 V) (r := main_arg2) (by decide)).trans <| (keep0 V (r := main_arg2) (by decide))
/-- Kept. -/
theorem keep_main_arg3 : rd (at10 V) main_arg3 = rd V main_arg3 :=
  (keep10 (at9 V) (r := main_arg3) (by decide)).trans <| (keep9 (at8 V) (r := main_arg3) (by decide)).trans <| (keep8 (at7 V) (r := main_arg3) (by decide)).trans <| (keep7 (at6 V) (r := main_arg3) (by decide)).trans <| (keep6 (at5 V) (r := main_arg3) (by decide)).trans <| (keep5 (at4 V) (r := main_arg3) (by decide)).trans <| (keep4 (at3 V) (r := main_arg3) (by decide)).trans <| (keep3 (at2 V) (r := main_arg3) (by decide)).trans <| (keep2 (at1 V) (r := main_arg3) (by decide)).trans <| (keep1 (at0 V) (r := main_arg3) (by decide)).trans <| (keep0 V (r := main_arg3) (by decide))
/-- Kept. -/
theorem keep_main_arg4 : rd (at10 V) main_arg4 = rd V main_arg4 :=
  (keep10 (at9 V) (r := main_arg4) (by decide)).trans <| (keep9 (at8 V) (r := main_arg4) (by decide)).trans <| (keep8 (at7 V) (r := main_arg4) (by decide)).trans <| (keep7 (at6 V) (r := main_arg4) (by decide)).trans <| (keep6 (at5 V) (r := main_arg4) (by decide)).trans <| (keep5 (at4 V) (r := main_arg4) (by decide)).trans <| (keep4 (at3 V) (r := main_arg4) (by decide)).trans <| (keep3 (at2 V) (r := main_arg4) (by decide)).trans <| (keep2 (at1 V) (r := main_arg4) (by decide)).trans <| (keep1 (at0 V) (r := main_arg4) (by decide)).trans <| (keep0 V (r := main_arg4) (by decide))
/-- Kept. -/
theorem keep_main_arg5 : rd (at10 V) main_arg5 = rd V main_arg5 :=
  (keep10 (at9 V) (r := main_arg5) (by decide)).trans <| (keep9 (at8 V) (r := main_arg5) (by decide)).trans <| (keep8 (at7 V) (r := main_arg5) (by decide)).trans <| (keep7 (at6 V) (r := main_arg5) (by decide)).trans <| (keep6 (at5 V) (r := main_arg5) (by decide)).trans <| (keep5 (at4 V) (r := main_arg5) (by decide)).trans <| (keep4 (at3 V) (r := main_arg5) (by decide)).trans <| (keep3 (at2 V) (r := main_arg5) (by decide)).trans <| (keep2 (at1 V) (r := main_arg5) (by decide)).trans <| (keep1 (at0 V) (r := main_arg5) (by decide)).trans <| (keep0 V (r := main_arg5) (by decide))
/-- Kept. -/
theorem keep_main_v112 : rd (at10 V) main_v112 = rd V main_v112 :=
  (keep10 (at9 V) (r := main_v112) (by decide)).trans <| (keep9 (at8 V) (r := main_v112) (by decide)).trans <| (keep8 (at7 V) (r := main_v112) (by decide)).trans <| (keep7 (at6 V) (r := main_v112) (by decide)).trans <| (keep6 (at5 V) (r := main_v112) (by decide)).trans <| (keep5 (at4 V) (r := main_v112) (by decide)).trans <| (keep4 (at3 V) (r := main_v112) (by decide)).trans <| (keep3 (at2 V) (r := main_v112) (by decide)).trans <| (keep2 (at1 V) (r := main_v112) (by decide)).trans <| (keep1 (at0 V) (r := main_v112) (by decide)).trans <| (keep0 V (r := main_v112) (by decide))
/-- Kept. -/
theorem keep_counts_0 : rd (at0 V) main_arg1 = rd V main_arg1 :=
  (keep0 V (r := main_arg1) (by decide))
/-- Kept. -/
theorem keep_counts_1 : rd (at1 V) main_arg1 = rd V main_arg1 :=
  (keep1 (at0 V) (r := main_arg1) (by decide)).trans <| (keep0 V (r := main_arg1) (by decide))

/-- What the six tables hold. -/
structure Tabs (n : ℕ → ℕ) (W : Valuation τ sig (Elt F)) : Prop where
  tile : ∀ p : Fin 607, (rd W main_v58 : IVec S607 32) (ix1 p) = BitVec.ofNat 32 (tileOf n p.val)
  ex : ∀ p : Fin 607, (rd W main_v111 : IVec S607 32) (ix1 p) = BitVec.ofNat 32 (exOf n p.val)
  lo : ∀ p : Fin 607, (rd W main_v88 : IVec S607 32) (ix1 p) = BitVec.ofNat 32 (min (pre n (exOf n p.val) - 256 * tileOf n p.val) 256)
  hi : ∀ p : Fin 607, (rd W main_v99 : IVec S607 32) (ix1 p) = BitVec.ofNat 32 (min (pre n (exOf n p.val + 1) - 256 * tileOf n p.val) 256)
  first : ∀ p : Fin 607, (rd W main_v108 : IVec S607 32) (ix1 p) = BitVec.ofNat 32 (if p.val = pre (per n) (tileOf n p.val) then 1 else 0)
  valid : ∀ p : Fin 607, (rd W main_v109 : IVec S607 32) (ix1 p) = BitVec.ofNat 32 (if p.val < total n then 1 else 0)

/-- The host code leaves the tables so. -/
theorem tabs (n : ℕ → ℕ) (hn : pre n 32 = 147456) (hx : ∀ e : Fin 32, (rd V main_arg1 : IVec S32 32) (ix1 e) = BitVec.ofNat 32 (n e.val)) :
    Tabs n (at10 V) := by
  have hE : ∀ k, k ≤ 32 → pre n k ≤ 147456 := fun k hk => hn ▸ pre_mono n hk
  have x0 : ∀ e : Fin 32, (rd (at0 V) main_arg1 : IVec S32 32) (ix1 e) = BitVec.ofNat 32 (n e.val) := fun e => (congrFun (keep_counts_0 V) _).trans (hx e)
  have x1 : ∀ e : Fin 32, (rd (at1 V) main_arg1 : IVec S32 32) (ix1 e) = BitVec.ofNat 32 (n e.val) := fun e => (congrFun (keep_counts_1 V) _).trans (hx e)
  have v13 : ∀ e : Fin 32, (rd (at1 V) main_v13 : IVec S32 32) (ix1 e) = BitVec.ofNat 32 (pre n (e.val + 1)) := fun e => st1_ends (at0 V) n x0 e
  have v14 : ∀ e : Fin 32, (rd (at2 V) main_v14 : IVec S32 32) (ix1 e) = BitVec.ofNat 32 (pre n e.val) := fun e => st2_starts (at1 V) n v13 x1 e
  have v26 : ∀ T : Fin 576, (rd (at3 V) main_v26 : IVec S576 32) (ix1 T) = BitVec.ofNat 32 (cut n (256 * T.val)) := fun T =>
    (congrFun (keep_main_v26_2_3 V) _).trans (st2_lo (at1 V) n hE v13 T)
  have v39 : ∀ T : Fin 576, (rd (at3 V) main_v39 : IVec S576 32) (ix1 T) = BitVec.ofNat 32 (cut n (256 * T.val + 255)) := fun T =>
    (congrFun (keep_main_v39_2_3 V) _).trans (st2_hi (at1 V) n hE v13 T)
  have v42 : ∀ T : Fin 576, (rd (at2 V) main_v42 : IVec S576 32) (ix1 T) = BitVec.ofNat 32 (per n T.val) := fun T => st2_per (at1 V) n hE v13 T
  have v42' : ∀ T : Fin 576, (rd (at3 V) main_v42 : IVec S576 32) (ix1 T) = BitVec.ofNat 32 (per n T.val) := fun T =>
    (congrFun (keep_main_v42_2_3 V) _).trans (v42 T)
  have v43 : ∀ T : Fin 576, (rd (at3 V) main_v43 : IVec S576 32) (ix1 T) = BitVec.ofNat 32 (pre (per n) (T.val + 1)) := fun T => st3_item_end (at2 V) n v42 T
  have v44 : ∀ T : Fin 576, (rd (at4 V) main_v44 : IVec S576 32) (ix1 T) = BitVec.ofNat 32 (pre (per n) T.val) := fun T => st4_item_start (at3 V) n v43 v42' T
  have v47 : ∀ p : Fin 607, (rd (at4 V) main_v47 : IVec S607 32) (ix1 p) = BitVec.ofNat 32 p.val := fun p => st4_m (at3 V) p
  have v49 : ∀ p : Fin 607, (rd (at4 V) main_v49 : IVec S607 1) (ix1 p) = BitVec.ofBool (decide (p.val < total n)) := fun p => st4_valid (at3 V) n v43 p
  have v58 : ∀ p : Fin 607, (rd (at4 V) main_v58 : IVec S607 32) (ix1 p) = BitVec.ofNat 32 (tileOf n p.val) := fun p => st4_tile (at3 V) n v43 p
  have v77 : ∀ p : Fin 607, (rd (at5 V) main_v77 : IVec S607 32) (ix1 p) = BitVec.ofNat 32 (exOf n p.val) := fun p =>
    st5_ex (at4 V) n v49 (fun p hl => st4_ex (at3 V) n v43 v42' v26 p hl) (st4_last (at3 V) n v39) p
  have v58_5 : ∀ p : Fin 607, (rd (at5 V) main_v58 : IVec S607 32) (ix1 p) = BitVec.ofNat 32 (tileOf n p.val) := fun p => (congrFun (keep_main_v58_4_5 V) _).trans (v58 p)
  have v58_7 : ∀ p : Fin 607, (rd (at7 V) main_v58 : IVec S607 32) (ix1 p) = BitVec.ofNat 32 (tileOf n p.val) := fun p => (congrFun (keep_main_v58_4_7 V) _).trans (v58 p)
  have v58_9 : ∀ p : Fin 607, (rd (at9 V) main_v58 : IVec S607 32) (ix1 p) = BitVec.ofNat 32 (tileOf n p.val) := fun p => (congrFun (keep_main_v58_4_9 V) _).trans (v58 p)
  have v77_7 : ∀ p : Fin 607, (rd (at7 V) main_v77 : IVec S607 32) (ix1 p) = BitVec.ofNat 32 (exOf n p.val) := fun p => (congrFun (keep_main_v77_5_7 V) _).trans (v77 p)
  have v77_9 : ∀ p : Fin 607, (rd (at9 V) main_v77 : IVec S607 32) (ix1 p) = BitVec.ofNat 32 (exOf n p.val) := fun p => (congrFun (keep_main_v77_5_9 V) _).trans (v77 p)
  have v14_5 : ∀ e : Fin 32, (rd (at5 V) main_v14 : IVec S32 32) (ix1 e) = BitVec.ofNat 32 (pre n e.val) := fun e => (congrFun (keep_main_v14_2_5 V) _).trans (v14 e)
  have v13_7 : ∀ e : Fin 32, (rd (at7 V) main_v13 : IVec S32 32) (ix1 e) = BitVec.ofNat 32 (pre n (e.val + 1)) := fun e => (congrFun (keep_main_v13_1_7 V) _).trans (v13 e)
  have bt : ∀ p, 256 * tileOf n p < 2 ^ 30 := fun p => by have := tileOf_le n p; omega
  have be : ∀ p, pre n (exOf n p) < 2 ^ 30 := fun p => by have := hE _ (show exOf n p ≤ 32 by have := exOf_le n p; omega); omega
  have be' : ∀ p, pre n (exOf n p + 1) < 2 ^ 30 := fun p => by have := hE _ (show exOf n p + 1 ≤ 32 by have := exOf_le n p; omega); omega
  exact {
    tile := fun p => (congrFun (keep_main_v58_4_10 V) _).trans (v58 p)
    ex := fun p => st10_ex (at9 V) n v77_9 p
    lo := fun p => (congrFun (keep_main_v88_7_10 V) _).trans
      (st7_lo (at6 V) _ _ (be _) (bt _) p (st6_ends (at5 V)) (st6_lo (at5 V) n v77 v58_5 v14_5 p))
    hi := fun p => (congrFun (keep_main_v99_9_10 V) _).trans
      (st9_hi (at8 V) _ _ (be' _) (bt _) p (st8_ends (at7 V)) (st8_hi (at7 V) n v77_7 v58_7 v13_7 p))
    first := fun p => st10_first (at9 V) n v58_9 (fun p => (congrFun (keep_main_v47_4_9 V) _).trans (v47 p))
      (fun T => (congrFun (keep_main_v44_4_9 V) _).trans (v44 T)) p
    valid := fun p => st10_valid (at9 V) n (fun p => (congrFun (keep_main_v49_4_9 V) _).trans (v49 p)) p }

end Cert.Gmm

end
-- ==== Proof.GmmBody.lean ====
/-
  The body of the grouped product at one grid point.
-/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Frame
public import Idealize.ShloMosaic.Lib.Pipeline.Value
public import Idealize.ShloMosaic.Lib.Tactic

@[expose] public section

noncomputable section

namespace Cert.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M`'s buffer on core `c`: its contents. -/
abbrev Bf (c : Dev nD) {sp : Space} {S : Shape} {e : EltTy} (M : Memref sig .tc sp S e) : Type := Buf (Elt F) (M.view.loc (c : Thread nD τ))
/-- Memref `M`'s buffer on core `c`, held at share `q` with contents `f`. -/
abbrev pt (c : Dev nD) {sp : Space} {S : Shape} {e : EltTy} (q : PosShare TreeShare) (M : Memref sig .tc sp S e) (f : Bf (F := F) c M) : sProp 𝕄 :=
  M.view.loc (c : Thread nD τ) ↦{q} f

/-- The word of a table at grid point `i`. -/
abbrev word (c : Dev nD) (M : Memref sig .tc .smem S607 .i32) (g : Bf (F := F) c M) (i : grid0.Coords) : BitVec 32 :=
  M.view.readAt (Elt F) (Rect.unit (s := S607) (k0_off1 i) S1.size (k0_off1_inb i)).toLoadRect g (Shape.Idx.first (numel1_S1.symm ▸ Nat.one_pos))

/-! ## What the body computes -/

/-- The thirty-two stores that turn the block's sixteen rows per token into one row of 2 048 values per token. -/
def xPieces (X7 : S4096x128.Idx → Elt F .f32) : List (View.Piece (Elt F) S256x2048 .bf16) :=
  let xA : Vec F S2048x128 .f32 := (View.ld X7 (Rect.unit (s := S4096x128) ![0, 0] S2048x128.size inb_S4096x128_S2048x128_0_0))
  let xB : Vec F S2048x128 .f32 := (View.ld X7 (Rect.unit (s := S4096x128) ![2048, 0] S2048x128.size inb_S4096x128_S2048x128_2048_0))
  [
    ⟨Rect.unit (s := S256x2048) ![128, 1920] S128x128.size inb_S256x2048_S128x128_128_1920, k0_pay39 (k0_pay22 xB)⟩,
    ⟨Rect.unit (s := S256x2048) ![128, 1792] S128x128.size inb_S256x2048_S128x128_128_1792, k0_pay38 (k0_pay22 xB)⟩,
    ⟨Rect.unit (s := S256x2048) ![128, 1664] S128x128.size inb_S256x2048_S128x128_128_1664, k0_pay37 (k0_pay22 xB)⟩,
    ⟨Rect.unit (s := S256x2048) ![128, 1536] S128x128.size inb_S256x2048_S128x128_128_1536, k0_pay36 (k0_pay22 xB)⟩,
    ⟨Rect.unit (s := S256x2048) ![128, 1408] S128x128.size inb_S256x2048_S128x128_128_1408, k0_pay35 (k0_pay22 xB)⟩,
    ⟨Rect.unit (s := S256x2048) ![128, 1280] S128x128.size inb_S256x2048_S128x128_128_1280, k0_pay34 (k0_pay22 xB)⟩,
    ⟨Rect.unit (s := S256x2048) ![128, 1152] S128x128.size inb_S256x2048_S128x128_128_1152, k0_pay33 (k0_pay32 (k0_pay22 xB))⟩,
    ⟨Rect.unit (s := S256x2048) ![128, 1024] S128x128.size inb_S256x2048_S128x128_128_1024, k0_pay31 (k0_pay22 xB)⟩,
    ⟨Rect.unit (s := S256x2048) ![128, 896] S128x128.size inb_S256x2048_S128x128_128_896, k0_pay30 (k0_pay22 xB)⟩,
    ⟨Rect.unit (s := S256x2048) ![128, 768] S128x128.size inb_S256x2048_S128x128_128_768, k0_pay29 (k0_pay22 xB)⟩,
    ⟨Rect.unit (s := S256x2048) ![128, 640] S128x128.size inb_S256x2048_S128x128_128_640, k0_pay28 (k0_pay22 xB)⟩,
    ⟨Rect.unit (s := S256x2048) ![128, 512] S128x128.size inb_S256x2048_S128x128_128_512, k0_pay27 (k0_pay22 xB)⟩,
    ⟨Rect.unit (s := S256x2048) ![128, 384] S128x128.size inb_S256x2048_S128x128_128_384, k0_pay26 (k0_pay22 xB)⟩,
    ⟨Rect.unit (s := S256x2048) ![128, 256] S128x128.size inb_S256x2048_S128x128_128_256, k0_pay25 xB⟩,
    ⟨Rect.unit (s := S256x2048) ![128, 128] S128x128.size inb_S256x2048_S128x128_128_128, k0_pay24 xB⟩,
    ⟨Rect.unit (s := S256x2048) ![128, 0] S128x128.size inb_S256x2048_S128x128_128_0, k0_pay23 xB⟩,
    ⟨Rect.unit (s := S256x2048) ![0, 1920] S128x128.size inb_S256x2048_S128x128_0_1920, k0_pay21 (k0_pay3 xA)⟩,
    ⟨Rect.unit (s := S256x2048) ![0, 1792] S128x128.size inb_S256x2048_S128x128_0_1792, k0_pay20 (k0_pay3 xA)⟩,
    ⟨Rect.unit (s := S256x2048) ![0, 1664] S128x128.size inb_S256x2048_S128x128_0_1664, k0_pay19 (k0_pay3 xA)⟩,
    ⟨Rect.unit (s := S256x2048) ![0, 1536] S128x128.size inb_S256x2048_S128x128_0_1536, k0_pay18 (k0_pay17 (k0_pay3 xA))⟩,
    ⟨Rect.unit (s := S256x2048) ![0, 1408] S128x128.size inb_S256x2048_S128x128_0_1408, k0_pay16 (k0_pay3 xA)⟩,
    ⟨Rect.unit (s := S256x2048) ![0, 1280] S128x128.size inb_S256x2048_S128x128_0_1280, k0_pay15 (k0_pay3 xA)⟩,
    ⟨Rect.unit (s := S256x2048) ![0, 1152] S128x128.size inb_S256x2048_S128x128_0_1152, k0_pay14 (k0_pay3 xA)⟩,
    ⟨Rect.unit (s := S256x2048) ![0, 1024] S128x128.size inb_S256x2048_S128x128_0_1024, k0_pay13 (k0_pay3 xA)⟩,
    ⟨Rect.unit (s := S256x2048) ![0, 896] S128x128.size inb_S256x2048_S128x128_0_896, k0_pay12 (k0_pay3 xA)⟩,
    ⟨Rect.unit (s := S256x2048) ![0, 768] S128x128.size inb_S256x2048_S128x128_0_768, k0_pay11 (k0_pay10 xA)⟩,
    ⟨Rect.unit (s := S256x2048) ![0, 640] S128x128.size inb_S256x2048_S128x128_0_640, k0_pay9 xA⟩,
    ⟨Rect.unit (s := S256x2048) ![0, 512] S128x128.size inb_S256x2048_S128x128_0_512, k0_pay8 xA⟩,
    ⟨Rect.unit (s := S256x2048) ![0, 384] S128x128.size inb_S256x2048_S128x128_0_384, k0_pay7 xA⟩,
    ⟨Rect.unit (s := S256x2048) ![0, 256] S128x128.size inb_S256x2048_S128x128_0_256, k0_pay6 xA⟩,
    ⟨Rect.unit (s := S256x2048) ![0, 128] S128x128.size inb_S256x2048_S128x128_0_128, k0_pay5 xA⟩,
    ⟨Rect.unit (s := S256x2048) ![0, 0] S128x128.size inb_S256x2048_S128x128_0_0, k0_pay4 xA⟩]

/-- The scratch: one row of 2 048 values per token of the block. -/
def xb (X7 : S4096x128.Idx → Elt F .f32) : Vec F S256x2048 .bf16 := View.canon (xPieces X7)

/-- The expert's result of every token of the block: one row of 2 048 values per token. -/
def ffn (X7 : S4096x128.Idx → Elt F .f32) (X8 X9 : S1x2048x2048.Idx → Elt F .bf16) (X10 X11 : S1x1x2048.Idx → Elt F .f32)
    (X12 : S1x2048x2048.Idx → Elt F .bf16) (X13 : S1x1x2048.Idx → Elt F .f32) : FVec F S256x2048 .f32 :=
  k0_pay42 (xb X7)
    (k0_pay40 (xb X7) (View.ld X8 (Rect.unit (s := S1x2048x2048) ![0, 0, 0] S1x2048x1024.size inb_S1x2048x2048_S1x2048x1024_0_0_0))
      (View.ld X10 (Rect.unit (s := S1x1x2048) ![0, 0, 0] S1x1x1024.size inb_S1x1x2048_S1x1x1024_0_0_0))
      (View.ld X9 (Rect.unit (s := S1x2048x2048) ![0, 0, 0] S1x2048x1024.size inb_S1x2048x2048_S1x2048x1024_0_0_0))
      (View.ld X11 (Rect.unit (s := S1x1x2048) ![0, 0, 0] S1x1x1024.size inb_S1x1x2048_S1x1x1024_0_0_0))
      (View.ld X12 (Rect.unit (s := S1x2048x2048) ![0, 0, 0] S1x1024x2048.size inb_S1x2048x2048_S1x1024x2048_0_0_0)))
    (k0_pay41 (View.ld X8 (Rect.unit (s := S1x2048x2048) ![0, 0, 1024] S1x2048x1024.size inb_S1x2048x2048_S1x2048x1024_0_0_1024)))
    (View.ld X10 (Rect.unit (s := S1x1x2048) ![0, 0, 1024] S1x1x1024.size inb_S1x1x2048_S1x1x1024_0_0_1024))
    (View.ld X9 (Rect.unit (s := S1x2048x2048) ![0, 0, 1024] S1x2048x1024.size inb_S1x2048x2048_S1x2048x1024_0_0_1024))
    (View.ld X11 (Rect.unit (s := S1x1x2048) ![0, 0, 1024] S1x1x1024.size inb_S1x1x2048_S1x1x1024_0_0_1024))
    (View.ld X12 (Rect.unit (s := S1x2048x2048) ![0, 1024, 0] S1x1024x2048.size inb_S1x2048x2048_S1x1024x2048_0_1024_0))
    (View.ld X13 (Rect.unit (s := S1x1x2048) ![0, 0, 0] S1x1x2048.size inb_S1x1x2048_S1x1x2048_0_0_0))

/-- The first 128 tokens' rows. -/
def top (v : FVec F S256x2048 .f32) : FVec F S128x2048 .f32 := extractStridedSlice S128x2048 ![0, 0] v slices_S256x2048_o0_0_S128x2048
/-- The result of the first 128 tokens, sixteen rows per token. -/
def topRows (v : FVec F S256x2048 .f32) : FVec F S2048x128 .f32 :=
  k0_pay46 (top v) (extractStridedSlice S128x128 ![0, 0] (top v) slices_S128x2048_o0_0_S128x128)
    (extractStridedSlice S128x128 ![0, 128] (top v) slices_S128x2048_o0_128_S128x128)

/-- The output's block after the first item of a tile: the rows of its experts' tokens, zero elsewhere. -/
def firstBlk (v : FVec F S256x2048 .f32) (lo hi : BitVec 32) : S4096x128.Idx → Elt F .f32 :=
  View.canon [⟨Rect.unit (s := S4096x128) ![2048, 0] S2048x128.size inb_S4096x128_S2048x128_2048_0, k0_pay1 (k0_pay50 v) (k0_pay51 (F := F) lo hi)⟩,
    ⟨Rect.unit (s := S4096x128) ![0, 0] S2048x128.size inb_S4096x128_S2048x128_0_0,
      k0_pay48 (top v) (extractStridedSlice S128x128 ![0, 0] (top v) slices_S128x2048_o0_0_S128x128)
        (extractStridedSlice S128x128 ![0, 128] (top v) slices_S128x2048_o0_128_S128x128) lo hi⟩]

/-- The output's block after a later item of a tile, which held `Y`: the rows of its expert's tokens replaced. -/
def nextBlk (v : FVec F S256x2048 .f32) (lo hi : BitVec 32) (Y : S4096x128.Idx → Elt F .f32) : S4096x128.Idx → Elt F .f32 :=
  View.canon [⟨Rect.unit (s := S4096x128) ![2048, 0] S2048x128.size inb_S4096x128_S2048x128_2048_0,
      k0_pay2 (k0_pay50 v) (k0_pay51 (F := F) lo hi) (View.ld Y (Rect.unit (s := S4096x128) ![2048, 0] S2048x128.size inb_S4096x128_S2048x128_2048_0))⟩,
    ⟨Rect.unit (s := S4096x128) ![0, 0] S2048x128.size inb_S4096x128_S2048x128_0_0,
      k0_pay49 (topRows v) (k0_pay47 (F := F) lo hi) (View.ld Y (Rect.unit (s := S4096x128) ![0, 0] S2048x128.size inb_S4096x128_S2048x128_0_0))⟩]

/-- Every row of the block lies in one of the two halves stored. -/
theorem halves_cover (w1 w2 : S2048x128.Idx → Elt F .f32) (y : S4096x128.Idx) :
    ∃ p ∈ ([⟨Rect.unit (s := S4096x128) ![2048, 0] S2048x128.size inb_S4096x128_S2048x128_2048_0, w1⟩,
      ⟨Rect.unit (s := S4096x128) ![0, 0] S2048x128.size inb_S4096x128_S2048x128_0_0, w2⟩] : List (View.Piece (Elt F) S4096x128 .f32)), y ∈ p.1.set := by
  have h0 : (y 0).val < 4096 := (y 0).isLt
  have h1 : (y 1).val < 128 := (y 1).isLt
  by_cases h : (y 0).val < 2048
  · refine ⟨_, by simp; right; rfl, ?_⟩
    rw [Rect.mem_set_unit]
    intro a; fin_cases a
    · exact ⟨Nat.zero_le _, by show (y 0).val < 0 + 2048; omega⟩
    · exact ⟨Nat.zero_le _, by show (y 1).val < 0 + 128; omega⟩
  · refine ⟨_, by simp; left; rfl, ?_⟩
    rw [Rect.mem_set_unit]
    intro a; fin_cases a
    · exact ⟨by show 2048 ≤ (y 0).val; omega, by show (y 0).val < 2048 + 2048; omega⟩
    · exact ⟨Nat.zero_le _, by show (y 1).val < 0 + 128; omega⟩

section Runs
variable (c : Dev nD) (i : grid0.Coords)
    (M1 : Memref sig .tc .smem S607 .i32) (h1 : M1.IsWhole) (M2 : Memref sig .tc .smem S607 .i32) (h2 : M2.IsWhole)
    (M3 : Memref sig .tc .smem S607 .i32) (h3 : M3.IsWhole) (M4 : Memref sig .tc .smem S607 .i32) (h4 : M4.IsWhole)
    (M5 : Memref sig .tc .smem S607 .i32) (h5 : M5.IsWhole) (M6 : Memref sig .tc .smem S607 .i32) (h6 : M6.IsWhole)
    (M7 : Memref sig .tc .vmem S4096x128 .f32) (h7 : M7.IsWhole) (M8 : Memref sig .tc .vmem S1x2048x2048 .bf16) (h8 : M8.IsWhole)
    (M9 : Memref sig .tc .vmem S1x2048x2048 .bf16) (h9 : M9.IsWhole) (M10 : Memref sig .tc .vmem S1x1x2048 .f32) (h10 : M10.IsWhole)
    (M11 : Memref sig .tc .vmem S1x1x2048 .f32) (h11 : M11.IsWhole) (M12 : Memref sig .tc .vmem S1x2048x2048 .bf16) (h12 : M12.IsWhole)
    (M13 : Memref sig .tc .vmem S1x1x2048 .f32) (h13 : M13.IsWhole) (M14 : Memref sig .tc .vmem S4096x128 .f32) (h14 : M14.IsWhole)
    (M15 : Memref sig .tc .vmem S256x2048 .bf16) (h15 : M15.IsWhole)
    (q : PosShare TreeShare) (g3 : Bf (F := F) c M3) (g4 : Bf (F := F) c M4) (g5 : Bf (F := F) c M5) (g6 : Bf (F := F) c M6)
    (f7 : Bf (F := F) c M7) (f8 : Bf (F := F) c M8) (f9 : Bf (F := F) c M9) (f10 : Bf (F := F) c M10) (f11 : Bf (F := F) c M11)
    (f12 : Bf (F := F) c M12) (f13 : Bf (F := F) c M13)

set_option maxHeartbeats 1000000 in
/-- A point whose item is not valid: the body does nothing. -/
theorem run_idle (hv : k0_cond1 (word c M6 g6 i) ≠ 1#1) (E : Set ℕ) (Q : PUnit → sProp 𝕄) :
    iprop(pt c q M6 g6 ∗ (pt c q M6 g6 -∗ Q ⟨⟩)) ⊢ wp frame (wpE (defs₀ (F := F)) Variants.none c none) E
        (cc0_moe_experts i M1 h1 M2 h2 M3 h3 M4 h4 M5 h5 M6 h6 M7 h7 M8 h8 M9 h9 M10 h10 M11 h11 M12 h12 M13 h13 M14 h14 M15 h15) Q := by
  iintro ⟨H6, Hk⟩
  sl_unfold [cc0_moe_experts]
  sl_open_parts
  sl_exec
  sl_step
  iapply Hk
  iexact H6

set_option maxHeartbeats 2000000 in
/-- What the body leaves in the output's block at a point that begins a tile. -/
noncomputable def runFirst (hv : k0_cond1 (word c M6 g6 i) = 1#1) (hf2 : k0_cond2 (word c M5 g5 i) = 1#1) (hf3 : k0_cond3 (word c M5 g5 i) ≠ 1#1)
    (hf4 : k0_cond4 (word c M5 g5 i) = 1#1) (hf5 : k0_cond5 (word c M5 g5 i) ≠ 1#1) :
    { W : Bf (F := F) c M14 // ∀ (f14 : Bf (F := F) c M14) (f15 : Bf (F := F) c M15) (E : Set ℕ) (Q : PUnit → sProp 𝕄),
    iprop(pt c q M3 g3 ∗ pt c q M4 g4 ∗ pt c q M5 g5 ∗ pt c q M6 g6 ∗ pt c fullShare M7 f7 ∗ pt c fullShare M8 f8 ∗ pt c fullShare M9 f9
      ∗ pt c fullShare M10 f10 ∗ pt c fullShare M11 f11 ∗ pt c fullShare M12 f12 ∗ pt c fullShare M13 f13 ∗ pt c fullShare M14 f14 ∗ pt c fullShare M15 f15
      ∗ ((pt c q M3 g3 ∗ pt c q M4 g4 ∗ pt c q M5 g5 ∗ pt c q M6 g6 ∗ pt c fullShare M7 f7 ∗ pt c fullShare M8 f8 ∗ pt c fullShare M9 f9
      ∗ pt c fullShare M10 f10 ∗ pt c fullShare M11 f11 ∗ pt c fullShare M12 f12 ∗ pt c fullShare M13 f13 ∗ pt c fullShare M14 W ∗ (∃ f, pt c fullShare M15 f)) -∗ Q ⟨⟩))
      ⊢ wp frame (wpE (defs₀ (F := F)) Variants.none c none) E
        (cc0_moe_experts i M1 h1 M2 h2 M3 h3 M4 h4 M5 h5 M6 h6 M7 h7 M8 h8 M9 h9 M10 h10 M11 h11 M12 h12 M13 h13 M14 h14 M15 h15) Q } := by
  refine ⟨?_, fun f14 f15 E Q => ?run⟩
  case run =>
    iintro ⟨H3, H4, H5, H6, H7, H8, H9, H10, H11, H12, H13, H14, H15, Hk⟩
    sl_unfold [cc0_moe_experts]
    sl_open_parts
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists _; iexact H15

set_option maxHeartbeats 2000000 in
/-- What the body leaves in the output's block at a point that goes on with a tile. -/
noncomputable def runNext (hv : k0_cond1 (word c M6 g6 i) = 1#1) (hf2 : k0_cond2 (word c M5 g5 i) ≠ 1#1) (hf3 : k0_cond3 (word c M5 g5 i) = 1#1)
    (hf4 : k0_cond4 (word c M5 g5 i) ≠ 1#1) (hf5 : k0_cond5 (word c M5 g5 i) = 1#1) (f14 : Bf (F := F) c M14) :
    { W : Bf (F := F) c M14 // ∀ (f15 : Bf (F := F) c M15) (E : Set ℕ) (Q : PUnit → sProp 𝕄),
    iprop(pt c q M3 g3 ∗ pt c q M4 g4 ∗ pt c q M5 g5 ∗ pt c q M6 g6 ∗ pt c fullShare M7 f7 ∗ pt c fullShare M8 f8 ∗ pt c fullShare M9 f9
      ∗ pt c fullShare M10 f10 ∗ pt c fullShare M11 f11 ∗ pt c fullShare M12 f12 ∗ pt c fullShare M13 f13 ∗ pt c fullShare M14 f14 ∗ pt c fullShare M15 f15
      ∗ ((pt c q M3 g3 ∗ pt c q M4 g4 ∗ pt c q M5 g5 ∗ pt c q M6 g6 ∗ pt c fullShare M7 f7 ∗ pt c fullShare M8 f8 ∗ pt c fullShare M9 f9
      ∗ pt c fullShare M10 f10 ∗ pt c fullShare M11 f11 ∗ pt c fullShare M12 f12 ∗ pt c fullShare M13 f13 ∗ pt c fullShare M14 W ∗ (∃ f, pt c fullShare M15 f)) -∗ Q ⟨⟩))
      ⊢ wp frame (wpE (defs₀ (F := F)) Variants.none c none) E
        (cc0_moe_experts i M1 h1 M2 h2 M3 h3 M4 h4 M5 h5 M6 h6 M7 h7 M8 h8 M9 h9 M10 h10 M11 h11 M12 h12 M13 h13 M14 h14 M15 h15) Q } := by
  refine ⟨?_, fun f15 E Q => ?run⟩
  case run =>
    iintro ⟨H3, H4, H5, H6, H7, H8, H9, H10, H11, H12, H13, H14, H15, Hk⟩
    sl_unfold [cc0_moe_experts]
    sl_open_parts
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists _; iexact H15

/-- The scratch read back at a point that begins a tile. -/
theorem v203_first : runFirst.sl.v203 c M7 M15 f7 = xb (M7.view.read (Elt F) f7) := by
  unfold runFirst.sl.v203
  rw [View.readCov_eq_canon']
  exact View.ld_unit_zero (by funext a; fin_cases a <;> rfl) _ _

/-- What the first item's run leaves reads as `firstBlk`. -/
theorem runFirst_read (hv : k0_cond1 (word c M6 g6 i) = 1#1) (hf2 : k0_cond2 (word c M5 g5 i) = 1#1) (hf3 : k0_cond3 (word c M5 g5 i) ≠ 1#1)
    (hf4 : k0_cond4 (word c M5 g5 i) = 1#1) (hf5 : k0_cond5 (word c M5 g5 i) ≠ 1#1) :
    M14.view.read (Elt F) (runFirst c i M1 h1 M2 h2 M3 h3 M4 h4 M5 h5 M6 h6 M7 h7 M8 h8 M9 h9 M10 h10 M11 h11 M12 h12 M13 h13 M14 h14 M15 h15
        q g3 g4 g5 g6 f7 f8 f9 f10 f11 f12 f13 hv hf2 hf3 hf4 hf5).1
      = firstBlk (ffn (M7.view.read (Elt F) f7) (M8.view.read (Elt F) f8) (M9.view.read (Elt F) f9) (M10.view.read (Elt F) f10)
          (M11.view.read (Elt F) f11) (M12.view.read (Elt F) f12) (M13.view.read (Elt F) f13)) (word c M3 g3 i) (word c M4 g4 i) := by
  unfold runFirst
  dsimp only
  rw [View.read_writes_junk_eq_canon]
  unfold runFirst.sl.H14_2
  rw [v203_first]
  rfl

/-- The scratch read back at a point that goes on with a tile. -/
theorem v203_next : runNext.sl.v203 c M7 M15 f7 = xb (M7.view.read (Elt F) f7) := by
  unfold runNext.sl.v203
  rw [View.readCov_eq_canon']
  exact View.ld_unit_zero (by funext a; fin_cases a <;> rfl) _ _

/-- What a later item's run leaves reads as `nextBlk`. -/
theorem runNext_read (hv : k0_cond1 (word c M6 g6 i) = 1#1) (hf2 : k0_cond2 (word c M5 g5 i) ≠ 1#1) (hf3 : k0_cond3 (word c M5 g5 i) = 1#1)
    (hf4 : k0_cond4 (word c M5 g5 i) ≠ 1#1) (hf5 : k0_cond5 (word c M5 g5 i) = 1#1) (f14 : Bf (F := F) c M14) :
    M14.view.read (Elt F) (runNext c i M1 h1 M2 h2 M3 h3 M4 h4 M5 h5 M6 h6 M7 h7 M8 h8 M9 h9 M10 h10 M11 h11 M12 h12 M13 h13 M14 h14 M15 h15
        q g3 g4 g5 g6 f7 f8 f9 f10 f11 f12 f13 hv hf2 hf3 hf4 hf5 f14).1
      = nextBlk (ffn (M7.view.read (Elt F) f7) (M8.view.read (Elt F) f8) (M9.view.read (Elt F) f9) (M10.view.read (Elt F) f10)
          (M11.view.read (Elt F) f11) (M12.view.read (Elt F) f12) (M13.view.read (Elt F) f13)) (word c M3 g3 i) (word c M4 g4 i) (M14.view.read (Elt F) f14) := by
  unfold runNext
  dsimp only
  rw [View.read_writes_eq_canon M14.view f14 _ (halves_cover _ _)]
  rw [v203_next]
  rfl

end Runs

end Cert.Gmm
-- ==== Proof.GmmPoints.lean ====
/-
  The grid's points read through the tables: which block each window has at a point, where the output's block is written
  back, and which points do nothing.
-/
module

public import proofs.«01_k».proof.Proof.GmmChain
public import proofs.«01_k».proof.Proof.GmmBody
public import Idealize.ShloMosaic.Lib.Pipeline.TableIdle
public import Idealize.ShloMosaic.Lib.Affine

@[expose] public section

noncomputable section

namespace Cert.Gmm

open Cert.Kernel2Ideal Cert.Kernel2Ideal.Gen
open Idealize.ShloMosaic Idealize.ShloMosaic.TcCoe Idealize.SL.Sem
open Idealize.ShloMosaic.ValueIdx

variable {F : FTy → Type} [FloatOps F]

/-- What the six tables hold, of their contents. -/
structure Good (n : ℕ → ℕ) (pf : pre0.Contents (Elt F)) : Prop where
  tile : ∀ p : Fin 607, (pf 0 : IVec S607 32) (ix1 p) = BitVec.ofNat 32 (tileOf n p.val)
  ex : ∀ p : Fin 607, (pf 1 : IVec S607 32) (ix1 p) = BitVec.ofNat 32 (exOf n p.val)
  lo : ∀ p : Fin 607, (pf 2 : IVec S607 32) (ix1 p) = BitVec.ofNat 32 (min (pre n (exOf n p.val) - 256 * tileOf n p.val) 256)
  hi : ∀ p : Fin 607, (pf 3 : IVec S607 32) (ix1 p) = BitVec.ofNat 32 (min (pre n (exOf n p.val + 1) - 256 * tileOf n p.val) 256)
  first : ∀ p : Fin 607, (pf 4 : IVec S607 32) (ix1 p) = BitVec.ofNat 32 (if p.val = pre (per n) (tileOf n p.val) then 1 else 0)
  valid : ∀ p : Fin 607, (pf 5 : IVec S607 32) (ix1 p) = BitVec.ofNat 32 (if p.val < total n then 1 else 0)

/-! ## A point's coordinate and the word it reads -/

/-- The grid point as a number. -/
abbrev pn (i : grid0.Coords) : ℕ := (i 0).val
theorem pn_lt (i : grid0.Coords) : pn i < 607 := (i 0).isLt
/-- A point's coordinate is its number. -/
theorem pn_coords (t : Fin grid0.N) : pn (grid0.coords t) = t.val := by
  have ht : t.val < 607 := lt_of_lt_of_eq t.isLt N_0
  show t.val / 1 % 607 = t.val
  rw [Nat.div_one, Nat.mod_eq_of_lt ht]

/-- A coordinate as an index is itself. -/
theorem cast_word : ∀ p : Fin 607, (Scalar.indexCast (BitVec.ofNat 32 p.val)).toNat = p.val := by decide +kernel
theorem off1 (i : grid0.Coords) : k0_off1 i 0 = pn i := cast_word (i 0)
theorem off2 (i : grid0.Coords) : k0_off2 i 0 = pn i := cast_word (i 0)
theorem off3 (i : grid0.Coords) : k0_off3 i 0 = pn i := cast_word (i 0)
theorem off4 (i : grid0.Coords) : k0_off4 i 0 = pn i := cast_word (i 0)
theorem off5 (i : grid0.Coords) : k0_off5 i 0 = pn i := cast_word (i 0)

/-- The place in a table the point reads. -/
abbrev place (i : grid0.Coords) : S607.Idx := ix1 (⟨pn i, pn_lt i⟩ : Fin 607)
theorem emb_place (i : grid0.Coords) (h : 0 < (Rect.unit (s := S607) (k0_off1 i) S1.size (k0_off1_inb i)).shape.numel) :
    (Rect.unit (s := S607) (k0_off1 i) S1.size (k0_off1_inb i)).emb (Shape.Idx.first h) = place i := by
  funext a
  apply Fin.ext
  match a with
  | ⟨0, _⟩ =>
    have z : ((Shape.Idx.first h : (Rect.unit (s := S607) (k0_off1 i) S1.size (k0_off1_inb i)).shape.Idx) 0).val = 0 :=
      Nat.lt_one_iff.1 (Shape.Idx.first h 0).isLt
    show k0_off1 i 0 + 1 * ((Shape.Idx.first h : (Rect.unit (s := S607) (k0_off1 i) S1.size (k0_off1_inb i)).shape.Idx) 0).val = pn i
    rw [z, off1]; omega

theorem atD_place (v : IVec S607 32) (i : grid0.Coords) (off : Fin 1 → ℕ) (ho : off 0 = pn i) :
    (if h : ∀ a, off a + 1 ≤ S607.size a then v (fun a => ⟨off a, h a⟩) else default) = v (place i) := by
  have h : ∀ a, off a + 1 ≤ S607.size a := fun a => by
    match a with
    | ⟨0, _⟩ => show off 0 + 1 ≤ 607; rw [ho]; exact pn_lt i
  rw [dif_pos h]
  congr 1
  funext a
  match a with
  | ⟨0, _⟩ => exact Fin.ext ho

theorem word_place (c : Dev nD) (r : Ref sig .tc) (i : grid0.Coords) (g : IVec S607 32)
    (M : Memref sig .tc .smem S607 .i32) (g' : Bf (F := F) c M) (h : M.view.read (Elt F) g' = g) : word c M g' i = g (place i) := by
  subst h
  show M.view.read (Elt F) g' ((Rect.unit (s := S607) (k0_off1 i) S1.size (k0_off1_inb i)).emb _) = _
  rw [emb_place]

/-! ## The conditions -/

theorem cond1_iff (p : Prop) [Decidable p] : k0_cond1 (BitVec.ofNat 32 (if p then 1 else 0)) = 1#1 ↔ p := by
  by_cases h : p <;> simp only [h, if_true, if_false, iff_true, iff_false] <;> decide
theorem cond2_iff (p : Prop) [Decidable p] : k0_cond2 (BitVec.ofNat 32 (if p then 1 else 0)) = 1#1 ↔ p := by
  by_cases h : p <;> simp only [h, if_true, if_false, iff_true, iff_false] <;> decide
theorem cond3_iff (p : Prop) [Decidable p] : k0_cond3 (BitVec.ofNat 32 (if p then 1 else 0)) = 1#1 ↔ ¬ p := by
  by_cases h : p <;> simp only [h, if_true, if_false, iff_true, iff_false, not_true, not_false_iff] <;> decide
theorem cond4_iff (p : Prop) [Decidable p] : k0_cond4 (BitVec.ofNat 32 (if p then 1 else 0)) = 1#1 ↔ p := by
  by_cases h : p <;> simp only [h, if_true, if_false, iff_true, iff_false] <;> decide
theorem cond5_iff (p : Prop) [Decidable p] : k0_cond5 (BitVec.ofNat 32 (if p then 1 else 0)) = 1#1 ↔ ¬ p := by
  by_cases h : p <;> simp only [h, if_true, if_false, iff_true, iff_false, not_true, not_false_iff] <;> decide

section
variable {n : ℕ → ℕ} {pf : pre0.Contents (Elt F)} (H : Good n pf)
include H

/-! ## The blocks -/

omit H in
theorem small_word (k : ℕ) (hk : k < 2 ^ 20) : (BitVec.ofNat 32 k).toNat = k := by
  rw [BitVec.toNat_ofNat, Nat.mod_eq_of_lt (by omega)]

theorem at_tile (i : grid0.Coords) : (pf.at 0 (Rect.unit (s := S607) (k0_off1 i) S1.size (k0_off1_inb i)) numel1_S1 : BitVec 32).toNat = tileOf n (pn i) := by
  refine (congrArg (fun z => BitVec.toNat ((pf 0 : IVec S607 32) z)) (emb_place i _)).trans ?_
  show BitVec.toNat ((pf 0 : IVec S607 32) (place i)) = _
  rw [H.tile, small_word]
  have := tileOf_le n (pn i)
  show tileOf n (pn i) < _
  omega

theorem at_ex (i : grid0.Coords) : (pf.at 1 (Rect.unit (s := S607) (k0_off1 i) S1.size (k0_off1_inb i)) numel1_S1 : BitVec 32).toNat = exOf n (pn i) := by
  refine (congrArg (fun z => BitVec.toNat ((pf 1 : IVec S607 32) z)) (emb_place i _)).trans ?_
  show BitVec.toNat ((pf 1 : IVec S607 32) (place i)) = _
  rw [H.ex, small_word]
  have := exOf_le n (pn i)
  show exOf n (pn i) < _
  omega

theorem tr0 (i : grid0.Coords) : cc0_transform_0 k0_off1_inb numel1_S1 pf i = ![tileOf n (pn i), 0] := congrArg (fun k => ![k, 0]) (at_tile H i)
theorem tr1 (i : grid0.Coords) : cc0_transform_1 k0_off1_inb numel1_S1 pf i = ![exOf n (pn i), 0, 0] := congrArg (fun k => ![k, 0, 0]) (at_ex H i)
theorem tr2 (i : grid0.Coords) : cc0_transform_2 k0_off1_inb numel1_S1 pf i = ![exOf n (pn i), 0, 0] := congrArg (fun k => ![k, 0, 0]) (at_ex H i)
theorem tr3 (i : grid0.Coords) : cc0_transform_3 k0_off1_inb numel1_S1 pf i = ![exOf n (pn i), 0, 0] := congrArg (fun k => ![k, 0, 0]) (at_ex H i)
theorem tr4 (i : grid0.Coords) : cc0_transform_4 k0_off1_inb numel1_S1 pf i = ![exOf n (pn i), 0, 0] := congrArg (fun k => ![k, 0, 0]) (at_ex H i)
theorem tr5 (i : grid0.Coords) : cc0_transform_5 k0_off1_inb numel1_S1 pf i = ![exOf n (pn i), 0, 0] := congrArg (fun k => ![k, 0, 0]) (at_ex H i)
theorem tr6 (i : grid0.Coords) : cc0_transform_6 k0_off1_inb numel1_S1 pf i = ![exOf n (pn i), 0, 0] := congrArg (fun k => ![k, 0, 0]) (at_ex H i)
theorem tr7 (i : grid0.Coords) : cc0_transform_7 k0_off1_inb numel1_S1 pf i = ![tileOf n (pn i), 0] := congrArg (fun k => ![k, 0]) (at_tile H i)

omit H in
theorem inb2 (f : Fin 2 → ℕ) (k : ℕ) (hk : k ≤ 575) (h : f = ![k, 0]) : ∀ a, (f a + 1) * S4096x128.size a ≤ S2359296x128.size a := fun a => by
  subst h
  match a with
  | ⟨0, _⟩ => show (k + 1) * 4096 ≤ 2359296; omega
  | ⟨1, _⟩ => show (0 + 1) * 128 ≤ 128; omega
omit H in
theorem inb3 (f : Fin 3 → ℕ) (k : ℕ) (hk : k ≤ 31) (h : f = ![k, 0, 0]) : ∀ a, (f a + 1) * S1x2048x2048.size a ≤ S64x2048x2048.size a := fun a => by
  subst h
  match a with
  | ⟨0, _⟩ => show (k + 1) * 1 ≤ 64; omega
  | ⟨1, _⟩ => show (0 + 1) * 2048 ≤ 2048; omega
  | ⟨2, _⟩ => show (0 + 1) * 2048 ≤ 2048; omega
omit H in
theorem inb3b (f : Fin 3 → ℕ) (k : ℕ) (hk : k ≤ 31) (h : f = ![k, 0, 0]) : ∀ a, (f a + 1) * S1x1x2048.size a ≤ S64x1x2048.size a := fun a => by
  subst h
  match a with
  | ⟨0, _⟩ => show (k + 1) * 1 ≤ 64; omega
  | ⟨1, _⟩ => show (0 + 1) * 1 ≤ 1; omega
  | ⟨2, _⟩ => show (0 + 1) * 2048 ≤ 2048; omega
omit H in
theorem ww3 (f : Fin 3 → ℕ) (k : ℕ) (h : f = ![k, 0, 0]) (hi : ∀ a, (f a + 1) * S1x2048x2048.size a ≤ S64x2048x2048.size a) :
    (Rect.block (s := S64x2048x2048) S1x2048x2048.size f hi).WholeWords (EltTy.packing .bf16) := by
  subst h
  exact .inr ⟨by decide, rfl, rfl, rfl⟩

/-- Every block lies in its array. -/
theorem ok_of : ok0 (F := F) pf :=
  ⟨fun i => ⟨inb2 _ _ (tileOf_le n _) (tr0 H i), .inl rfl⟩,
    fun i => ⟨inb3 _ _ (exOf_le n _) (tr1 H i), .inr (ww3 _ _ (tr1 H i) _)⟩,
    fun i => ⟨inb3 _ _ (exOf_le n _) (tr2 H i), .inr (ww3 _ _ (tr2 H i) _)⟩,
    fun i => ⟨inb3b _ _ (exOf_le n _) (tr3 H i), .inl rfl⟩,
    fun i => ⟨inb3b _ _ (exOf_le n _) (tr4 H i), .inl rfl⟩,
    fun i => ⟨inb3 _ _ (exOf_le n _) (tr5 H i), .inr (ww3 _ _ (tr5 H i) _)⟩,
    fun i => ⟨inb3b _ _ (exOf_le n _) (tr6 H i), .inl rfl⟩,
    fun i => ⟨inb2 _ _ (tileOf_le n _) (tr7 H i), .inl rfl⟩⟩

/-- A point does nothing exactly where its item is not valid. -/
theorem idle7 (i : grid0.Coords) : idle0 pf 7 i = !decide (pn i < total n) := by
  have e5 : (pf.atD 5 (k0_off1 i) : BitVec 32) = BitVec.ofNat 32 (if pn i < total n then 1 else 0) :=
    (atD_place (pf 5 : IVec S607 32) i _ (off1 i)).trans (H.valid _)
  have e4 : ∀ off : Fin 1 → ℕ, off 0 = pn i → (pf.atD 4 off : BitVec 32) = BitVec.ofNat 32 (if pn i = pre (per n) (tileOf n (pn i)) then 1 else 0) :=
    fun off ho => (atD_place (pf 4 : IVec S607 32) i _ ho).trans (H.first _)
  show (!(k0_cond1 (pf.atD 5 (k0_off1 i)) == 1#1 && k0_cond2 (pf.atD 4 (k0_off2 i)) == 1#1) && !(k0_cond1 (pf.atD 5 (k0_off1 i)) == 1#1 && k0_cond3 (pf.atD 4 (k0_off3 i)) == 1#1) && !(k0_cond1 (pf.atD 5 (k0_off1 i)) == 1#1 && k0_cond4 (pf.atD 4 (k0_off4 i)) == 1#1) && !(k0_cond1 (pf.atD 5 (k0_off1 i)) == 1#1 && k0_cond5 (pf.atD 4 (k0_off5 i)) == 1#1)) = _
  rw [e5, e4 _ (off2 i), e4 _ (off3 i), e4 _ (off4 i), e4 _ (off5 i)]
  generalize pn i = p
  by_cases h2 : p = pre (per n) (tileOf n p)
  · by_cases h1 : p < total n
    · rw [if_pos h1, if_pos h2, decide_eq_true h1]; decide
    · rw [if_neg h1, if_pos h2, decide_eq_false h1]; decide
  · by_cases h1 : p < total n
    · rw [if_pos h1, if_neg h2, decide_eq_true h1]; decide
    · rw [if_neg h1, if_neg h2, decide_eq_false h1]; decide

end

/-! ## The tables' facts at neighbouring points -/

section
variable (n : ℕ → ℕ)

/-- The first point is valid and begins a tile. -/
theorem zero_point : 0 < total n ∧ 0 = pre (per n) (tileOf n 0) := by
  obtain ⟨h, ht, -⟩ := first_item n
  exact ⟨h, by rw [ht, pre_zero]⟩

/-- A later valid point begins a tile exactly where its tile differs from the one before. -/
theorem first_iff (m : ℕ) (h : m + 1 < total n) : m + 1 = pre (per n) (tileOf n (m + 1)) ↔ tileOf n (m + 1) ≠ tileOf n m := by
  rcases next_item n h with ⟨e, -, hne⟩ | ⟨e, he, -⟩
  · exact ⟨fun hh => absurd hh hne, fun hh => absurd e hh⟩
  · exact ⟨fun _ => by omega, fun _ => he⟩

/-- A point that is not valid stays at the tile before. -/
theorem idle_tile (m : ℕ) (h : ¬ m + 1 < total n) : tileOf n (m + 1) = tileOf n m := by
  rw [past_items n (show total n ≤ m + 1 by omega)]
  by_cases h' : total n ≤ m
  · rw [past_items n h']
  · rw [(last_item n (show m + 1 = total n by omega)).1]

end

end Cert.Gmm

end
-- ==== Proof.GmmTriples.lean ====
/-
  The body at a point, its buffers owned at what they read as.
-/
module

public import proofs.«01_k».proof.Proof.GmmPoints

@[expose] public section

noncomputable section

namespace Cert.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole memref owned at `X`: its buffer held at some contents that read as `X`. -/
theorem owns_pt (c : Dev nD) {sp : Space} {S : Shape} {e : EltTy} (q : PosShare TreeShare) (M : Memref sig .tc sp S e) (h : M.IsWhole) (X : S.Idx → Elt F e) :
    (owns (c : Thread nD τ) M q X : sProp 𝕄) = iprop(∃ f, ⌜M.view.read (Elt F) f = X⌝ ∗ pt c q M f) := by
  unfold owns
  rw [h.set_eq_univ]

section
variable (c : Dev nD) (i : grid0.Coords)
    (M1 : Memref sig .tc .smem S607 .i32) (h1 : M1.IsWhole) (M2 : Memref sig .tc .smem S607 .i32) (h2 : M2.IsWhole)
    (M3 : Memref sig .tc .smem S607 .i32) (h3 : M3.IsWhole) (M4 : Memref sig .tc .smem S607 .i32) (h4 : M4.IsWhole)
    (M5 : Memref sig .tc .smem S607 .i32) (h5 : M5.IsWhole) (M6 : Memref sig .tc .smem S607 .i32) (h6 : M6.IsWhole)
    (M7 : Memref sig .tc .vmem S4096x128 .f32) (h7 : M7.IsWhole) (M8 : Memref sig .tc .vmem S1x2048x2048 .bf16) (h8 : M8.IsWhole)
    (M9 : Memref sig .tc .vmem S1x2048x2048 .bf16) (h9 : M9.IsWhole) (M10 : Memref sig .tc .vmem S1x1x2048 .f32) (h10 : M10.IsWhole)
    (M11 : Memref sig .tc .vmem S1x1x2048 .f32) (h11 : M11.IsWhole) (M12 : Memref sig .tc .vmem S1x2048x2048 .bf16) (h12 : M12.IsWhole)
    (M13 : Memref sig .tc .vmem S1x1x2048 .f32) (h13 : M13.IsWhole) (M14 : Memref sig .tc .vmem S4096x128 .f32) (h14 : M14.IsWhole)
    (M15 : Memref sig .tc .vmem S256x2048 .bf16) (h15 : M15.IsWhole)
    (q : PosShare TreeShare) (g3 : Bf (F := F) c M3) (g4 : Bf (F := F) c M4) (g5 : Bf (F := F) c M5) (g6 : Bf (F := F) c M6)
    (X7 : S4096x128.Idx → Elt F .f32) (X8 : S1x2048x2048.Idx → Elt F .bf16) (X9 : S1x2048x2048.Idx → Elt F .bf16) (X10 : S1x1x2048.Idx → Elt F .f32)
    (X11 : S1x1x2048.Idx → Elt F .f32) (X12 : S1x2048x2048.Idx → Elt F .bf16) (X13 : S1x1x2048.Idx → Elt F .f32) (Y : S4096x128.Idx → Elt F .f32)

/-- What the body finds at a point that does something, its output's block reading as `Y`. -/
abbrev have_ (Y : S4096x128.Idx → Elt F .f32) : sProp 𝕄 :=
  iprop(pt c q M3 g3 ∗ pt c q M4 g4 ∗ pt c q M5 g5 ∗ pt c q M6 g6 ∗ owns (c : Thread nD τ) M7 fullShare X7 ∗ owns (c : Thread nD τ) M8 fullShare X8
    ∗ owns (c : Thread nD τ) M9 fullShare X9 ∗ owns (c : Thread nD τ) M10 fullShare X10 ∗ owns (c : Thread nD τ) M11 fullShare X11
    ∗ owns (c : Thread nD τ) M12 fullShare X12 ∗ owns (c : Thread nD τ) M13 fullShare X13 ∗ owns (c : Thread nD τ) M14 fullShare Y ∗ (∃ f, pt c fullShare M15 f))

/-- The body at a point that begins a tile. -/
theorem body_first (hv : k0_cond1 (word c M6 g6 i) = 1#1) (hf2 : k0_cond2 (word c M5 g5 i) = 1#1) (hf3 : k0_cond3 (word c M5 g5 i) ≠ 1#1)
    (hf4 : k0_cond4 (word c M5 g5 i) = 1#1) (hf5 : k0_cond5 (word c M5 g5 i) ≠ 1#1) (E : Set ℕ) (Q : PUnit → sProp 𝕄) :
    iprop(have_ c M3 M4 M5 M6 M7 M8 M9 M10 M11 M12 M13 M14 M15 q g3 g4 g5 g6 X7 X8 X9 X10 X11 X12 X13 Y
      ∗ (have_ c M3 M4 M5 M6 M7 M8 M9 M10 M11 M12 M13 M14 M15 q g3 g4 g5 g6 X7 X8 X9 X10 X11 X12 X13
          (firstBlk (ffn X7 X8 X9 X10 X11 X12 X13) (word c M3 g3 i) (word c M4 g4 i)) -∗ Q ⟨⟩))
      ⊢ wp frame (wpE (defs₀ (F := F)) Variants.none c none) E
        (cc0_moe_experts i M1 h1 M2 h2 M3 h3 M4 h4 M5 h5 M6 h6 M7 h7 M8 h8 M9 h9 M10 h10 M11 h11 M12 h12 M13 h13 M14 h14 M15 h15) Q := by
  unfold have_
  rw [owns_pt c _ M7 h7, owns_pt c _ M8 h8, owns_pt c _ M9 h9, owns_pt c _ M10 h10, owns_pt c _ M11 h11, owns_pt c _ M12 h12, owns_pt c _ M13 h13,
    owns_pt c _ M14 h14, owns_pt c _ M14 h14]
  iintro ⟨⟨H3, H4, H5, H6, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, H15⟩⟩, Hk⟩
  iapply ((runFirst c i M1 h1 M2 h2 M3 h3 M4 h4 M5 h5 M6 h6 M7 h7 M8 h8 M9 h9 M10 h10 M11 h11 M12 h12 M13 h13 M14 h14 M15 h15
        q g3 g4 g5 g6 f7 f8 f9 f10 f11 f12 f13 hv hf2 hf3 hf4 hf5).2 f14 f15 E Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H3, H4, H5, H6, H7, H8, H9, H10, H11, H12, H13, H14, H15⟩
  iapply Hk
  isplitl [H3]; · iexact H3
  isplitl [H4]; · iexact H4
  isplitl [H5]; · iexact H5
  isplitl [H6]; · iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  isplitl [H10]; · iexists f10; isplitr; · ipureintro; exact e10
                   iexact H10
  isplitl [H11]; · iexists f11; isplitr; · ipureintro; exact e11
                   iexact H11
  isplitl [H12]; · iexists f12; isplitr; · ipureintro; exact e12
                   iexact H12
  isplitl [H13]; · iexists f13; isplitr; · ipureintro; exact e13
                   iexact H13
  isplitl [H14]
  · iexists _
    isplitr
    · ipureintro
      refine (runFirst_read c i M1 h1 M2 h2 M3 h3 M4 h4 M5 h5 M6 h6 M7 h7 M8 h8 M9 h9 M10 h10 M11 h11 M12 h12 M13 h13 M14 h14 M15 h15
        q g3 g4 g5 g6 f7 f8 f9 f10 f11 f12 f13 hv hf2 hf3 hf4 hf5).trans ?_
      rw [e7, e8, e9, e10, e11, e12, e13]
    iexact H14
  iexact H15

/-- The body at a point that goes on with a tile. -/
theorem body_next (hv : k0_cond1 (word c M6 g6 i) = 1#1) (hf2 : k0_cond2 (word c M5 g5 i) ≠ 1#1) (hf3 : k0_cond3 (word c M5 g5 i) = 1#1)
    (hf4 : k0_cond4 (word c M5 g5 i) ≠ 1#1) (hf5 : k0_cond5 (word c M5 g5 i) = 1#1) (E : Set ℕ) (Q : PUnit → sProp 𝕄) :
    iprop(have_ c M3 M4 M5 M6 M7 M8 M9 M10 M11 M12 M13 M14 M15 q g3 g4 g5 g6 X7 X8 X9 X10 X11 X12 X13 Y
      ∗ (have_ c M3 M4 M5 M6 M7 M8 M9 M10 M11 M12 M13 M14 M15 q g3 g4 g5 g6 X7 X8 X9 X10 X11 X12 X13
          (nextBlk (ffn X7 X8 X9 X10 X11 X12 X13) (word c M3 g3 i) (word c M4 g4 i) Y) -∗ Q ⟨⟩))
      ⊢ wp frame (wpE (defs₀ (F := F)) Variants.none c none) E
        (cc0_moe_experts i M1 h1 M2 h2 M3 h3 M4 h4 M5 h5 M6 h6 M7 h7 M8 h8 M9 h9 M10 h10 M11 h11 M12 h12 M13 h13 M14 h14 M15 h15) Q := by
  unfold have_
  rw [owns_pt c _ M7 h7, owns_pt c _ M8 h8, owns_pt c _ M9 h9, owns_pt c _ M10 h10, owns_pt c _ M11 h11, owns_pt c _ M12 h12, owns_pt c _ M13 h13,
    owns_pt c _ M14 h14, owns_pt c _ M14 h14]
  iintro ⟨⟨H3, H4, H5, H6, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, H15⟩⟩, Hk⟩
  iapply ((runNext c i M1 h1 M2 h2 M3 h3 M4 h4 M5 h5 M6 h6 M7 h7 M8 h8 M9 h9 M10 h10 M11 h11 M12 h12 M13 h13 M14 h14 M15 h15
        q g3 g4 g5 g6 f7 f8 f9 f10 f11 f12 f13 hv hf2 hf3 hf4 hf5 f14).2 f15 E Q)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H3, H4, H5, H6, H7, H8, H9, H10, H11, H12, H13, H14, H15⟩
  iapply Hk
  isplitl [H3]; · iexact H3
  isplitl [H4]; · iexact H4
  isplitl [H5]; · iexact H5
  isplitl [H6]; · iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  isplitl [H10]; · iexists f10; isplitr; · ipureintro; exact e10
                   iexact H10
  isplitl [H11]; · iexists f11; isplitr; · ipureintro; exact e11
                   iexact H11
  isplitl [H12]; · iexists f12; isplitr; · ipureintro; exact e12
                   iexact H12
  isplitl [H13]; · iexists f13; isplitr; · ipureintro; exact e13
                   iexact H13
  isplitl [H14]
  · iexists _
    isplitr
    · ipureintro
      refine (runNext_read c i M1 h1 M2 h2 M3 h3 M4 h4 M5 h5 M6 h6 M7 h7 M8 h8 M9 h9 M10 h10 M11 h11 M12 h12 M13 h13 M14 h14 M15 h15
        q g3 g4 g5 g6 f7 f8 f9 f10 f11 f12 f13 hv hf2 hf3 hf4 hf5 f14).trans ?_
      rw [e7, e8, e9, e10, e11, e12, e13, e14]
    iexact H14
  iexact H15

/-- The body at a point that does nothing. -/
theorem body_idle (hv : k0_cond1 (word c M6 g6 i) ≠ 1#1) (E : Set ℕ) (Q : PUnit → sProp 𝕄) :
    iprop(have_ c M3 M4 M5 M6 M7 M8 M9 M10 M11 M12 M13 M14 M15 q g3 g4 g5 g6 X7 X8 X9 X10 X11 X12 X13 Y
      ∗ (have_ c M3 M4 M5 M6 M7 M8 M9 M10 M11 M12 M13 M14 M15 q g3 g4 g5 g6 X7 X8 X9 X10 X11 X12 X13 Y -∗ Q ⟨⟩))
      ⊢ wp frame (wpE (defs₀ (F := F)) Variants.none c none) E
        (cc0_moe_experts i M1 h1 M2 h2 M3 h3 M4 h4 M5 h5 M6 h6 M7 h7 M8 h8 M9 h9 M10 h10 M11 h11 M12 h12 M13 h13 M14 h14 M15 h15) Q := by
  unfold have_
  iintro ⟨⟨H3, H4, H5, H6, Hr⟩, Hk⟩
  iapply (run_idle c i M1 h1 M2 h2 M3 h3 M4 h4 M5 h5 M6 h6 M7 h7 M8 h8 M9 h9 M10 h10 M11 h11 M12 h12 M13 h13 M14 h14 M15 h15 q g6 hv E Q)
  isplitl [H6]; · iexact H6
  iintro H6
  iapply Hk
  isplitl [H3]; · iexact H3
  isplitl [H4]; · iexact H4
  isplitl [H5]; · iexact H5
  isplitl [H6]; · iexact H6
  iexact Hr

end

end Cert.Gmm

end
-- ==== Proof.GmmData.lean ====
/-
  The expert call run whole: 607 points. The output's block is revisited on consecutive points of one tile, so what it
  holds after a point is defined by recursion on the points.
-/
module

public import proofs.«01_k».proof.Proof.GmmTriples
public import Idealize.ShloMosaic.Lib.Pipeline.FrameBody

@[expose] public section

set_option maxRecDepth 20000

noncomputable section

namespace Cert.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the call is given -/

/-- The buffers as the host code before the call leaves them. -/
abbrev V (c : Dev nD) (b : Ref sig .tc) : Buf (Elt F) ((c : Thread nD τ).loc b) := at10 (fun b => m (c, b)) (Proc.devRef .tc b)

/-- The six tables' contents. -/
def tbl : pre0.Contents (Elt F) := fun j => V m (0 : Dev nD) (pre0.ref j)

variable {n : ℕ → ℕ} (Hg : Good n (tbl m))

/-- The tables as contents the windows' blocks stay within bounds at. -/
@[irreducible] def adm : (pcfg0 (F := F)).Adm := ⟨tbl m, ok_of Hg⟩
theorem adm_val : (adm m Hg).1 = tbl m := by unfold adm; exact rfl
/-- The pipeline at those tables. -/
abbrev cfgM : Cfg sig Λ₀ := cfg0 (adm m Hg)

/-- Window `w`'s block at point `t`, of the launched arrays. -/
def iblk (c : Dev nD) (w : Fin (cfgM m Hg).W) (t : Fin (cfgM m Hg).N) :
    (((cfgM m Hg).win w).xblock ((cfgM m Hg).grid.coords t)).Idx → Elt F ((cfgM m Hg).win w).elt :=
  (((cfgM m Hg).win w).blk t).view.read (Elt F) (V m c (Pipeline.arrRef spec0 w))

/-- The block of 256 rows by the weights of the point's expert. -/
def ffnAt (c : Dev nD) (t : Fin (cfgM m Hg).N) : FVec F S256x2048 .f32 :=
  ffn (F := F) (iblk m Hg c 0 t) (iblk m Hg c 1 t) (iblk m Hg c 2 t) (iblk m Hg c 3 t) (iblk m Hg c 4 t) (iblk m Hg c 5 t) (iblk m Hg c 6 t)
/-- The first row of the point's expert in the block. -/
def loAt (t : Fin (cfgM m Hg).N) : BitVec 32 := (tbl m 2 : IVec S607 32) (place (grid0.coords t))
/-- The row after its last. -/
def hiAt (t : Fin (cfgM m Hg).N) : BitVec 32 := (tbl m 3 : IVec S607 32) (place (grid0.coords t))

/-- What point `t` leaves in the output's block, of what it finds there. -/
def val (n : ℕ → ℕ) (Hg : Good n (tbl m)) (c : Dev nD) (t : Fin (cfgM m Hg).N) (Y : S4096x128.Idx → Elt F .f32) : S4096x128.Idx → Elt F .f32 :=
  if t.val < total n then
    if t.val = pre (per n) (tileOf n t.val) then firstBlk (ffnAt m Hg c t) (loAt m Hg t) (hiAt m Hg t) else nextBlk (ffnAt m Hg c t) (loAt m Hg t) (hiAt m Hg t) Y
  else Y

/-- The output's block after each point. -/
def traj (n : ℕ → ℕ) (Hg : Good n (tbl m)) (c : Dev nD) : (k : ℕ) → (h : k < (cfgM m Hg).N) → S4096x128.Idx → Elt F .f32
  | 0, h => val m n Hg c ⟨0, h⟩ (iblk m Hg c 0 ⟨0, h⟩)
  | k + 1, h => val m n Hg c ⟨k + 1, h⟩ (traj n Hg c k (Nat.lt_of_succ_lt h))

/-! ## The proof data -/

def dats (_ : Fin 1) (c : Dev nD) : Dat τ (Elt F) Unit ℕ (UR sig nD τ) ℕ (cfgM m Hg) c where
  A w := V m c (Pipeline.arrRef spec0 w)
  after w t := match w with
    | ⟨0, _⟩ => iblk m Hg c 0 t
    | ⟨1, _⟩ => iblk m Hg c 1 t
    | ⟨2, _⟩ => iblk m Hg c 2 t
    | ⟨3, _⟩ => iblk m Hg c 3 t
    | ⟨4, _⟩ => iblk m Hg c 4 t
    | ⟨5, _⟩ => iblk m Hg c 5 t
    | ⟨6, _⟩ => iblk m Hg c 6 t
    | ⟨7, _⟩ => traj m n Hg c t.val t.isLt
  Φ _ := iprop(Pipeline.ΦA spec0 c ∗ Pipeline.ΦT pre0 (adm m Hg).1 c)
  q _ := fullShare
  owed _ := 0

theorem after0 (c : Dev nD) (t : Fin (cfgM m Hg).N) : (dats m Hg 0 c).after 0 t = iblk m Hg c 0 t := rfl
theorem after1 (c : Dev nD) (t : Fin (cfgM m Hg).N) : (dats m Hg 0 c).after 1 t = iblk m Hg c 1 t := rfl
theorem after2 (c : Dev nD) (t : Fin (cfgM m Hg).N) : (dats m Hg 0 c).after 2 t = iblk m Hg c 2 t := rfl
theorem after3 (c : Dev nD) (t : Fin (cfgM m Hg).N) : (dats m Hg 0 c).after 3 t = iblk m Hg c 3 t := rfl
theorem after4 (c : Dev nD) (t : Fin (cfgM m Hg).N) : (dats m Hg 0 c).after 4 t = iblk m Hg c 4 t := rfl
theorem after5 (c : Dev nD) (t : Fin (cfgM m Hg).N) : (dats m Hg 0 c).after 5 t = iblk m Hg c 5 t := rfl
theorem after6 (c : Dev nD) (t : Fin (cfgM m Hg).N) : (dats m Hg 0 c).after 6 t = iblk m Hg c 6 t := rfl
theorem after7 (c : Dev nD) (t : Fin (cfgM m Hg).N) : (dats m Hg 0 c).after 7 t = traj m n Hg c t.val t.isLt := rfl

/-- An input is found at its block. -/
theorem before0 (c : Dev nD) (t : Fin (cfgM m Hg).N) (d) : (dats m Hg 0 c).before 0 t d = iblk m Hg c 0 t :=
  ((dats m Hg 0 c).before_in_eq_fetched 0 rfl (fun _ => rfl) (fun _ _ _ => rfl) (fun t => by rw [after0]; rfl) t d).trans rfl
theorem before1 (c : Dev nD) (t : Fin (cfgM m Hg).N) (d) : (dats m Hg 0 c).before 1 t d = iblk m Hg c 1 t :=
  ((dats m Hg 0 c).before_in_eq_fetched 1 rfl (fun _ => rfl) (fun _ _ _ => rfl) (fun t => by rw [after1]; rfl) t d).trans rfl
theorem before2 (c : Dev nD) (t : Fin (cfgM m Hg).N) (d) : (dats m Hg 0 c).before 2 t d = iblk m Hg c 2 t :=
  ((dats m Hg 0 c).before_in_eq_fetched 2 rfl (fun _ => rfl) (fun _ _ _ => rfl) (fun t => by rw [after2]; rfl) t d).trans rfl
theorem before3 (c : Dev nD) (t : Fin (cfgM m Hg).N) (d) : (dats m Hg 0 c).before 3 t d = iblk m Hg c 3 t :=
  ((dats m Hg 0 c).before_in_eq_fetched 3 rfl (fun _ => rfl) (fun _ _ _ => rfl) (fun t => by rw [after3]; rfl) t d).trans rfl
theorem before4 (c : Dev nD) (t : Fin (cfgM m Hg).N) (d) : (dats m Hg 0 c).before 4 t d = iblk m Hg c 4 t :=
  ((dats m Hg 0 c).before_in_eq_fetched 4 rfl (fun _ => rfl) (fun _ _ _ => rfl) (fun t => by rw [after4]; rfl) t d).trans rfl
theorem before5 (c : Dev nD) (t : Fin (cfgM m Hg).N) (d) : (dats m Hg 0 c).before 5 t d = iblk m Hg c 5 t :=
  ((dats m Hg 0 c).before_in_eq_fetched 5 rfl (fun _ => rfl) (fun _ _ _ => rfl) (fun t => by rw [after5]; rfl) t d).trans rfl
theorem before6 (c : Dev nD) (t : Fin (cfgM m Hg).N) (d) : (dats m Hg 0 c).before 6 t d = iblk m Hg c 6 t :=
  ((dats m Hg 0 c).before_in_eq_fetched 6 rfl (fun _ => rfl) (fun _ _ _ => rfl) (fun t => by rw [after6]; rfl) t d).trans rfl

/-! ## When the output's block is written back -/

/-- The output's block at point `t` is its tile. -/
theorem index7 (t : Fin (cfgM m Hg).N) : ((cfgM m Hg).win 7).index t = ![tileOf n t.val, 0] := by
  have h : ((cfgM m Hg).win 7).index t = cc0_transform_7 k0_off1_inb numel1_S1 (adm m Hg).1 (grid0.coords t) := by exact rfl
  rw [h, adm_val]
  exact (tr7 Hg (grid0.coords t)).trans (congrArg (fun k => ![tileOf n k, 0]) (pn_coords t))

/-- It is written back after the last point and where the tile changes. -/
theorem flush7 (t : Fin (cfgM m Hg).N) : ((cfgM m Hg).win 7).flush t = true ↔ t.val + 1 = 607 ∨ tileOf n (t.val + 1) ≠ tileOf n t.val := by
  have hN : (cfgM m Hg).grid.N = 607 := N_0
  have ht := t.isLt
  unfold Pipeline.Window.flush
  rw [show ((cfgM m Hg).win 7).isOut = true from rfl, Bool.true_and, Bool.or_eq_true, decide_eq_true_eq, decide_eq_true_eq]
  constructor
  · rintro (h | ⟨h, hh⟩)
    · exact .inl (h.trans hN)
    · right
      intro e
      apply hh
      rw [index7, index7]
      show ![tileOf n (t.val + 1), 0] = ![tileOf n t.val, 0]
      rw [e]
  · rintro (h | h)
    · exact .inl (h.trans hN.symm)
    · by_cases hl : t.val + 1 = (cfgM m Hg).grid.N
      · exact .inl hl
      · right
        refine ⟨lt_of_le_of_ne ht hl, fun e => h ?_⟩
        rw [index7, index7] at e
        exact congrFun e 0

/-- A point is idle exactly past the items. -/
theorem idle_7 (t : Fin (cfgM m Hg).N) : (cfgM m Hg).idle 7 ((cfgM m Hg).grid.coords t) = !decide (t.val < total n) := by
  have h : (cfgM m Hg).idle 7 ((cfgM m Hg).grid.coords t) = idle0 (adm m Hg).1 7 (grid0.coords t) := by exact rfl
  rw [h, adm_val]
  exact (idle7 Hg (grid0.coords t)).trans (congrArg (fun k => !decide (k < total n)) (pn_coords t))

/-- Off the first point of a tile the block is the one before's. -/
theorem fresh7 : ∀ k : ℕ, k < 607 → k ≠ 0 → ¬ (k < total n ∧ k = pre (per n) (tileOf n k)) → (cfgM m Hg).fresh 7 k = false
  | 0, _, h, _ => absurd rfl h
  | k + 1, hk, _, h => by
    have hN : (cfgM m Hg).N = 607 := N_0
    have hk' : k < (cfgM m Hg).N := by omega
    have hkeep : tileOf n (k + 1) = tileOf n k := by
      by_cases hv : k + 1 < total n
      · by_contra hne
        exact h ⟨hv, (first_iff n k hv).2 hne⟩
      · exact idle_tile n k hv
    rw [Cfg.fresh_succ _ 7 k hk', Bool.or_eq_false_iff]
    constructor
    · rw [← Bool.not_eq_true]
      intro hf
      rcases (flush7 m Hg ⟨k, hk'⟩).1 hf with e | e
      · exact absurd e (by show k + 1 ≠ 607; omega)
      · exact e hkeep
    · rw [Bool.and_eq_false_iff]
      by_cases hv : k < total n
      · left
        rw [idle_7]
        simp [hv]
      · right
        have h0 := (zero_point n).1
        exact fresh7 k (by omega) (by omega) (fun hh => hv hh.1)

/-- What the block holds when found. -/
theorem before7 (c : Dev nD) (t : Fin (cfgM m Hg).N) (d) :
    (dats m Hg 0 c).before 7 t d = if (cfgM m Hg).fresh 7 t.val then d else (dats m Hg 0 c).after 7 ⟨t.val - 1, by omega⟩ :=
  (dats m Hg 0 c).before_out_traj 7 rfl (fun _ _ => rfl) (fun t ht hi _ => by
    rw [after7, after7]
    obtain ⟨k, hk⟩ := t
    rcases k with _ | k
    · exact absurd rfl ht
    · show val m n Hg c ⟨k + 1, hk⟩ _ = _
      rw [idle_7] at hi
      unfold val
      rw [if_neg (by simpa using hi)]
      rfl) t.val t rfl d

end Cert.Gmm

end
-- ==== Proof.GmmLaunch.lean ====
/-
  The expert call's body at every point, and its launch.
-/
module

public import proofs.«01_k».proof.Proof.GmmData

@[expose] public section

set_option maxRecDepth 20000

noncomputable section

namespace Cert.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable {n : ℕ → ℕ} (Hg : Good n (tbl m))

/-! ## The tables held -/

/-- What the pipeline keeps of the prefetched tables. -/
theorem phiT_eq (c : Dev nD) (v : pre0.Contents (Elt F)) : (Pipeline.ΦT pre0 v c : sProp 𝕄)
    = iprop(pt c fullShare.right (Memref.whole main_v58) (v 0) ∗ pt c fullShare.right (Memref.whole main_v111) (v 1)
      ∗ pt c fullShare.right (Memref.whole main_v88) (v 2) ∗ pt c fullShare.right (Memref.whole main_v99) (v 3)
      ∗ pt c fullShare.right (Memref.whole main_v108) (v 4) ∗ pt c fullShare.right (Memref.whole main_v109) (v 5)) := by
  unfold Pipeline.ΦT Pipeline.prefHeld
  rw [show (Finset.univ : Finset (Fin 6)) = insert (0 : Fin 6) (insert 1 (insert 2 (insert 3 (insert 4 {5})))) from by decide,
    bigSep_insert (by decide), bigSep_insert (by decide), bigSep_insert (by decide), bigSep_insert (by decide), bigSep_insert (by decide), bigSep_singleton]
  exact rfl

/-- What it keeps of the core's own buffers. -/
theorem phiA_eq (c : Dev nD) : (Pipeline.ΦA spec0 c : sProp 𝕄)
    = iprop((∃ f, pt c fullShare (Memref.whole cc0_scratch0) f) ∗ ∃ r, prngReg c r) := by
  unfold Pipeline.ΦA
  rw [scopedRest0_eq]

/-! ## The staging buffers at a point -/

abbrev st0 (t : Fin (cfgM m Hg).N) : Memref sig .tc .vmem S4096x128 .f32 := spec0_0.stage ((cfgM m Hg).slots t 0)
abbrev st1 (t : Fin (cfgM m Hg).N) : Memref sig .tc .vmem S1x2048x2048 .bf16 := spec0_1.stage ((cfgM m Hg).slots t 1)
abbrev st2 (t : Fin (cfgM m Hg).N) : Memref sig .tc .vmem S1x2048x2048 .bf16 := spec0_2.stage ((cfgM m Hg).slots t 2)
abbrev st3 (t : Fin (cfgM m Hg).N) : Memref sig .tc .vmem S1x1x2048 .f32 := spec0_3.stage ((cfgM m Hg).slots t 3)
abbrev st4 (t : Fin (cfgM m Hg).N) : Memref sig .tc .vmem S1x1x2048 .f32 := spec0_4.stage ((cfgM m Hg).slots t 4)
abbrev st5 (t : Fin (cfgM m Hg).N) : Memref sig .tc .vmem S1x2048x2048 .bf16 := spec0_5.stage ((cfgM m Hg).slots t 5)
abbrev st6 (t : Fin (cfgM m Hg).N) : Memref sig .tc .vmem S1x1x2048 .f32 := spec0_6.stage ((cfgM m Hg).slots t 6)
abbrev st7 (t : Fin (cfgM m Hg).N) : Memref sig .tc .vmem S4096x128 .f32 := spec0_7.stage ((cfgM m Hg).slots t 7)

/-- The body as the pipeline calls it at point `t`. -/
abbrev bodyAt (t : Fin (cfgM m Hg).N) :=
  cc0_moe_experts (F := F) (grid0.coords t) (Memref.whole main_v58) (Memref.isWhole_whole _) (Memref.whole main_v111) (Memref.isWhole_whole _)
    (Memref.whole main_v88) (Memref.isWhole_whole _) (Memref.whole main_v99) (Memref.isWhole_whole _) (Memref.whole main_v108) (Memref.isWhole_whole _)
    (Memref.whole main_v109) (Memref.isWhole_whole _)
    (st0 m Hg t) (hstage0_0 (((cfgM m Hg).slots t 0).cast nbuf0_0)) (st1 m Hg t) (hstage0_1 (((cfgM m Hg).slots t 1).cast nbuf0_1))
    (st2 m Hg t) (hstage0_2 (((cfgM m Hg).slots t 2).cast nbuf0_2)) (st3 m Hg t) (hstage0_3 (((cfgM m Hg).slots t 3).cast nbuf0_3))
    (st4 m Hg t) (hstage0_4 (((cfgM m Hg).slots t 4).cast nbuf0_4)) (st5 m Hg t) (hstage0_5 (((cfgM m Hg).slots t 5).cast nbuf0_5))
    (st6 m Hg t) (hstage0_6 (((cfgM m Hg).slots t 6).cast nbuf0_6)) (st7 m Hg t) (hstage0_7 (((cfgM m Hg).slots t 7).cast nbuf0_7))
    (Memref.whole cc0_scratch0) (Memref.isWhole_whole _)

/-- The seven inputs' staging buffers at point `t`, each at its block, and the output's at `Y`. -/
def bufs (c : Dev nD) (t : Fin (cfgM m Hg).N) (Y : S4096x128.Idx → Elt F .f32) : sProp 𝕄 :=
  iprop(owns (c : Thread nD τ) (st0 m Hg t) fullShare (iblk m Hg c 0 t : S4096x128.Idx → Elt F .f32)
    ∗ owns (c : Thread nD τ) (st1 m Hg t) fullShare (iblk m Hg c 1 t : S1x2048x2048.Idx → Elt F .bf16)
    ∗ owns (c : Thread nD τ) (st2 m Hg t) fullShare (iblk m Hg c 2 t : S1x2048x2048.Idx → Elt F .bf16)
    ∗ owns (c : Thread nD τ) (st3 m Hg t) fullShare (iblk m Hg c 3 t : S1x1x2048.Idx → Elt F .f32)
    ∗ owns (c : Thread nD τ) (st4 m Hg t) fullShare (iblk m Hg c 4 t : S1x1x2048.Idx → Elt F .f32)
    ∗ owns (c : Thread nD τ) (st5 m Hg t) fullShare (iblk m Hg c 5 t : S1x2048x2048.Idx → Elt F .bf16)
    ∗ owns (c : Thread nD τ) (st6 m Hg t) fullShare (iblk m Hg c 6 t : S1x1x2048.Idx → Elt F .f32)
    ∗ owns (c : Thread nD τ) (st7 m Hg t) fullShare Y)

/-- What the pipeline keeps between points. -/
abbrev keeps (c : Dev nD) : sProp 𝕄 := iprop(Pipeline.ΦA spec0 c ∗ Pipeline.ΦT pre0 (tbl m) c)

omit Hg in
theorem word2 (c : Dev nD) (i : grid0.Coords) (g : IVec S607 32) : word (F := F) c (Memref.whole main_v88) g i = g (place i) :=
  word_place c main_v88 i g (Memref.whole main_v88) g rfl
omit Hg in
theorem word3 (c : Dev nD) (i : grid0.Coords) (g : IVec S607 32) : word (F := F) c (Memref.whole main_v99) g i = g (place i) :=
  word_place c main_v99 i g (Memref.whole main_v99) g rfl
omit Hg in
theorem word4 (c : Dev nD) (i : grid0.Coords) (g : IVec S607 32) : word (F := F) c (Memref.whole main_v108) g i = g (place i) :=
  word_place c main_v108 i g (Memref.whole main_v108) g rfl
omit Hg in
theorem word5 (c : Dev nD) (i : grid0.Coords) (g : IVec S607 32) : word (F := F) c (Memref.whole main_v109) g i = g (place i) :=
  word_place c main_v109 i g (Memref.whole main_v109) g rfl

/-- The words the body reads at a point. -/
theorem lo_word (c : Dev nD) (t : Fin (cfgM m Hg).N) : word c (Memref.whole main_v88) (tbl m 2) (grid0.coords t) = loAt m Hg t := by
  unfold loAt
  generalize tbl m 2 = g
  exact word2 c _ g
theorem hi_word (c : Dev nD) (t : Fin (cfgM m Hg).N) : word c (Memref.whole main_v99) (tbl m 3) (grid0.coords t) = hiAt m Hg t := by
  unfold hiAt
  generalize tbl m 3 = g
  exact word3 c _ g
theorem first_word (c : Dev nD) (t : Fin (cfgM m Hg).N) : word c (Memref.whole main_v108) (tbl m 4) (grid0.coords t)
    = BitVec.ofNat 32 (if t.val = pre (per n) (tileOf n t.val) then 1 else 0) := by
  have h := Hg.first ⟨pn (grid0.coords t), pn_lt _⟩
  rw [show (⟨pn (grid0.coords t), pn_lt _⟩ : Fin 607).val = t.val from pn_coords t] at h
  revert h
  generalize tbl m 4 = g
  exact fun h => (word4 c _ g).trans h
theorem valid_word (c : Dev nD) (t : Fin (cfgM m Hg).N) : word c (Memref.whole main_v109) (tbl m 5) (grid0.coords t)
    = BitVec.ofNat 32 (if t.val < total n then 1 else 0) := by
  have h := Hg.valid ⟨pn (grid0.coords t), pn_lt _⟩
  rw [show (⟨pn (grid0.coords t), pn_lt _⟩ : Fin 607).val = t.val from pn_coords t] at h
  revert h
  generalize tbl m 5 = g
  exact fun h => (word5 c _ g).trans h

/-- THE BODY AT A POINT: it leaves the inputs' blocks, and the output's at `val` of what it found. -/
theorem body_val (c : Dev nD) (t : Fin (cfgM m Hg).N) (Y : S4096x128.Idx → Elt F .f32) (E : Set ℕ) (Q : PUnit → sProp 𝕄) :
    iprop(keeps m c ∗ bufs m Hg c t Y ∗ (keeps m c ∗ bufs m Hg c t (val m n Hg c t Y) -∗ Q ⟨⟩))
      ⊢ wp frame (wpE (defs₀ (F := F)) Variants.none c none) E (bodyAt m Hg t) Q := by
  unfold keeps bufs
  rw [phiA_eq, phiT_eq]
  iintro ⟨⟨⟨Hs, Hr⟩, H1, H2, H3, H4, H5, H6⟩, ⟨B0, B1, B2, B3, B4, B5, B6, B7⟩, Hk⟩
  by_cases hv : t.val < total n
  · have c1 : k0_cond1 (word c (Memref.whole main_v109) (tbl m 5) (grid0.coords t)) = 1#1 := by rw [valid_word m Hg c t]; exact (cond1_iff _).2 hv
    by_cases hf : t.val = pre (per n) (tileOf n t.val)
    · rw [show val m n Hg c t Y = firstBlk (ffnAt m Hg c t) (loAt m Hg t) (hiAt m Hg t) by unfold val; rw [if_pos hv, if_pos hf], ← lo_word m Hg c t, ← hi_word m Hg c t]
      iapply (body_first c (grid0.coords t) (Memref.whole main_v58) (Memref.isWhole_whole _) (Memref.whole main_v111) (Memref.isWhole_whole _)
        (Memref.whole main_v88) (Memref.isWhole_whole _) (Memref.whole main_v99) (Memref.isWhole_whole _) (Memref.whole main_v108) (Memref.isWhole_whole _)
        (Memref.whole main_v109) (Memref.isWhole_whole _)
        (st0 m Hg t) (hstage0_0 (((cfgM m Hg).slots t 0).cast nbuf0_0)) (st1 m Hg t) (hstage0_1 (((cfgM m Hg).slots t 1).cast nbuf0_1))
        (st2 m Hg t) (hstage0_2 (((cfgM m Hg).slots t 2).cast nbuf0_2)) (st3 m Hg t) (hstage0_3 (((cfgM m Hg).slots t 3).cast nbuf0_3))
        (st4 m Hg t) (hstage0_4 (((cfgM m Hg).slots t 4).cast nbuf0_4)) (st5 m Hg t) (hstage0_5 (((cfgM m Hg).slots t 5).cast nbuf0_5))
        (st6 m Hg t) (hstage0_6 (((cfgM m Hg).slots t 6).cast nbuf0_6)) (st7 m Hg t) (hstage0_7 (((cfgM m Hg).slots t 7).cast nbuf0_7))
        (Memref.whole cc0_scratch0) (Memref.isWhole_whole _) fullShare.right (tbl m 2) (tbl m 3) (tbl m 4) (tbl m 5)
        (iblk m Hg c 0 t) (iblk m Hg c 1 t) (iblk m Hg c 2 t) (iblk m Hg c 3 t) (iblk m Hg c 4 t) (iblk m Hg c 5 t) (iblk m Hg c 6 t) Y c1
        (by rw [first_word m Hg c t]; exact (cond2_iff _).2 hf) (by rw [first_word m Hg c t]; exact fun h => (cond3_iff _).1 h hf)
        (by rw [first_word m Hg c t]; exact (cond4_iff _).2 hf) (by rw [first_word m Hg c t]; exact fun h => (cond5_iff _).1 h hf) E Q)
      unfold have_
      isplitl [H3 H4 H5 H6 B0 B1 B2 B3 B4 B5 B6 B7 Hs]
      · isplitl [H3]; · iexact H3
        isplitl [H4]; · iexact H4
        isplitl [H5]; · iexact H5
        isplitl [H6]; · iexact H6
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        iexact Hs
      iintro ⟨H3, H4, H5, H6, B0, B1, B2, B3, B4, B5, B6, B7, Hs⟩
      iapply Hk
      isplitl [H1 H2 H3 H4 H5 H6 Hs Hr]
      · isplitl [Hs Hr]
        · isplitl [Hs]; · iexact Hs
          iexact Hr
        isplitl [H1]; · iexact H1
        isplitl [H2]; · iexact H2
        isplitl [H3]; · iexact H3
        isplitl [H4]; · iexact H4
        isplitl [H5]; · iexact H5
        iexact H6
      isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    · rw [show val m n Hg c t Y = nextBlk (ffnAt m Hg c t) (loAt m Hg t) (hiAt m Hg t) Y by unfold val; rw [if_pos hv, if_neg hf], ← lo_word m Hg c t, ← hi_word m Hg c t]
      iapply (body_next c (grid0.coords t) (Memref.whole main_v58) (Memref.isWhole_whole _) (Memref.whole main_v111) (Memref.isWhole_whole _)
        (Memref.whole main_v88) (Memref.isWhole_whole _) (Memref.whole main_v99) (Memref.isWhole_whole _) (Memref.whole main_v108) (Memref.isWhole_whole _)
        (Memref.whole main_v109) (Memref.isWhole_whole _)
        (st0 m Hg t) (hstage0_0 (((cfgM m Hg).slots t 0).cast nbuf0_0)) (st1 m Hg t) (hstage0_1 (((cfgM m Hg).slots t 1).cast nbuf0_1))
        (st2 m Hg t) (hstage0_2 (((cfgM m Hg).slots t 2).cast nbuf0_2)) (st3 m Hg t) (hstage0_3 (((cfgM m Hg).slots t 3).cast nbuf0_3))
        (st4 m Hg t) (hstage0_4 (((cfgM m Hg).slots t 4).cast nbuf0_4)) (st5 m Hg t) (hstage0_5 (((cfgM m Hg).slots t 5).cast nbuf0_5))
        (st6 m Hg t) (hstage0_6 (((cfgM m Hg).slots t 6).cast nbuf0_6)) (st7 m Hg t) (hstage0_7 (((cfgM m Hg).slots t 7).cast nbuf0_7))
        (Memref.whole cc0_scratch0) (Memref.isWhole_whole _) fullShare.right (tbl m 2) (tbl m 3) (tbl m 4) (tbl m 5)
        (iblk m Hg c 0 t) (iblk m Hg c 1 t) (iblk m Hg c 2 t) (iblk m Hg c 3 t) (iblk m Hg c 4 t) (iblk m Hg c 5 t) (iblk m Hg c 6 t) Y c1
        (by rw [first_word m Hg c t]; exact fun h => hf ((cond2_iff _).1 h)) (by rw [first_word m Hg c t]; exact (cond3_iff _).2 hf)
        (by rw [first_word m Hg c t]; exact fun h => hf ((cond4_iff _).1 h)) (by rw [first_word m Hg c t]; exact (cond5_iff _).2 hf) E Q)
      unfold have_
      isplitl [H3 H4 H5 H6 B0 B1 B2 B3 B4 B5 B6 B7 Hs]
      · isplitl [H3]; · iexact H3
        isplitl [H4]; · iexact H4
        isplitl [H5]; · iexact H5
        isplitl [H6]; · iexact H6
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        iexact Hs
      iintro ⟨H3, H4, H5, H6, B0, B1, B2, B3, B4, B5, B6, B7, Hs⟩
      iapply Hk
      isplitl [H1 H2 H3 H4 H5 H6 Hs Hr]
      · isplitl [Hs Hr]
        · isplitl [Hs]; · iexact Hs
          iexact Hr
        isplitl [H1]; · iexact H1
        isplitl [H2]; · iexact H2
        isplitl [H3]; · iexact H3
        isplitl [H4]; · iexact H4
        isplitl [H5]; · iexact H5
        iexact H6
      isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
  · rw [show val m n Hg c t Y = Y by unfold val; rw [if_neg hv]]
    iapply (run_idle c (grid0.coords t) (Memref.whole main_v58) (Memref.isWhole_whole _) (Memref.whole main_v111) (Memref.isWhole_whole _)
        (Memref.whole main_v88) (Memref.isWhole_whole _) (Memref.whole main_v99) (Memref.isWhole_whole _) (Memref.whole main_v108) (Memref.isWhole_whole _)
        (Memref.whole main_v109) (Memref.isWhole_whole _)
        (st0 m Hg t) (hstage0_0 (((cfgM m Hg).slots t 0).cast nbuf0_0)) (st1 m Hg t) (hstage0_1 (((cfgM m Hg).slots t 1).cast nbuf0_1))
        (st2 m Hg t) (hstage0_2 (((cfgM m Hg).slots t 2).cast nbuf0_2)) (st3 m Hg t) (hstage0_3 (((cfgM m Hg).slots t 3).cast nbuf0_3))
        (st4 m Hg t) (hstage0_4 (((cfgM m Hg).slots t 4).cast nbuf0_4)) (st5 m Hg t) (hstage0_5 (((cfgM m Hg).slots t 5).cast nbuf0_5))
        (st6 m Hg t) (hstage0_6 (((cfgM m Hg).slots t 6).cast nbuf0_6)) (st7 m Hg t) (hstage0_7 (((cfgM m Hg).slots t 7).cast nbuf0_7))
        (Memref.whole cc0_scratch0) (Memref.isWhole_whole _) fullShare.right (tbl m 5)
        (by rw [valid_word m Hg c t]; exact fun h => hv ((cond1_iff _).1 h)) E Q)
    isplitl [H6]; · iexact H6
    iintro H6
    iapply Hk
    isplitl [H1 H2 H3 H4 H5 H6 Hs Hr]
    · isplitl [Hs Hr]
      · isplitl [Hs]; · iexact Hs
        iexact Hr
      isplitl [H1]; · iexact H1
      isplitl [H2]; · iexact H2
      isplitl [H3]; · iexact H3
      isplitl [H4]; · iexact H4
      isplitl [H5]; · iexact H5
      iexact H6
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7

end Cert.Gmm

end
-- ==== Proof.GmmRun.lean ====
/-
  The expert call launched: the body at every point as the pipeline asks it, and the run whole.
-/
module

public import proofs.«01_k».proof.Proof.GmmLaunch

@[expose] public section

set_option maxRecDepth 20000

noncomputable section

namespace Cert.Gmm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable {n : ℕ → ℕ} (Hg : Good n (tbl m))

/-- The output's buffer as the pipeline wants it after point `t`. -/
def outPost (c : Dev nD) (t : Fin (cfgM m Hg).N) : sProp 𝕄 :=
  match (cfgM m Hg).idle 7 ((cfgM m Hg).grid.coords t) with
  | true => match ((cfgM m Hg).win 7).flush t with
    | false => iprop(∃ d, owns (c : Thread nD τ) (st7 m Hg t) fullShare ((dats m Hg 0 c).before 7 t d))
    | true => owns (c : Thread nD τ) (st7 m Hg t) fullShare ((dats m Hg 0 c).after 7 t)
  | false => owns (c : Thread nD τ) (st7 m Hg t) fullShare ((dats m Hg 0 c).after 7 t)

def bodyPre (c : Dev nD) (t : Fin (cfgM m Hg).N) : sProp 𝕄 :=
  iprop((dats m Hg 0 c).Φ t.castSucc ∗ (dats m Hg 0 c).owesAt () t.castSucc
    ∗ (∃ d, owns (c : Thread nD τ) (st0 m Hg t) fullShare ((dats m Hg 0 c).before 0 t d))
    ∗ (∃ d, owns (c : Thread nD τ) (st1 m Hg t) fullShare ((dats m Hg 0 c).before 1 t d))
    ∗ (∃ d, owns (c : Thread nD τ) (st2 m Hg t) fullShare ((dats m Hg 0 c).before 2 t d))
    ∗ (∃ d, owns (c : Thread nD τ) (st3 m Hg t) fullShare ((dats m Hg 0 c).before 3 t d))
    ∗ (∃ d, owns (c : Thread nD τ) (st4 m Hg t) fullShare ((dats m Hg 0 c).before 4 t d))
    ∗ (∃ d, owns (c : Thread nD τ) (st5 m Hg t) fullShare ((dats m Hg 0 c).before 5 t d))
    ∗ (∃ d, owns (c : Thread nD τ) (st6 m Hg t) fullShare ((dats m Hg 0 c).before 6 t d))
    ∗ (∃ d, owns (c : Thread nD τ) (st7 m Hg t) fullShare ((dats m Hg 0 c).before 7 t d)))
def bodyPost (c : Dev nD) (t : Fin (cfgM m Hg).N) : sProp 𝕄 :=
  iprop((dats m Hg 0 c).Φ t.succ ∗ (dats m Hg 0 c).owesAt () t.succ
    ∗ owns (c : Thread nD τ) (st0 m Hg t) fullShare ((dats m Hg 0 c).after 0 t)
    ∗ owns (c : Thread nD τ) (st1 m Hg t) fullShare ((dats m Hg 0 c).after 1 t)
    ∗ owns (c : Thread nD τ) (st2 m Hg t) fullShare ((dats m Hg 0 c).after 2 t)
    ∗ owns (c : Thread nD τ) (st3 m Hg t) fullShare ((dats m Hg 0 c).after 3 t)
    ∗ owns (c : Thread nD τ) (st4 m Hg t) fullShare ((dats m Hg 0 c).after 4 t)
    ∗ owns (c : Thread nD τ) (st5 m Hg t) fullShare ((dats m Hg 0 c).after 5 t)
    ∗ owns (c : Thread nD τ) (st6 m Hg t) fullShare ((dats m Hg 0 c).after 6 t)
    ∗ outPost m Hg c t)

/-- What the pipeline keeps, with the tables' contents named. -/
theorem phi_eq (c : Dev nD) (t) : (dats m Hg 0 c).Φ t = keeps m c := by
  rw [show (dats m Hg 0 c).Φ t = iprop(Pipeline.ΦA spec0 c ∗ Pipeline.ΦT pre0 (adm m Hg).1 c) by exact rfl, adm_val]

/-- The output's block as found at point `t`. -/
def bef7 (c : Dev nD) (t : Fin (cfgM m Hg).N) (d : ((cfgM m Hg).win 7).block.Idx → Elt F ((cfgM m Hg).win 7).elt) : S4096x128.Idx → Elt F .f32 :=
  (dats m Hg 0 c).before 7 t d

omit Hg in
theorem val_idle (Hg : Good n (tbl m)) (c : Dev nD) (t : Fin (cfgM m Hg).N) (hv : ¬ t.val < total n) (Y) : val m n Hg c t Y = Y := if_neg hv
omit Hg in
theorem val_first (Hg : Good n (tbl m)) (c : Dev nD) (t : Fin (cfgM m Hg).N) (h : t.val < total n ∧ t.val = pre (per n) (tileOf n t.val)) (Y) :
    val m n Hg c t Y = firstBlk (ffnAt m Hg c t) (loAt m Hg t) (hiAt m Hg t) := (if_pos h.1).trans (if_pos h.2)
omit Hg in
theorem val_next (Hg : Good n (tbl m)) (c : Dev nD) (t : Fin (cfgM m Hg).N) (h : t.val < total n) (h' : t.val ≠ pre (per n) (tileOf n t.val)) (Y) :
    val m n Hg c t Y = nextBlk (ffnAt m Hg c t) (loAt m Hg t) (hiAt m Hg t) Y := (if_pos h).trans (if_neg h')
theorem traj_zero (c : Dev nD) (h) : traj m n Hg c 0 h = val m n Hg c ⟨0, h⟩ (iblk m Hg c 0 ⟨0, h⟩) := by
  unfold traj; rfl
theorem traj_succ (c : Dev nD) (k : ℕ) (h) (h') : traj m n Hg c (k + 1) h = val m n Hg c ⟨k + 1, h⟩ (traj m n Hg c k h') := by
  rw [traj]

/-- The output's block after point `t` is `val` of the block as found there. -/
theorem val_after (c : Dev nD) (t : Fin (cfgM m Hg).N) (d) : val m n Hg c t (bef7 m Hg c t d) = traj m n Hg c t.val t.isLt := by
  have hN : (cfgM m Hg).N = 607 := N_0
  obtain ⟨k, hk⟩ := t
  have ht : k < 607 := lt_of_lt_of_eq hk hN
  by_cases hfirst : k < total n ∧ k = pre (per n) (tileOf n k)
  · rw [val_first m Hg c ⟨k, hk⟩ hfirst]
    rcases k with _ | k
    · exact ((traj_zero m Hg c hk).trans (val_first m Hg c ⟨0, hk⟩ hfirst _)).symm
    · rw [traj_succ m Hg c k hk (by omega), val_first m Hg c ⟨k + 1, hk⟩ hfirst]
  · rcases k with _ | k
    · exact absurd (zero_point n) hfirst
    · have e : bef7 m Hg c ⟨k + 1, hk⟩ d = traj m n Hg c k (by omega) :=
        ((before7 m Hg c ⟨k + 1, hk⟩ d).trans (if_neg (by rw [fresh7 m Hg (k + 1) ht (Nat.succ_ne_zero k) hfirst]; exact Bool.false_ne_true))).trans
          (after7 m Hg c ⟨k, by omega⟩)
      rw [e, traj_succ m Hg c k hk (by omega)]

/-- What a point leaves in the output's block is what is wanted of it. -/
theorem out_post (c : Dev nD) (t : Fin (cfgM m Hg).N) (d) :
    (owns (c : Thread nD τ) (st7 m Hg t) fullShare (val m n Hg c t (bef7 m Hg c t d)) : sProp 𝕄) ⊢ outPost m Hg c t := by
  unfold outPost
  by_cases hv : t.val < total n
  · rw [idle_7, decide_eq_true hv, val_after, after7]
    exact .rfl
  · rw [idle_7, decide_eq_false hv]
    cases h : ((cfgM m Hg).win 7).flush t
    · rw [val_idle m Hg c t hv]
      unfold bef7
      simp only [Bool.not_false]
      iintro H
      iexists d
      iexact H
    · rw [val_after, after7]
      exact .rfl

theorem sound_body (c : Dev nD) (t : Fin (cfgM m Hg).N) :
    bodyPre m Hg c t ⊢ wp frame (wpE (defs₀ (F := F)) Variants.none c none) Set.univ (bodyAt m Hg t) (fun _ => bodyPost m Hg c t) := by
  unfold bodyPre bodyPost
  rw [phi_eq, phi_eq, show (dats m Hg 0 c).owesAt () t.succ = (dats m Hg 0 c).owesAt () t.castSucc by exact rfl,
    after0, after1, after2, after3, after4, after5, after6]
  simp only [before0, before1, before2, before3, before4, before5, before6]
  iintro ⟨HK, HW, ⟨%d0, B0⟩, ⟨%d1, B1⟩, ⟨%d2, B2⟩, ⟨%d3, B3⟩, ⟨%d4, B4⟩, ⟨%d5, B5⟩, ⟨%d6, B6⟩, ⟨%d7, B7⟩⟩
  iapply (body_val m Hg c t (bef7 m Hg c t d7) Set.univ _)
  unfold bufs
  isplitl [HK]; · iexact HK
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  iintro ⟨HK, B0, B1, B2, B3, B4, B5, B6, B7⟩
  isplitl [HK]; · iexact HK
  isplitl [HW]; · iexact HW
  isplitl [B0]; · iexact B0
  isplitl [B1]; · iexact B1
  isplitl [B2]; · iexact B2
  isplitl [B3]; · iexact B3
  isplitl [B4]; · iexact B4
  isplitl [B5]; · iexact B5
  isplitl [B6]; · iexact B6
  iapply (out_post m Hg c t d7)
  iexact B7

theorem defs₀_row (t : Fin (cfgM m Hg).N) :
    defs₀ (F := F) .tc (cfgM m Hg).body ((cfgM m Hg).bodyArgs t ((cfgM m Hg).slots t)) = bodyAt m Hg t := by
  unfold defs₀; rw [Defs.onTc_tc]

theorem body_obligation (c : Dev nD) : BodyObligation (dats (F := F) m Hg 0 c) (defs₀ (F := F)) Variants.none () Set.univ := fun t => by
  rw [bigSep_W0, bigSep_W0, defs₀_row]
  exact triple_restated (sound_body m Hg c t) rfl .rfl fun _ => .rfl

/-! ## The launch -/

/-! No host operation before the call leaves a buffer at contents of its choosing. -/

theorem fresh0_0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh0_7 : (hostOps0_7 : List (HloOp τ sig (Elt F))).Forall fun op => op.fresh = ∅ := by
  simp only [List.Forall]; repeat' constructor
theorem fresh0_8 : (hostOps0_8 : List (HloOp τ sig (Elt F))).Forall fun op => op.fresh = ∅ := by
  simp only [List.Forall]; repeat' constructor
theorem fresh0_9 : (hostOps0_9 : List (HloOp τ sig (Elt F))).Forall fun op => op.fresh = ∅ := by
  simp only [List.Forall]; repeat' constructor
theorem fresh0_10 : (hostOps0_10 : List (HloOp τ sig (Elt F))).Forall fun op => op.fresh = ∅ := by
  simp only [List.Forall]; repeat' constructor

/-! The arguments as the call finds them. -/

theorem V_arg0 (c : Dev nD) : V m c main_arg0 = m ((c : Thread nD τ).loc main_arg0) := keep_main_arg0 (fun b => m (c, b))
theorem V_arg1 (c : Dev nD) : V m c main_arg1 = m ((c : Thread nD τ).loc main_arg1) := keep_main_arg1 (fun b => m (c, b))
theorem V_arg2 (c : Dev nD) : V m c main_arg2 = m ((c : Thread nD τ).loc main_arg2) := keep_main_arg2 (fun b => m (c, b))
theorem V_arg3 (c : Dev nD) : V m c main_arg3 = m ((c : Thread nD τ).loc main_arg3) := keep_main_arg3 (fun b => m (c, b))
theorem V_arg4 (c : Dev nD) : V m c main_arg4 = m ((c : Thread nD τ).loc main_arg4) := keep_main_arg4 (fun b => m (c, b))
theorem V_arg5 (c : Dev nD) : V m c main_arg5 = m ((c : Thread nD τ).loc main_arg5) := keep_main_arg5 (fun b => m (c, b))
theorem rest1 : main_arg1 ∈ Pipeline.restRefs sig spec0 := Pipeline.mem_restRefs_of main_arg1 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)
theorem rest4 : main_arg4 ∈ Pipeline.restRefs sig spec0 := Pipeline.mem_restRefs_of main_arg4 (by decide) (by decide)
theorem rest5 : main_arg5 ∈ Pipeline.restRefs sig spec0 := Pipeline.mem_restRefs_of main_arg5 (by decide) (by decide)

theorem hmainC : Pipeline.HMainP (Ix := Unit) (Name := ℕ) (U := UR sig nD τ) (Lvl := ℕ) (pcfgs (F := F)) 0 defs₀ Variants.none m (main (F := F)) (V m) := by
  have h := Pipeline.hmainP_prefixes (Ix := Unit) (Name := ℕ) (U := UR sig nD τ) (Lvl := ℕ) (pcfgs (F := F)) 0 defs₀ Variants.none m (main (F := F)) prep
    ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
    ⟨fresh0_0, fresh0_1, fresh0_2, fresh0_3, fresh0_4, fresh0_5, fresh0_6, fresh0_7, fresh0_8, fresh0_9, fresh0_10⟩
    main_chain
  have e : (fun (c : Dev nD) (b : Ref sig .tc) => StableHlo.after (prep (F := F)).flatten (fun b => m (c, b)) (Proc.devRef .tc b)) = V m := by
    funext c b
    rw [after_prep]
  exact e ▸ h

set_option backward.isDefEq.respectTransparency.types false in
/-- THE RUN: every execution ends, the result holds what the points leave in it, the arguments are as launched and
    every semaphore reads zero. -/
theorem run_main : θ_run defs (onTc (τ := τ) (main (F := F))) ⟨m, fun _ => 0, ρ⟩ (fun r => (∀ c : Dev nD,
      r.2.mem ((c.tc : Thread nD τ).loc main_v112) = (dats m Hg 0 c).arrAt 7 (cfgM m Hg).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frameP (Q' := _) (pcfgs (F := F)) (fun _ => adm m Hg) (dats m Hg) (0 : Fin 1) launch0 defs₀ Variants.none m ρ main
    (hbody := fun c => (body_obligation m Hg c).loose) (hshare := fun c => (dats m Hg 0 c).share_full fun _ => rfl)
    (howed := fun _ _ => rfl) (V := V m) (hmain := hmainC m) (hA := fun _ _ => rfl)
    (hpf := fun c k => by
      obtain rfl : c = 0 := Subsingleton.elim _ _
      show _ = (adm m Hg).1 k
      rw [adm_val]
      exact rfl)
    (hΦ := fun _ _ => rfl)
    (hQ' := fun r h => ⟨fun c => ⟨(h.1 c).1 7,
      ((h.1 c).1 0).trans (((dats m Hg 0 c).arrAt_in 0 rfl _).trans (V_arg0 m c)),
      ((h.1 c).2 main_arg1 rest1).trans (V_arg1 m c),
      ((h.1 c).2 main_arg2 rest2).trans (V_arg2 m c),
      ((h.1 c).2 main_arg3 rest3).trans (V_arg3 m c),
      ((h.1 c).2 main_arg4 rest4).trans (V_arg4 m c),
      ((h.1 c).2 main_arg5 rest5).trans (V_arg5 m c)⟩, h.2⟩)

end Cert.Gmm

end
-- ==== Proof.GmmFacts.lean ====
module

public import proofs.«01_k».proof.Defs
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_counts_add_up
-- ==== Proof.GmmFrame.lean ====
/-
  The expert call from the precondition: its tables are as the run wants them, so it runs; and its two printings
  run alike.
-/
module

public import proofs.«01_k».proof.Proof.GmmRun
public import proofs.«01_k».proof.Proof.GmmFacts

@[expose] public section

set_option maxRecDepth 20000

noncomputable section

namespace Cert.Gmm

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The counts as launched. -/
abbrev cnt : ℕ → ℕ := num (m (((0 : Dev nD) : Thread nD τ).loc main_arg1) : IVec S32 32)

/-- Counts that add up to the slots make good tables. -/
theorem good (h : pre (cnt m) 32 = 147456) : Good (cnt m) (tbl m) := by
  have H := tabs (fun b => m ((0 : Dev nD), b)) (cnt m) h (fun e => num_word _ e)
  exact ⟨H.tile, H.ex, H.lo, H.hi, H.first, H.valid⟩

/-- The two printings of the kernel have one body table; -/
theorem defs₀_eq : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => rfl

/-- so one table of procedures; -/
theorem defs_eq : Cert.Kernel2.defs (F := F) = Cert.Kernel2Ideal.defs (F := F) :=
  congrArg (Pipeline.defs Cert.Kernel2Ideal.pcfgs) defs₀_eq

set_option maxHeartbeats 4000000 in
/-- one first part of the entry point, -/
theorem part0_eq (d : Dev nD) : Cert.Kernel2.main_part0 (F := F) d = Cert.Kernel2Ideal.main_part0 (F := F) d := by
  unfold Cert.Kernel2.main_part0 Cert.Kernel2Ideal.main_part0
  exact rfl
set_option maxHeartbeats 4000000 in
/-- one second, -/
theorem part1_eq (d : Dev nD) : Cert.Kernel2.main_part1 (F := F) d = Cert.Kernel2Ideal.main_part1 (F := F) d := by
  unfold Cert.Kernel2.main_part1 Cert.Kernel2Ideal.main_part1
  exact rfl
set_option maxHeartbeats 4000000 in
/-- one third, -/
theorem part2_eq (d : Dev nD) : Cert.Kernel2.main_part2 (F := F) d = Cert.Kernel2Ideal.main_part2 (F := F) d := by
  unfold Cert.Kernel2.main_part2 Cert.Kernel2Ideal.main_part2
  exact rfl

/-- and one entry point. -/
theorem main_eq : Cert.Kernel2.main (F := F) = Cert.Kernel2Ideal.main (F := F) := by
  funext d
  unfold Cert.Kernel2.main Cert.Kernel2Ideal.main
  exact congr (congrArg _ (part0_eq d)) (funext fun _ => congr (congrArg _ (part1_eq d)) (funext fun _ => part2_eq d))

/-- So a run of the one is a run of the other. -/
theorem run_eq (g : Dev nD → PrngReg) (Q : PUnit × MemSt nD τ sig (Elt F) → Prop) :
    θ_run (Cert.Kernel2.defs (F := F)) (onTc (τ := Cert.Kernel2.τ) (Cert.Kernel2.main (F := F))) ⟨m, fun _ => 0, g⟩ Q
      = θ_run (Cert.Kernel2Ideal.defs (F := F)) (onTc (τ := Cert.Kernel2Ideal.τ) (Cert.Kernel2Ideal.main (F := F))) ⟨m, fun _ => 0, g⟩ Q := by
  rw [defs_eq, main_eq]; exact rfl

end Cert.Gmm

end
-- ==== Proof.GmmSpec.lean ====
/-
  One slot's result as a formula of its sixteen rows and of its expert's weights, over the extended reals.
-/
module

public import proofs.«01_k».proof.Proof.GmmItems
public import Idealize.ShloMosaic.Lib.ValueIdxCore
public import Idealize.ShloMosaic.PureOps.Ideal

@[expose] public section

noncomputable section

namespace Cert.Gmm

open Idealize.ShloMosaic Idealize.ShloMosaic.ValueIdx
open scoped BigOperators

/-- Where a token's row of 2 048 values lies among its sixteen rows of 128. -/
abbrev tok {A B : ℕ} (h : B = 16 * A) (a : Fin A) (d : Fin 2048) : (⟨2, ![B, 128]⟩ : Shape).Idx :=
  ix2 ⟨16 * a.val + d.val / 128, by have := a.isLt; have := d.isLt; omega⟩ ⟨d.val % 128, Nat.mod_lt _ (by decide)⟩

/-- The gated activation: the gate at most 7, the linear part between -7 and 7, sigmoid of 1.702 times the gate. -/
def act (G L : Ideal .f32) : Ideal .f32 :=
  let g : Ideal .f32 := FloatOps.minimumf G (Scalar.ofBits .f32 0x40E00000#32)
  FloatOps.mulf (FloatOps.mulf g (FloatOps.logistic (FloatOps.mulf (Scalar.ofBits .f32 0x3FD9DB23#32) g)))
    (FloatOps.addf (FloatOps.minimumf (Scalar.ofBits .f32 0x40E00000#32) (FloatOps.maximumf (Scalar.ofBits .f32 0xC0E00000#32) L))
      (Scalar.ofBits .f32 0x3F800000#32))

/-- One expert's result of a row `x` at place `q`. -/
def expert (x : Fin 2048 → EReal) (wg wl : Fin 2048 → Fin 2048 → EReal) (bg bl : Fin 2048 → EReal) (wd : Fin 2048 → Fin 2048 → EReal)
    (bd : Fin 2048 → EReal) (q : Fin 2048) : EReal :=
  (∑ f : Fin 2048, act ((∑ d : Fin 2048, x d * wg d f) + bg f) ((∑ d : Fin 2048, x d * wl d f) + bl f) * wd f q) + bd q

/-- The even places. -/
abbrev ev (f : Fin 2048) : Fin 4096 := ⟨2 * f.val, by have := f.isLt; omega⟩
/-- The odd places. -/
abbrev od (f : Fin 2048) : Fin 4096 := ⟨1 + 2 * f.val, by have := f.isLt; omega⟩

/-- Layer 0's expert `e` at slot `R`. -/
def slotRow (xs : (⟨2, ![2359296, 128]⟩ : Shape).Idx → EReal) (wgu : (⟨4, ![2, 32, 2048, 4096]⟩ : Shape).Idx → EReal)
    (bgu : (⟨3, ![2, 32, 4096]⟩ : Shape).Idx → EReal) (wdn : (⟨4, ![2, 32, 2048, 2048]⟩ : Shape).Idx → EReal)
    (bdn : (⟨3, ![2, 32, 2048]⟩ : Shape).Idx → EReal) (e : Fin 32) (R : Fin 147456) (q : Fin 2048) : EReal :=
  expert (fun d => xs (tok rfl R d)) (fun d f => wgu (ix4 (0 : Fin 2) e d (ev f))) (fun d f => wgu (ix4 (0 : Fin 2) e d (od f)))
    (fun f => bgu (ix3 (0 : Fin 2) e (ev f))) (fun f => bgu (ix3 (0 : Fin 2) e (od f)))
    (fun f q => wdn (ix4 (0 : Fin 2) e f q)) (fun q => bdn (ix3 (0 : Fin 2) e q)) q

/-- The expert slot `R` belongs to, of the counts `n`. -/
abbrev expOf (n : ℕ → ℕ) (R : ℕ) : Fin 32 := ⟨cut n R, by unfold cut; omega⟩

/-- The whole result, sixteen rows per slot. -/
def answer (xs : (⟨2, ![2359296, 128]⟩ : Shape).Idx → EReal) (n : ℕ → ℕ) (wgu : (⟨4, ![2, 32, 2048, 4096]⟩ : Shape).Idx → EReal)
    (bgu : (⟨3, ![2, 32, 4096]⟩ : Shape).Idx → EReal) (wdn : (⟨4, ![2, 32, 2048, 2048]⟩ : Shape).Idx → EReal)
    (bdn : (⟨3, ![2, 32, 2048]⟩ : Shape).Idx → EReal) (y : (⟨2, ![2359296, 128]⟩ : Shape).Idx) : EReal :=
  slotRow xs wgu bgu wdn bdn (expOf n ((y 0).val / 16))
    ⟨(y 0).val / 16, by have : (y 0).val < 2359296 := (y 0).isLt; omega⟩
    ⟨128 * ((y 0).val % 16) + (y 1).val, by have : (y 1).val < 128 := (y 1).isLt; omega⟩

end Cert.Gmm

end
-- ==== Proof.GmmRows.lean ====
/-
  The rows of one block: what the body's changes of layout and its masked stores leave, index by index.
-/
module

public import proofs.«01_k».proof.Proof.GmmBody
public import proofs.«01_k».proof.Proof.GmmSpec
public import Idealize.ShloMosaic.Lib.Pipeline.ValueKit.Tiles
public import Idealize.ShloMosaic.Lib.ValueLayout
public import Idealize.ShloMosaic.Lib.WordCmp
public import Idealize.ShloMosaic.PureOps.Ideal.Laws

@[expose] public section

set_option maxRecDepth 20000

noncomputable section

namespace Cert.Gmm

open Cert.Kernel2Ideal Cert.Kernel2Ideal.Gen
open Idealize.ShloMosaic Idealize.ShloMosaic.ValueIdx

/-! ## Sixteen rows per token, made one row per token -/

/-- Slice `k` of the sixteen, at token `j 0`. -/
theorem piece_at (k : ℕ) (hk : k < 16) (X : Vec Ideal S2048x128 .f32) (hs : S16x128x128.Slices ![k, 0, 0] S1x128x128) (j : S128x128.Idx) :
    shapeCast S128x128 (extractStridedSlice S1x128x128 ![k, 0, 0] (k0_pay3 X) hs) shapeCasts_S1x128x128_S128x128 j
      = X (ix2 (⟨16 * (j 0).val + k, by have : (j 0).val < 128 := (j 0).isLt; omega⟩ : Fin 2048) (j 1 : Fin 128)) := by
  have h0 : (j 0).val < 128 := (j 0).isLt
  have h1 : (j 1).val < 128 := (j 1).isLt
  refine (shapeCast_apply (s := S1x128x128) (t := S128x128) _ _ j (ix3 (0 : Fin 1) (j 0 : Fin 128) (j 1 : Fin 128)) (by
    rw [Shape.rowMajor_val_three, Shape.rowMajor_val_two]
    show ((0 : ℕ) * 128 + (j 0).val) * 128 + (j 1).val = (j 0).val * 128 + (j 1).val
    omega)).trans ?_
  refine (extractStridedSlice_apply (s := S16x128x128) (t := S1x128x128) ![k, 0, 0] _ hs _ (ix3 (⟨k, hk⟩ : Fin 16) (j 0 : Fin 128) (j 1 : Fin 128)) (by
    intro a
    match a with
    | ⟨0, _⟩ => show k = k + 0; rfl
    | ⟨1, _⟩ => show (j 0).val = 0 + (j 0).val; omega
    | ⟨2, _⟩ => show (j 1).val = 0 + (j 1).val; omega)).trans ?_
  unfold k0_pay3
  refine (transpose_apply (s := S128x16x128) (t := S16x128x128) [1, 0, 2] _ _ _ (ix3 (j 0 : Fin 128) (⟨k, hk⟩ : Fin 16) (j 1 : Fin 128)) (by
    intro b
    match b with
    | ⟨0, _⟩ => rfl
    | ⟨1, _⟩ => rfl
    | ⟨2, _⟩ => rfl)).trans ?_
  exact shapeCast_apply (s := S2048x128) (t := S128x16x128) _ _ _ (ix2 (⟨16 * (j 0).val + k, by omega⟩ : Fin 2048) (j 1 : Fin 128)) (by
    rw [Shape.rowMajor_val_three, Shape.rowMajor_val_two]
    show (16 * (j 0).val + k) * 128 + (j 1).val = ((j 0).val * 16 + k) * 128 + (j 1).val
    omega)

/-- What the buffer of tokens holds: at token `a`, value `d`, the block's row `16 a + d / 128`, lane `d % 128`. -/
def tokens (X7 : S4096x128.Idx → Elt Ideal .f32) : S256x2048.Idx → Elt Ideal .bf16 := fun y => X7 (tok (A := 256) (B := 4096) rfl (y 0) (y 1))

/-- A piece's slice of a half of the block is that piece of the tokens. -/
theorem piece_tokens (X7 : S4096x128.Idx → Elt Ideal .f32) (k r0 a0 b0 : ℕ) (hk : k < 16) (hr : r0 = 16 * a0) (hb : b0 = 128 * k)
    (hi : ∀ a, (![r0, 0] : Fin 2 → ℕ) a + S2048x128.size a ≤ S4096x128.size a)
    (hp : ∀ a, (![a0, b0] : Fin 2 → ℕ) a + S128x128.size a ≤ S256x2048.size a)
    (hs : S16x128x128.Slices ![k, 0, 0] S1x128x128) (x : S128x128.Idx) :
    shapeCast S128x128 (extractStridedSlice S1x128x128 ![k, 0, 0]
        (k0_pay3 (View.ld X7 (Rect.unit (s := S4096x128) ![r0, 0] S2048x128.size hi) : Vec Ideal S2048x128 .f32)) hs) shapeCasts_S1x128x128_S128x128 x
      = tokens X7 ((Rect.unit (s := S256x2048) ![a0, b0] S128x128.size hp).emb x) := by
  have h0 : (x 0).val < 128 := (x 0).isLt
  have h1 : (x 1).val < 128 := (x 1).isLt
  rw [piece_at k hk]
  have e0 : ((Rect.unit (s := S256x2048) ![a0, b0] S128x128.size hp).idx x 0).val = a0 + (x 0).val := Rect.idx_unit_val (s := S256x2048) ![a0, b0] S128x128.size hp x 0
  have e1 : ((Rect.unit (s := S256x2048) ![a0, b0] S128x128.size hp).idx x 1).val = b0 + (x 1).val := Rect.idx_unit_val (s := S256x2048) ![a0, b0] S128x128.size hp x 1
  refine View.ld_unit_apply_of X7 ![r0, 0] S2048x128.size hi _ _ fun a => ?_
  match a with
  | ⟨0, _⟩ =>
    show 16 * ((Rect.unit (s := S256x2048) ![a0, b0] S128x128.size hp).idx x 0).val + ((Rect.unit (s := S256x2048) ![a0, b0] S128x128.size hp).idx x 1).val / 128
      = r0 + (16 * (x 0).val + k)
    rw [e0, e1]; omega
  | ⟨1, _⟩ =>
    show ((Rect.unit (s := S256x2048) ![a0, b0] S128x128.size hp).idx x 1).val % 128 = 0 + (x 1).val
    rw [e1]; omega

/-- Each store into the buffer of tokens writes the tokens' values. -/
theorem xPieces_tokens (X7 : S4096x128.Idx → Elt Ideal .f32) :
    ∀ p ∈ xPieces X7, ∀ x : p.1.shape.Idx, p.2 x = tokens X7 (p.1.emb x) := by
  unfold xPieces
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩ <;> intro x
  · exact (congrFun (shapeCast_self _ _) x).trans (piece_tokens X7 15 2048 128 1920 (by decide) rfl rfl _ _ slices_S16x128x128_o15_0_0_S1x128x128 x)
  · exact (congrFun (shapeCast_self _ _) x).trans (piece_tokens X7 14 2048 128 1792 (by decide) rfl rfl _ _ slices_S16x128x128_o14_0_0_S1x128x128 x)
  · exact (congrFun (shapeCast_self _ _) x).trans (piece_tokens X7 13 2048 128 1664 (by decide) rfl rfl _ _ slices_S16x128x128_o13_0_0_S1x128x128 x)
  · exact (congrFun (shapeCast_self _ _) x).trans (piece_tokens X7 12 2048 128 1536 (by decide) rfl rfl _ _ slices_S16x128x128_o12_0_0_S1x128x128 x)
  · exact (congrFun (shapeCast_self _ _) x).trans (piece_tokens X7 11 2048 128 1408 (by decide) rfl rfl _ _ slices_S16x128x128_o11_0_0_S1x128x128 x)
  · exact (congrFun (shapeCast_self _ _) x).trans (piece_tokens X7 10 2048 128 1280 (by decide) rfl rfl _ _ slices_S16x128x128_o10_0_0_S1x128x128 x)
  · exact (congrFun (shapeCast_self _ _) x).trans (piece_tokens X7 9 2048 128 1152 (by decide) rfl rfl _ _ slices_S16x128x128_o9_0_0_S1x128x128 x)
  · exact (congrFun (shapeCast_self _ _) x).trans (piece_tokens X7 8 2048 128 1024 (by decide) rfl rfl _ _ slices_S16x128x128_o8_0_0_S1x128x128 x)
  · exact (congrFun (shapeCast_self _ _) x).trans (piece_tokens X7 7 2048 128 896 (by decide) rfl rfl _ _ slices_S16x128x128_o7_0_0_S1x128x128 x)
  · exact (congrFun (shapeCast_self _ _) x).trans (piece_tokens X7 6 2048 128 768 (by decide) rfl rfl _ _ slices_S16x128x128_o6_0_0_S1x128x128 x)
  · exact (congrFun (shapeCast_self _ _) x).trans (piece_tokens X7 5 2048 128 640 (by decide) rfl rfl _ _ slices_S16x128x128_o5_0_0_S1x128x128 x)
  · exact (congrFun (shapeCast_self _ _) x).trans (piece_tokens X7 4 2048 128 512 (by decide) rfl rfl _ _ slices_S16x128x128_o4_0_0_S1x128x128 x)
  · exact (congrFun (shapeCast_self _ _) x).trans (piece_tokens X7 3 2048 128 384 (by decide) rfl rfl _ _ slices_S16x128x128_o3_0_0_S1x128x128 x)
  · exact (congrFun (shapeCast_self _ _) x).trans (piece_tokens X7 2 2048 128 256 (by decide) rfl rfl _ _ slices_S16x128x128_o2_0_0_S1x128x128 x)
  · exact (congrFun (shapeCast_self _ _) x).trans (piece_tokens X7 1 2048 128 128 (by decide) rfl rfl _ _ slices_S16x128x128_o1_0_0_S1x128x128 x)
  · exact (congrFun (shapeCast_self _ _) x).trans (piece_tokens X7 0 2048 128 0 (by decide) rfl rfl _ _ slices_S16x128x128_o0_0_0_S1x128x128 x)
  · exact (congrFun (shapeCast_self _ _) x).trans (piece_tokens X7 15 0 0 1920 (by decide) rfl rfl _ _ slices_S16x128x128_o15_0_0_S1x128x128 x)
  · exact (congrFun (shapeCast_self _ _) x).trans (piece_tokens X7 14 0 0 1792 (by decide) rfl rfl _ _ slices_S16x128x128_o14_0_0_S1x128x128 x)
  · exact (congrFun (shapeCast_self _ _) x).trans (piece_tokens X7 13 0 0 1664 (by decide) rfl rfl _ _ slices_S16x128x128_o13_0_0_S1x128x128 x)
  · exact (congrFun (shapeCast_self _ _) x).trans (piece_tokens X7 12 0 0 1536 (by decide) rfl rfl _ _ slices_S16x128x128_o12_0_0_S1x128x128 x)
  · exact (congrFun (shapeCast_self _ _) x).trans (piece_tokens X7 11 0 0 1408 (by decide) rfl rfl _ _ slices_S16x128x128_o11_0_0_S1x128x128 x)
  · exact (congrFun (shapeCast_self _ _) x).trans (piece_tokens X7 10 0 0 1280 (by decide) rfl rfl _ _ slices_S16x128x128_o10_0_0_S1x128x128 x)
  · exact (congrFun (shapeCast_self _ _) x).trans (piece_tokens X7 9 0 0 1152 (by decide) rfl rfl _ _ slices_S16x128x128_o9_0_0_S1x128x128 x)
  · exact (congrFun (shapeCast_self _ _) x).trans (piece_tokens X7 8 0 0 1024 (by decide) rfl rfl _ _ slices_S16x128x128_o8_0_0_S1x128x128 x)
  · exact (congrFun (shapeCast_self _ _) x).trans (piece_tokens X7 7 0 0 896 (by decide) rfl rfl _ _ slices_S16x128x128_o7_0_0_S1x128x128 x)
  · exact (congrFun (shapeCast_self _ _) x).trans (piece_tokens X7 6 0 0 768 (by decide) rfl rfl _ _ slices_S16x128x128_o6_0_0_S1x128x128 x)
  · exact (congrFun (shapeCast_self _ _) x).trans (piece_tokens X7 5 0 0 640 (by decide) rfl rfl _ _ slices_S16x128x128_o5_0_0_S1x128x128 x)
  · exact (congrFun (shapeCast_self _ _) x).trans (piece_tokens X7 4 0 0 512 (by decide) rfl rfl _ _ slices_S16x128x128_o4_0_0_S1x128x128 x)
  · exact (congrFun (shapeCast_self _ _) x).trans (piece_tokens X7 3 0 0 384 (by decide) rfl rfl _ _ slices_S16x128x128_o3_0_0_S1x128x128 x)
  · exact (congrFun (shapeCast_self _ _) x).trans (piece_tokens X7 2 0 0 256 (by decide) rfl rfl _ _ slices_S16x128x128_o2_0_0_S1x128x128 x)
  · exact (congrFun (shapeCast_self _ _) x).trans (piece_tokens X7 1 0 0 128 (by decide) rfl rfl _ _ slices_S16x128x128_o1_0_0_S1x128x128 x)
  · exact (congrFun (shapeCast_self _ _) x).trans (piece_tokens X7 0 0 0 0 (by decide) rfl rfl _ _ slices_S16x128x128_o0_0_0_S1x128x128 x)

theorem tile_inb (i : Fin 32) : ∀ a, (![128 * (1 - i.val / 16), 128 * (15 - i.val % 16)] : Fin 2 → ℕ) a + S128x128.size a ≤ S256x2048.size a := by
  intro a
  match a with
  | ⟨0, _⟩ => show 128 * (1 - i.val / 16) + 128 ≤ 256; omega
  | ⟨1, _⟩ => show 128 * (15 - i.val % 16) + 128 ≤ 2048; omega

/-- The thirty-two rectangles by their number. -/
theorem xPieces_rects (X7 : S4096x128.Idx → Elt Ideal .f32) :
    (xPieces X7).map (·.1) = List.ofFn fun i : Fin 32 => Rect.unit (s := S256x2048) ![128 * (1 - i.val / 16), 128 * (15 - i.val % 16)] S128x128.size (tile_inb i) := by
  rfl

/-- The stores cover the buffer. -/
theorem xPieces_cover (X7 : S4096x128.Idx → Elt Ideal .f32) (y : S256x2048.Idx) : ∃ p ∈ xPieces X7, y ∈ p.1.set := by
  have h0 : (y 0).val < 256 := (y 0).isLt
  have h1 : (y 1).val < 2048 := (y 1).isLt
  have hi : 16 * (1 - (y 0).val / 128) + (15 - (y 1).val / 128) < 32 := by omega
  have hm : Rect.unit (s := S256x2048) _ S128x128.size (tile_inb ⟨_, hi⟩) ∈ (xPieces X7).map (·.1) := by
    rw [xPieces_rects]; exact List.mem_ofFn.2 ⟨⟨_, hi⟩, rfl⟩
  obtain ⟨p, hp, e⟩ := List.mem_map.1 hm
  refine ⟨p, hp, ?_⟩
  rw [e]
  refine Rect.mem_set_unit.2 fun a => ?_
  match a with
  | ⟨0, _⟩ =>
    show 128 * (1 - (16 * (1 - (y 0).val / 128) + (15 - (y 1).val / 128)) / 16) ≤ (y 0).val
      ∧ (y 0).val < 128 * (1 - (16 * (1 - (y 0).val / 128) + (15 - (y 1).val / 128)) / 16) + 128
    omega
  | ⟨1, _⟩ =>
    show 128 * (15 - (16 * (1 - (y 0).val / 128) + (15 - (y 1).val / 128)) % 16) ≤ (y 1).val
      ∧ (y 1).val < 128 * (15 - (16 * (1 - (y 0).val / 128) + (15 - (y 1).val / 128)) % 16) + 128
    omega

/-- The buffer of tokens is the tokens. -/
theorem xb_at (X7 : S4096x128.Idx → Elt Ideal .f32) (y : S256x2048.Idx) : xb X7 y = tokens X7 y :=
  View.canon_apply_of_pieces (tokens X7) _ (xPieces_tokens X7) y (xPieces_cover X7 y)

/-! ## One row per token, made sixteen rows per token -/

theorem col_slices (k : Fin 16) : S128x2048.Slices ![0, 128 * k.val] S128x128 :=
  ⟨rfl, fun a => match a with
    | ⟨0, _⟩ => by show 0 + 128 ≤ 128; omega
    | ⟨1, _⟩ => by show 128 * k.val + 128 ≤ 2048; omega⟩

/-- Row `y 0` of the sixteen rows per token is columns `128 (y 0 % 16)` on of token `y 0 / 16`. -/
theorem rows_at (V : FVec Ideal S128x2048 .f32) (y : S2048x128.Idx) :
    k0_pay46 V (extractStridedSlice S128x128 ![0, 0] V slices_S128x2048_o0_0_S128x128) (extractStridedSlice S128x128 ![0, 128] V slices_S128x2048_o0_128_S128x128) y
      = V (ix2 (⟨(y 0).val / 16, by have : (y 0).val < 2048 := (y 0).isLt; omega⟩ : Fin 128)
          (⟨128 * ((y 0).val % 16) + (y 1).val, by have : (y 1).val < 128 := (y 1).isLt; omega⟩ : Fin 2048)) := by
  have h0 : (y 0).val < 2048 := (y 0).isLt
  have h1 : (y 1).val < 128 := (y 1).isLt
  unfold k0_pay46
  refine (shapeCast_apply (s := S128x16x128) (t := S2048x128) _ _ y (ix3 (⟨(y 0).val / 16, by omega⟩ : Fin 128) (⟨(y 0).val % 16, by omega⟩ : Fin 16) (y 1 : Fin 128)) (by
    rw [Shape.rowMajor_val_three, Shape.rowMajor_val_two]
    show ((y 0).val / 16 * 16 + (y 0).val % 16) * 128 + (y 1).val = (y 0).val * 128 + (y 1).val
    omega)).trans ?_
  refine (transpose_apply (s := S16x128x128) (t := S128x16x128) [1, 0, 2] _ _ _ (ix3 (⟨(y 0).val % 16, by omega⟩ : Fin 16) (⟨(y 0).val / 16, by omega⟩ : Fin 128) (y 1 : Fin 128)) (by
    intro b
    match b with
    | ⟨0, _⟩ => rfl
    | ⟨1, _⟩ => rfl
    | ⟨2, _⟩ => rfl)).trans ?_
  refine (concatenate_ofFn_unit_apply (t := S16x128x128) (s₁ := S1x128x128) 0
    (fun k : Fin 16 => shapeCast S1x128x128 (extractStridedSlice S128x128 ![0, 128 * k.val] V (col_slices k)) shapeCasts_S128x128_S1x128x128)
    _ rfl rfl _ ⟨(y 0).val % 16, by omega⟩ rfl (ix3 (0 : Fin 1) (⟨(y 0).val / 16, by omega⟩ : Fin 128) (y 1 : Fin 128)) (by
      intro b hb
      match b with
      | ⟨0, _⟩ => exact absurd rfl hb
      | ⟨1, _⟩ => rfl
      | ⟨2, _⟩ => rfl)).trans ?_
  refine (shapeCast_apply (s := S128x128) (t := S1x128x128) _ _ _ (ix2 (⟨(y 0).val / 16, by omega⟩ : Fin 128) (y 1 : Fin 128)) (by
    rw [Shape.rowMajor_val_three, Shape.rowMajor_val_two]
    show (y 0).val / 16 * 128 + (y 1).val = (0 * 128 + (y 0).val / 16) * 128 + (y 1).val
    omega)).trans ?_
  exact extractStridedSlice_apply _ _ _ _ _ (by
    intro a
    match a with
    | ⟨0, _⟩ => show (y 0).val / 16 = 0 + (y 0).val / 16; omega
    | ⟨1, _⟩ => rfl)

/-- The second half's rows likewise. -/
theorem rows50_at (v : FVec Ideal S256x2048 .f32) (y : S2048x128.Idx) :
    k0_pay50 v y = v (ix2 (⟨128 + (y 0).val / 16, by have : (y 0).val < 2048 := (y 0).isLt; omega⟩ : Fin 256)
          (⟨128 * ((y 0).val % 16) + (y 1).val, by have : (y 1).val < 128 := (y 1).isLt; omega⟩ : Fin 2048)) := by
  refine (rows_at (extractStridedSlice S128x2048 ![128, 0] v slices_S256x2048_o128_0_S128x2048) y).trans ?_
  exact extractStridedSlice_apply _ _ _ _ _ (by
    intro a
    match a with
    | ⟨0, _⟩ => rfl
    | ⟨1, _⟩ => show 128 * ((y 0).val % 16) + (y 1).val = 0 + (128 * ((y 0).val % 16) + (y 1).val); omega)

/-- The first half's rows likewise. -/
theorem topRows_at (v : FVec Ideal S256x2048 .f32) (y : S2048x128.Idx) :
    topRows v y = v (ix2 (⟨(y 0).val / 16, by have : (y 0).val < 2048 := (y 0).isLt; omega⟩ : Fin 256)
          (⟨128 * ((y 0).val % 16) + (y 1).val, by have : (y 1).val < 128 := (y 1).isLt; omega⟩ : Fin 2048)) := by
  refine (rows_at (top v) y).trans ?_
  exact extractStridedSlice_apply _ _ _ _ _ (by
    intro a
    match a with
    | ⟨0, _⟩ => show (y 0).val / 16 = 0 + (y 0).val / 16; omega
    | ⟨1, _⟩ => show 128 * ((y 0).val % 16) + (y 1).val = 0 + (128 * ((y 0).val % 16) + (y 1).val); omega)

/-! ## The masks -/

/-- A row number lies between two tokens' first rows. -/
theorem between (a r l h : ℕ) (ha : a ≤ 2048) (hr : r < 2048) (hl : l ≤ 256) (hh : h ≤ 256) :
    IntOp.andi (IntOp.cmpi .sge (IntOp.addi (BitVec.ofNat 32 a) (BitVec.ofNat 32 r)) (BitVec.ofNat 32 l * 16#32))
        (IntOp.cmpi .slt (IntOp.addi (BitVec.ofNat 32 a) (BitVec.ofNat 32 r)) (BitVec.ofNat 32 h * 16#32))
      = BitVec.ofBool (decide (16 * l ≤ a + r ∧ a + r < 16 * h)) := by
  have e1 : IntOp.addi (BitVec.ofNat 32 a) (BitVec.ofNat 32 r) = BitVec.ofNat 32 (a + r) := (BitVec.ofNat_add a r).symm
  have e2 : BitVec.ofNat 32 l * 16#32 = BitVec.ofNat 32 (16 * l) := by rw [Nat.mul_comm]; exact (BitVec.ofNat_mul l 16).symm
  have e3 : BitVec.ofNat 32 h * 16#32 = BitVec.ofNat 32 (16 * h) := by rw [Nat.mul_comm]; exact (BitVec.ofNat_mul h 16).symm
  have t : ∀ n : ℕ, n < 2 ^ 31 → (BitVec.ofNat 32 n).toInt = n := fun n hn => by rw [BitVec.toInt_eq_toNat_cond, BitVec.toNat_ofNat, Nat.mod_eq_of_lt (by omega), if_pos (by omega)]
  rw [e1, e2, e3]
  simp only [IntOp.andi, IntOp.cmpi, BitVec.sle_eq_decide, BitVec.slt_eq_decide, t (a + r) (by omega), t (16 * l) (by omega), t (16 * h) (by omega)]
  have P : decide (((16 * l : ℕ) : ℤ) ≤ ((a + r : ℕ) : ℤ)) = decide (16 * l ≤ a + r) := decide_eq_decide.2 Int.ofNat_le
  have Q : decide (((a + r : ℕ) : ℤ) < ((16 * h : ℕ) : ℤ)) = decide (a + r < 16 * h) := decide_eq_decide.2 Int.ofNat_lt
  rw [P, Q]
  by_cases p : 16 * l ≤ a + r <;> by_cases q : a + r < 16 * h <;> simp only [p, q, and_self, and_true, and_false, decide_true, decide_false] <;> rfl

theorem mask47 (l h : ℕ) (hl : l ≤ 256) (hh : h ≤ 256) (y : S2048x1.Idx) :
    k0_pay47 (F := Ideal) (BitVec.ofNat 32 l) (BitVec.ofNat 32 h) y = BitVec.ofBool (decide (16 * l ≤ (y 0).val ∧ (y 0).val < 16 * h)) := by
  have h0 : (y 0).val < 2048 := (y 0).isLt
  have e := between 0 (y 0).val l h (by decide) h0 hl hh
  rw [Nat.zero_add] at e
  rw [← e]
  unfold k0_pay47
  show IntOp.andi (IntOp.cmpi .sge (IntOp.addi 0#32 (iota .tc S2048x1 32 [0] iota_S2048x1_d0_w32 y)) _) (IntOp.cmpi .slt (IntOp.addi 0#32 (iota .tc S2048x1 32 [0] iota_S2048x1_d0_w32 y)) _) = _
  rw [iota_single_apply]
  rfl

theorem mask51 (l h : ℕ) (hl : l ≤ 256) (hh : h ≤ 256) (y : S2048x1.Idx) :
    k0_pay51 (F := Ideal) (BitVec.ofNat 32 l) (BitVec.ofNat 32 h) y = BitVec.ofBool (decide (16 * l ≤ 2048 + (y 0).val ∧ 2048 + (y 0).val < 16 * h)) := by
  have h0 : (y 0).val < 2048 := (y 0).isLt
  have e := between 2048 (y 0).val l h (by decide) h0 hl hh
  rw [← e]
  unfold k0_pay51
  show IntOp.andi (IntOp.cmpi .sge (IntOp.addi 2048#32 (iota .tc S2048x1 32 [0] iota_S2048x1_d0_w32 y)) _) (IntOp.cmpi .slt (IntOp.addi 2048#32 (iota .tc S2048x1 32 [0] iota_S2048x1_d0_w32 y)) _) = _
  rw [iota_single_apply]
  rfl

/-- A mask of one column, laid over 128 lanes. -/
theorem mask_lanes (v : IVec S2048x1 1) (y : S2048x128.Idx) :
    broadcastTo S2048x128 (shapeCast S2048x1 v shapeCasts_S2048x1_S2048x1) broadcasts_S2048x1_S2048x128 y = v (ix2 (y 0 : Fin 2048) (0 : Fin 1)) := by
  rw [shapeCast_self]
  exact broadcastTo_apply _ _ _ _ (by
    intro a
    match a with
    | ⟨0, _⟩ => rfl
    | ⟨1, _⟩ => rfl)

theorem select_ofBool {α : Type} (p : Prop) [Decidable p] (a b : α) : Scalar.select (BitVec.ofBool (decide p)) a b = if p then a else b := by
  by_cases h : p <;> simp [Scalar.select, h]

/-! ## The output's block, row by row -/

/-- The expert's value for row `y 0` of the block. -/
abbrev val16 (v : FVec Ideal S256x2048 .f32) (y : S4096x128.Idx) : Elt Ideal .f32 :=
  v (ix2 (⟨(y 0).val / 16, by have : (y 0).val < 4096 := (y 0).isLt; omega⟩ : Fin 256)
    (⟨128 * ((y 0).val % 16) + (y 1).val, by have : (y 1).val < 128 := (y 1).isLt; omega⟩ : Fin 2048))

/-- The rows `lo … hi` of tokens take the expert's values, the others the given ones. -/
def masked (v : FVec Ideal S256x2048 .f32) (l h : ℕ) (Y : S4096x128.Idx → Elt Ideal .f32) : S4096x128.Idx → Elt Ideal .f32 := fun y =>
  if 16 * l ≤ (y 0).val ∧ (y 0).val < 16 * h then val16 v y else Y y

theorem masked_low (v : FVec Ideal S256x2048 .f32) (l h : ℕ) (hl : l ≤ 256) (hh : h ≤ 256) (Y : S4096x128.Idx → Elt Ideal .f32) (x : S2048x128.Idx) :
    Scalar.select (broadcastTo S2048x128 (shapeCast S2048x1 (k0_pay47 (F := Ideal) (BitVec.ofNat 32 l) (BitVec.ofNat 32 h)) shapeCasts_S2048x1_S2048x1) broadcasts_S2048x1_S2048x128 x)
        (topRows v x) (View.ld Y (Rect.unit (s := S4096x128) ![0, 0] S2048x128.size inb_S4096x128_S2048x128_0_0) x)
      = masked v l h Y ((Rect.unit (s := S4096x128) ![0, 0] S2048x128.size inb_S4096x128_S2048x128_0_0).emb x) := by
  have e0 : ((Rect.unit (s := S4096x128) ![0, 0] S2048x128.size inb_S4096x128_S2048x128_0_0).emb x 0).val = (x 0).val := (Rect.idx_unit_val (s := S4096x128) ![0, 0] S2048x128.size inb_S4096x128_S2048x128_0_0 x 0).trans (Nat.zero_add _)
  have e1 : ((Rect.unit (s := S4096x128) ![0, 0] S2048x128.size inb_S4096x128_S2048x128_0_0).emb x 1).val = (x 1).val := (Rect.idx_unit_val (s := S4096x128) ![0, 0] S2048x128.size inb_S4096x128_S2048x128_0_0 x 1).trans (Nat.zero_add _)
  rw [mask_lanes, mask47 l h hl hh, select_ofBool, topRows_at]
  unfold masked
  simp only [e0]
  refine if_congr Iff.rfl ?_ rfl
  refine congrArg v (funext fun a => Fin.ext ?_)
  match a with
  | ⟨0, _⟩ => show (x 0).val / 16 = _ / 16; rw [e0]
  | ⟨1, _⟩ => show 128 * ((x 0).val % 16) + (x 1).val = 128 * (_ % 16) + _; rw [e0, e1]

theorem masked_high (v : FVec Ideal S256x2048 .f32) (l h : ℕ) (hl : l ≤ 256) (hh : h ≤ 256) (Y : S4096x128.Idx → Elt Ideal .f32) (x : S2048x128.Idx) :
    Scalar.select (broadcastTo S2048x128 (shapeCast S2048x1 (k0_pay51 (F := Ideal) (BitVec.ofNat 32 l) (BitVec.ofNat 32 h)) shapeCasts_S2048x1_S2048x1) broadcasts_S2048x1_S2048x128 x)
        (k0_pay50 v x) (View.ld Y (Rect.unit (s := S4096x128) ![2048, 0] S2048x128.size inb_S4096x128_S2048x128_2048_0) x)
      = masked v l h Y ((Rect.unit (s := S4096x128) ![2048, 0] S2048x128.size inb_S4096x128_S2048x128_2048_0).emb x) := by
  have e0 : ((Rect.unit (s := S4096x128) ![2048, 0] S2048x128.size inb_S4096x128_S2048x128_2048_0).emb x 0).val = 2048 + (x 0).val := Rect.idx_unit_val (s := S4096x128) ![2048, 0] S2048x128.size inb_S4096x128_S2048x128_2048_0 x 0
  have e1 : ((Rect.unit (s := S4096x128) ![2048, 0] S2048x128.size inb_S4096x128_S2048x128_2048_0).emb x 1).val = (x 1).val := (Rect.idx_unit_val (s := S4096x128) ![2048, 0] S2048x128.size inb_S4096x128_S2048x128_2048_0 x 1).trans (Nat.zero_add _)
  rw [mask_lanes, mask51 l h hl hh, select_ofBool, rows50_at]
  unfold masked
  simp only [e0]
  refine if_congr Iff.rfl ?_ rfl
  refine congrArg v (funext fun a => Fin.ext ?_)
  match a with
  | ⟨0, _⟩ => show 128 + (x 0).val / 16 = _ / 16; rw [e0]; omega
  | ⟨1, _⟩ => show 128 * ((x 0).val % 16) + (x 1).val = 128 * (_ % 16) + _; rw [e0, e1]; omega

/-- A later item's block: its rows take the expert's values, the others stay. -/
theorem nextBlk_at (v : FVec Ideal S256x2048 .f32) (l h : ℕ) (hl : l ≤ 256) (hh : h ≤ 256) (Y : S4096x128.Idx → Elt Ideal .f32) (y : S4096x128.Idx) :
    nextBlk v (BitVec.ofNat 32 l) (BitVec.ofNat 32 h) Y y = masked v l h Y y := by
  refine View.canon_apply_of_pieces (masked v l h Y) _ ?_ y (halves_cover _ _ y)
  simp only [List.forall_mem_cons]
  refine ⟨fun x => ?_, fun x => ?_, fun _ h => absurd h List.not_mem_nil⟩
  · exact (congrArg (Scalar.select _ _) (congrFun (shapeCast_self _ _) x)).trans (masked_high v l h hl hh Y x)
  · exact (congrArg (Scalar.select _ _) (congrFun (shapeCast_self _ _) x)).trans (masked_low v l h hl hh Y x)

/-- The first item's block: its rows take the expert's values, the others zero. -/
theorem firstBlk_at (v : FVec Ideal S256x2048 .f32) (l h : ℕ) (hl : l ≤ 256) (hh : h ≤ 256) (y : S4096x128.Idx) :
    firstBlk v (BitVec.ofNat 32 l) (BitVec.ofNat 32 h) y = masked v l h (fun _ => Scalar.ofBits (F := Ideal) .f32 0x00000000#32) y := by
  refine View.canon_apply_of_pieces (masked v l h _) _ ?_ y (halves_cover _ _ y)
  simp only [List.forall_mem_cons]
  refine ⟨fun x => ?_, fun x => ?_, fun _ h => absurd h List.not_mem_nil⟩
  · exact Eq.trans (by rfl) (masked_high v l h hl hh _ x)
  · exact Eq.trans (by rfl) (masked_low v l h hl hh _ x)

end Cert.Gmm

end
-- ==== Proof.GmmFfn.lean ====
/-
  The block's expert products as sums: each token's row through the gate, the linear part, and the down projection.
-/
module

public import proofs.«01_k».proof.Proof.GmmRows
public import Idealize.ShloMosaic.Lib.MatmulPlain
public import Idealize.ShloMosaic.PureOps.Ideal.Laws

@[expose] public section

noncomputable section

namespace Cert.Gmm

open Idealize.ShloMosaic Idealize.ShloMosaic.ValueIdx
open Cert.Kernel2Ideal Cert.Kernel2Ideal.Gen
open scoped BigOperators

/-- A product with the loaded half of a weight, plus its bias, at an index. -/
theorem lin_at (x : FVec Ideal S256x2048 .bf16) (w : Vec Ideal S1x2048x1024 .bf16) (b : Vec Ideal S1x1x1024 .f32) (a : Fin 256) (f : Fin 1024) :
    addf (F := Ideal) (matmul dot_S256x2048_S2048x1024_S256x1024_1_0_0_1_n_n none x (shapeCast S2048x1024 w shapeCasts_S1x2048x1024_S2048x1024 : FVec Ideal S2048x1024 .bf16)
        (constant S256x1024 .f32 0x00000000#32))
      (broadcastTo S256x1024 (shapeCast S1x1024 b shapeCasts_S1x1x1024_S1x1024 : FVec Ideal S1x1024 .f32) broadcasts_S1x1024_S256x1024) (ix2 a f)
      = (∑ d : Fin 2048, (x (ix2 a d) : EReal) * w (ix3 (0 : Fin 1) d f)) + b (ix3 (0 : Fin 1) (0 : Fin 1) f) := by
  have e1 : (FloatOps.matmul (DotDims.plain 256 2048 1024) none x (shapeCast S2048x1024 w shapeCasts_S1x2048x1024_S2048x1024 : FVec Ideal S2048x1024 .bf16)
        (constant S256x1024 .f32 0x00000000#32) (ix2 a f) : EReal) = ∑ d : Fin 2048, (x (ix2 a d) : EReal) * w (ix3 (0 : Fin 1) d f) := by
    refine (Ideal.matmul_plain_apply none _ _ _ a f).trans ?_
    rw [show (constant (F := Ideal) S256x1024 .f32 0x00000000#32 (ix2 a f) : EReal) = 0 from Ideal.ofBits_zero_f32, zero_add]
    refine Finset.sum_congr rfl fun d _ => congrArg (fun z : EReal => (x (ix2 a d) : EReal) * z) ?_
    refine (shapeCast_apply (s := S1x2048x1024) (t := S2048x1024) _ _ (ix2 d f) (ix3 (0 : Fin 1) d f) ?_)
    rw [Shape.rowMajor_val_three, Shape.rowMajor_val_two]
    show (0 * 2048 + d.val) * 1024 + f.val = d.val * 1024 + f.val
    omega
  have e2 : (broadcastTo S256x1024 (shapeCast S1x1024 b shapeCasts_S1x1x1024_S1x1024 : FVec Ideal S1x1024 .f32) broadcasts_S1x1024_S256x1024 (ix2 a f) : EReal)
      = b (ix3 (0 : Fin 1) (0 : Fin 1) f) := by
    refine (broadcastTo_apply (s := S1x1024) (t := S256x1024) _ _ (ix2 a f) (ix2 (0 : Fin 1) f) (fun ax => ?_)).trans
      (shapeCast_apply (s := S1x1x1024) (t := S1x1024) _ _ (ix2 (0 : Fin 1) f) (ix3 (0 : Fin 1) (0 : Fin 1) f) ?_)
    · match ax with
      | ⟨0, _⟩ => rfl
      | ⟨1, _⟩ => rfl
    · rw [Shape.rowMajor_val_three, Shape.rowMajor_val_two]
      show (0 * 1 + 0) * 1024 + f.val = 0 * 1024 + f.val
      omega
  exact congrArg₂ (fun p q : EReal => p + q) e1 e2

/-- Half of the down projection, at an index. -/
theorem pay40_at (x : Vec Ideal S256x2048 .bf16) (w : Vec Ideal S1x2048x1024 .bf16) (bg : Vec Ideal S1x1x1024 .f32) (wl : Vec Ideal S1x2048x1024 .bf16)
    (bl : Vec Ideal S1x1x1024 .f32) (wd : Vec Ideal S1x1024x2048 .bf16) (a : Fin 256) (q : Fin 2048) :
    (k0_pay40 x w bg wl bl wd (ix2 a q) : EReal)
      = ∑ f : Fin 1024, act ((∑ d : Fin 2048, (x (ix2 a d) : EReal) * w (ix3 (0 : Fin 1) d f)) + bg (ix3 (0 : Fin 1) (0 : Fin 1) f))
          ((∑ d : Fin 2048, (x (ix2 a d) : EReal) * wl (ix3 (0 : Fin 1) d f)) + bl (ix3 (0 : Fin 1) (0 : Fin 1) f)) * (wd (ix3 (0 : Fin 1) f q) : EReal) := by
  unfold k0_pay40
  refine (Ideal.matmul_plain_apply (M := 256) (K := 1024) (N := 2048) none _ _ _ a q).trans ?_
  rw [show (constant (F := Ideal) S256x2048 .f32 0x00000000#32 (ix2 a q) : EReal) = 0 from Ideal.ofBits_zero_f32, zero_add]
  refine Finset.sum_congr rfl fun f _ => congrArg₂ (fun y z : EReal => y * z) ?_ ?_
  · rw [← lin_at x w bg a f, ← lin_at x wl bl a f]
    rfl
  · refine (shapeCast_apply (s := S1x1024x2048) (t := S1024x2048) _ _ (ix2 f q) (ix3 (0 : Fin 1) f q) ?_)
    rw [Shape.rowMajor_val_three, Shape.rowMajor_val_two]
    show (0 * 1024 + f.val) * 2048 + q.val = f.val * 2048 + q.val
    omega

/-- The two halves and the bias. -/
theorem pay42_at (x : Vec Ideal S256x2048 .bf16) (v : FVec Ideal S256x2048 .f32) (w : Vec Ideal S1x2048x1024 .bf16) (bg : Vec Ideal S1x1x1024 .f32) (wl : Vec Ideal S1x2048x1024 .bf16)
    (bl : Vec Ideal S1x1x1024 .f32) (wd : Vec Ideal S1x1024x2048 .bf16) (bd : Vec Ideal S1x1x2048 .f32) (a : Fin 256) (q : Fin 2048) :
    (k0_pay42 x v (k0_pay41 w) bg wl bl wd bd (ix2 a q) : EReal)
      = (v (ix2 a q) : EReal) + (k0_pay40 x w bg wl bl wd (ix2 a q) : EReal) + bd (ix3 (0 : Fin 1) (0 : Fin 1) q) := by
  have e2 : (broadcastTo S256x2048 (shapeCast S1x2048 bd shapeCasts_S1x1x2048_S1x2048 : FVec Ideal S1x2048 .f32) broadcasts_S1x2048_S256x2048 (ix2 a q) : EReal)
      = bd (ix3 (0 : Fin 1) (0 : Fin 1) q) := by
    refine (broadcastTo_apply (s := S1x2048) (t := S256x2048) _ _ (ix2 a q) (ix2 (0 : Fin 1) q) (fun ax => ?_)).trans
      (shapeCast_apply (s := S1x1x2048) (t := S1x2048) _ _ (ix2 (0 : Fin 1) q) (ix3 (0 : Fin 1) (0 : Fin 1) q) ?_)
    · match ax with
      | ⟨0, _⟩ => rfl
      | ⟨1, _⟩ => rfl
    · rw [Shape.rowMajor_val_three, Shape.rowMajor_val_two]
      show (0 * 1 + 0) * 2048 + q.val = 0 * 2048 + q.val
      omega
  rw [← e2]
  rfl

/-- A half of a gate's or linear part's weight, as loaded. -/
theorem ld_w (X : S1x2048x2048.Idx → Elt Ideal .bf16) (o : ℕ) (inb : ∀ a, ![0, 0, o] a + S1x2048x1024.size a ≤ S1x2048x2048.size a)
    (d : Fin 2048) (f : Fin 1024) (g : Fin 2048) (hg : g.val = o + f.val) :
    View.ld X (Rect.unit (s := S1x2048x2048) ![0, 0, o] S1x2048x1024.size inb) (ix3 (0 : Fin 1) d f) = X (ix3 (0 : Fin 1) d g) := by
  refine View.ld_unit_apply_of X _ _ inb _ _ (fun a => ?_)
  match a with
  | ⟨0, _⟩ => rfl
  | ⟨1, _⟩ => show d.val = 0 + d.val; omega
  | ⟨2, _⟩ => exact hg

/-- A half of a bias, as loaded. -/
theorem ld_b (X : S1x1x2048.Idx → Elt Ideal .f32) (o : ℕ) (inb : ∀ a, ![0, 0, o] a + S1x1x1024.size a ≤ S1x1x2048.size a)
    (f : Fin 1024) (g : Fin 2048) (hg : g.val = o + f.val) :
    View.ld X (Rect.unit (s := S1x1x2048) ![0, 0, o] S1x1x1024.size inb) (ix3 (0 : Fin 1) (0 : Fin 1) f) = X (ix3 (0 : Fin 1) (0 : Fin 1) g) := by
  refine View.ld_unit_apply_of X _ _ inb _ _ (fun a => ?_)
  match a with
  | ⟨0, _⟩ => rfl
  | ⟨1, _⟩ => rfl
  | ⟨2, _⟩ => exact hg

/-- A half of the down projection's weight, as loaded. -/
theorem ld_d (X : S1x2048x2048.Idx → Elt Ideal .bf16) (o : ℕ) (inb : ∀ a, ![0, o, 0] a + S1x1024x2048.size a ≤ S1x2048x2048.size a)
    (f : Fin 1024) (q : Fin 2048) (g : Fin 2048) (hg : g.val = o + f.val) :
    View.ld X (Rect.unit (s := S1x2048x2048) ![0, o, 0] S1x1024x2048.size inb) (ix3 (0 : Fin 1) f q) = X (ix3 (0 : Fin 1) g q) := by
  refine View.ld_unit_apply_of X _ _ inb _ _ (fun a => ?_)
  match a with
  | ⟨0, _⟩ => rfl
  | ⟨1, _⟩ => exact hg
  | ⟨2, _⟩ => show q.val = 0 + q.val; omega

/-- The last bias, as loaded. -/
theorem ld_full (X : S1x1x2048.Idx → Elt Ideal .f32) (inb : ∀ a, ![0, 0, 0] a + S1x1x2048.size a ≤ S1x1x2048.size a) (q : Fin 2048) :
    View.ld X (Rect.unit (s := S1x1x2048) ![0, 0, 0] S1x1x2048.size inb) (ix3 (0 : Fin 1) (0 : Fin 1) q) = X (ix3 (0 : Fin 1) (0 : Fin 1) q) := by
  refine View.ld_unit_apply_of X _ _ inb _ _ (fun a => ?_)
  match a with
  | ⟨0, _⟩ => rfl
  | ⟨1, _⟩ => rfl
  | ⟨2, _⟩ => show q.val = 0 + q.val; omega

/-- The block's products: token `a`'s row through the block's expert. -/
theorem ffn_at (X7 : S4096x128.Idx → Elt Ideal .f32) (X8 X9 : S1x2048x2048.Idx → Elt Ideal .bf16) (X10 X11 : S1x1x2048.Idx → Elt Ideal .f32)
    (X12 : S1x2048x2048.Idx → Elt Ideal .bf16) (X13 : S1x1x2048.Idx → Elt Ideal .f32) (a : Fin 256) (q : Fin 2048) :
    (ffn X7 X8 X9 X10 X11 X12 X13 (ix2 a q) : EReal)
      = expert (fun d => X7 (tok (A := 256) (B := 4096) rfl a d)) (fun d f => X8 (ix3 (0 : Fin 1) d f)) (fun d f => X9 (ix3 (0 : Fin 1) d f))
          (fun f => X10 (ix3 (0 : Fin 1) (0 : Fin 1) f)) (fun f => X11 (ix3 (0 : Fin 1) (0 : Fin 1) f))
          (fun f q => X12 (ix3 (0 : Fin 1) f q)) (fun q => X13 (ix3 (0 : Fin 1) (0 : Fin 1) q)) q := by
  have hx : ∀ d : Fin 2048, (xb X7 (ix2 a d) : EReal) = X7 (tok (A := 256) (B := 4096) rfl a d) := fun d => xb_at X7 (ix2 a d)
  unfold ffn expert
  refine (pay42_at _ _ _ _ _ _ _ _ a q).trans ?_
  refine congrArg₂ (fun p q : EReal => p + q) ?_ (ld_full X13 _ q)
  rw [pay40_at, pay40_at]
  refine Eq.trans ?_ (Fin.sum_univ_add (a := 1024) (b := 1024) (M := EReal) _).symm
  refine congrArg₂ (fun p q : EReal => p + q) (Finset.sum_congr rfl fun f _ => ?_) (Finset.sum_congr rfl fun f _ => ?_)
  · have hg : (Fin.castAdd 1024 f : Fin (1024 + 1024)).val = 0 + f.val := by simp
    refine congrArg₂ (fun p q : EReal => p * q) (congrArg₂ act ?_ ?_) (ld_d X12 0 _ f q (Fin.castAdd 1024 f) hg)
    · refine congrArg₂ (fun p q : EReal => p + q) (Finset.sum_congr rfl fun d _ => ?_) (ld_b X10 0 _ f (Fin.castAdd 1024 f) hg)
      exact congrArg₂ (fun p q : EReal => p * q) (hx d) (ld_w X8 0 _ d f (Fin.castAdd 1024 f) hg)
    · refine congrArg₂ (fun p q : EReal => p + q) (Finset.sum_congr rfl fun d _ => ?_) (ld_b X11 0 _ f (Fin.castAdd 1024 f) hg)
      exact congrArg₂ (fun p q : EReal => p * q) (hx d) (ld_w X9 0 _ d f (Fin.castAdd 1024 f) hg)
  · have hg : (Fin.natAdd 1024 f : Fin (1024 + 1024)).val = 1024 + f.val := rfl
    refine congrArg₂ (fun p q : EReal => p * q) (congrArg₂ act ?_ ?_) (ld_d X12 1024 _ f q (Fin.natAdd 1024 f) hg)
    · refine congrArg₂ (fun p q : EReal => p + q) (Finset.sum_congr rfl fun d _ => ?_) (ld_b X10 1024 _ f (Fin.natAdd 1024 f) hg)
      exact congrArg₂ (fun p q : EReal => p * q) (hx d) (ld_w X8 1024 _ d f (Fin.natAdd 1024 f) hg)
    · refine congrArg₂ (fun p q : EReal => p + q) (Finset.sum_congr rfl fun d _ => ?_) (ld_b X11 1024 _ f (Fin.natAdd 1024 f) hg)
      exact congrArg₂ (fun p q : EReal => p * q) (hx d) (ld_w X9 1024 _ d f (Fin.natAdd 1024 f) hg)

end Cert.Gmm

end
-- ==== Proof.GmmArrays.lean ====
/-
  What the call reads: the weights as the preparation lays them out, and each window's block at a point.
-/
module

public import proofs.«01_k».proof.Proof.GmmFrame
public import proofs.«01_k».proof.Proof.GmmFfn

@[expose] public section

set_option maxRecDepth 20000

noncomputable section

namespace Cert.Gmm

open Cert.Kernel2Ideal Cert.Kernel2Ideal.Gen
open Idealize.ShloMosaic Idealize.ShloMosaic.TcCoe Idealize.ShloMosaic.Tactic Idealize.ShloMosaic.ValueIdx

/-! ## The weights -/

section Weights

variable (V : Valuation τ sig (Elt Ideal))

/-- Layer 0's matrices of a stack of both layers, one stack after the other. -/
theorem stack4 {α : Type} (x : S2x32x2048x2048.Idx → α) (h : S2x32x2048x2048.ShapeCasts S64x2048x2048) (e : Fin 32) (d f : Fin 2048) :
    shapeCast S64x2048x2048 x h (ix3 (⟨e.val, by have := e.isLt; omega⟩ : Fin 64) d f) = x (ix4 (0 : Fin 2) e d f) := by
  refine shapeCast_apply (s := S2x32x2048x2048) (t := S64x2048x2048) _ _ _ (ix4 (0 : Fin 2) e d f) ?_
  rw [Shape.rowMajor_val_four, Shape.rowMajor_val_three]
  show ((0 * 32 + e.val) * 2048 + d.val) * 2048 + f.val = (e.val * 2048 + d.val) * 2048 + f.val
  omega

/-- Layer 0's rows of a stack of both layers. -/
theorem stack3 {α : Type} (x : S2x32x2048.Idx → α) (h : S2x32x2048.ShapeCasts S64x1x2048) (e : Fin 32) (f : Fin 2048) :
    shapeCast S64x1x2048 x h (ix3 (⟨e.val, by have := e.isLt; omega⟩ : Fin 64) (0 : Fin 1) f) = x (ix3 (0 : Fin 2) e f) := by
  refine shapeCast_apply (s := S2x32x2048) (t := S64x1x2048) _ _ _ (ix3 (0 : Fin 2) e f) ?_
  rw [Shape.rowMajor_val_three, Shape.rowMajor_val_three]
  show (0 * 32 + e.val) * 2048 + f.val = (e.val * 1 + 0) * 2048 + f.val
  omega

/-- Every other column of the joint weight. -/
theorem half4 {α : Type} (x : S2x32x2048x4096.Idx → α) (o : ℕ) (h : S2x32x2048x4096.SlicesBy (![0, 0, 0, o] : Fin 4 → Nat) ![1, 1, 1, 2] S2x32x2048x2048)
    (e : Fin 32) (d f : Fin 2048) (g : Fin 4096) (hg : g.val = o + 2 * f.val) :
    Host.slice S2x32x2048x2048 ![0, 0, 0, o] ![1, 1, 1, 2] x h (ix4 (0 : Fin 2) e d f) = x (ix4 (0 : Fin 2) e d g) := by
  refine congrArg x (funext fun ax => Fin.ext ?_)
  match ax with
  | ⟨0, _⟩ => rfl
  | ⟨1, _⟩ => show 0 + 1 * e.val = e.val; omega
  | ⟨2, _⟩ => show 0 + 1 * d.val = d.val; omega
  | ⟨3, _⟩ => exact hg.symm

/-- Every other entry of the joint bias. -/
theorem half3 {α : Type} (x : S2x32x4096.Idx → α) (o : ℕ) (h : S2x32x4096.SlicesBy (![0, 0, o] : Fin 3 → Nat) ![1, 1, 2] S2x32x2048)
    (e : Fin 32) (f : Fin 2048) (g : Fin 4096) (hg : g.val = o + 2 * f.val) :
    Host.slice S2x32x2048 ![0, 0, o] ![1, 1, 2] x h (ix3 (0 : Fin 2) e f) = x (ix3 (0 : Fin 2) e g) := by
  refine congrArg x (funext fun ax => Fin.ext ?_)
  match ax with
  | ⟨0, _⟩ => rfl
  | ⟨1, _⟩ => show 0 + 1 * e.val = e.val; omega
  | ⟨2, _⟩ => exact hg.symm

/-- The gate's weight. -/
theorem wg_at (e : Fin 32) (d f : Fin 2048) : (rd (at10 V) main_v2 : S64x2048x2048.Idx → EReal) (ix3 (⟨e.val, by have := e.isLt; omega⟩ : Fin 64) d f)
    = (rd V main_arg2 : S2x32x2048x4096.Idx → EReal) (ix4 (0 : Fin 2) e d (ev f)) := by
  refine (congrFun (keep_main_v2_0_10 V) _).trans ?_
  show (StableHlo.after hostOps0 V (Proc.devRef .tc main_v2) : S64x2048x2048.Idx → EReal) _ = _
  after_results
  exact (stack4 _ _ e d f).trans (half4 _ 0 slicesBy_S2x32x2048x4096_S2x32x2048x2048_0s1_0s1_0s1_0s2 e d f (ev f) (by show _ = 0 + 2 * f.val; first | rfl | (show 2 * f.val = 0 + 2 * f.val; omega)))

/-- The linear part's weight. -/
theorem wl_at (e : Fin 32) (d f : Fin 2048) : (rd (at10 V) main_v5 : S64x2048x2048.Idx → EReal) (ix3 (⟨e.val, by have := e.isLt; omega⟩ : Fin 64) d f)
    = (rd V main_arg2 : S2x32x2048x4096.Idx → EReal) (ix4 (0 : Fin 2) e d (od f)) := by
  refine (congrFun (keep_main_v5_0_10 V) _).trans ?_
  show (StableHlo.after hostOps0 V (Proc.devRef .tc main_v5) : S64x2048x2048.Idx → EReal) _ = _
  after_results
  exact (stack4 _ _ e d f).trans (half4 _ 1 slicesBy_S2x32x2048x4096_S2x32x2048x2048_0s1_0s1_0s1_1s2 e d f (od f) (by show _ = 1 + 2 * f.val; first | rfl | (show 2 * f.val = 0 + 2 * f.val; omega)))

/-- The gate's bias. -/
theorem bg_at (e : Fin 32) (f : Fin 2048) : (rd (at10 V) main_v7 : S64x1x2048.Idx → EReal) (ix3 (⟨e.val, by have := e.isLt; omega⟩ : Fin 64) (0 : Fin 1) f)
    = (rd V main_arg3 : S2x32x4096.Idx → EReal) (ix3 (0 : Fin 2) e (ev f)) := by
  refine (congrFun (keep_main_v7_0_10 V) _).trans ?_
  show (StableHlo.after hostOps0 V (Proc.devRef .tc main_v7) : S64x1x2048.Idx → EReal) _ = _
  after_results
  exact (stack3 _ _ e f).trans (half3 _ 0 slicesBy_S2x32x4096_S2x32x2048_0s1_0s1_0s2 e f (ev f) (by show _ = 0 + 2 * f.val; first | rfl | (show 2 * f.val = 0 + 2 * f.val; omega)))

/-- The linear part's bias. -/
theorem bl_at (e : Fin 32) (f : Fin 2048) : (rd (at10 V) main_v9 : S64x1x2048.Idx → EReal) (ix3 (⟨e.val, by have := e.isLt; omega⟩ : Fin 64) (0 : Fin 1) f)
    = (rd V main_arg3 : S2x32x4096.Idx → EReal) (ix3 (0 : Fin 2) e (od f)) := by
  refine (congrFun (keep_main_v9_0_10 V) _).trans ?_
  show (StableHlo.after hostOps0 V (Proc.devRef .tc main_v9) : S64x1x2048.Idx → EReal) _ = _
  after_results
  exact (stack3 _ _ e f).trans (half3 _ 1 slicesBy_S2x32x4096_S2x32x2048_0s1_0s1_1s2 e f (od f) (by show _ = 1 + 2 * f.val; first | rfl | (show 2 * f.val = 0 + 2 * f.val; omega)))

/-- The down projection's weight. -/
theorem wd_at (e : Fin 32) (f q : Fin 2048) : (rd (at10 V) main_v11 : S64x2048x2048.Idx → EReal) (ix3 (⟨e.val, by have := e.isLt; omega⟩ : Fin 64) f q)
    = (rd V main_arg4 : S2x32x2048x2048.Idx → EReal) (ix4 (0 : Fin 2) e f q) := by
  refine (congrFun (keep_main_v11_0_10 V) _).trans ?_
  show (StableHlo.after hostOps0 V (Proc.devRef .tc main_v11) : S64x2048x2048.Idx → EReal) _ = _
  after_results
  exact stack4 _ _ e f q

/-- The down projection's bias. -/
theorem bd_at (e : Fin 32) (q : Fin 2048) : (rd (at10 V) main_v12 : S64x1x2048.Idx → EReal) (ix3 (⟨e.val, by have := e.isLt; omega⟩ : Fin 64) (0 : Fin 1) q)
    = (rd V main_arg5 : S2x32x2048.Idx → EReal) (ix3 (0 : Fin 2) e q) := by
  refine (congrFun (keep_main_v12_0_10 V) _).trans ?_
  show (StableHlo.after hostOps0 V (Proc.devRef .tc main_v12) : S64x1x2048.Idx → EReal) _ = _
  after_results
  exact stack3 _ _ e q

end Weights

/-! ## The blocks -/

variable (m : (ℓ : Loc nD τ sig) → Buf (Elt Ideal) ℓ) {n : ℕ → ℕ} (Hg : Good n (tbl m))

/-- Window 0's block at a point. -/
theorem index0 (t : Fin (cfgM m Hg).N) : ((cfgM m Hg).win 0).index t = ![tileOf n t.val, 0] := by
  have h : ((cfgM m Hg).win 0).index t = cc0_transform_0 k0_off1_inb numel1_S1 (adm m Hg).1 (grid0.coords t) := by exact rfl
  rw [h, adm_val]
  exact (tr0 Hg (grid0.coords t)).trans (congrArg (fun k => ![tileOf n k, 0]) (pn_coords t))

/-- Window 1's block at a point. -/
theorem index1 (t : Fin (cfgM m Hg).N) : ((cfgM m Hg).win 1).index t = ![exOf n t.val, 0, 0] := by
  have h : ((cfgM m Hg).win 1).index t = cc0_transform_1 k0_off1_inb numel1_S1 (adm m Hg).1 (grid0.coords t) := by exact rfl
  rw [h, adm_val]
  exact (tr1 Hg (grid0.coords t)).trans (congrArg (fun k => ![exOf n k, 0, 0]) (pn_coords t))

/-- Window 2's block at a point. -/
theorem index2 (t : Fin (cfgM m Hg).N) : ((cfgM m Hg).win 2).index t = ![exOf n t.val, 0, 0] := by
  have h : ((cfgM m Hg).win 2).index t = cc0_transform_2 k0_off1_inb numel1_S1 (adm m Hg).1 (grid0.coords t) := by exact rfl
  rw [h, adm_val]
  exact (tr2 Hg (grid0.coords t)).trans (congrArg (fun k => ![exOf n k, 0, 0]) (pn_coords t))

/-- Window 3's block at a point. -/
theorem index3 (t : Fin (cfgM m Hg).N) : ((cfgM m Hg).win 3).index t = ![exOf n t.val, 0, 0] := by
  have h : ((cfgM m Hg).win 3).index t = cc0_transform_3 k0_off1_inb numel1_S1 (adm m Hg).1 (grid0.coords t) := by exact rfl
  rw [h, adm_val]
  exact (tr3 Hg (grid0.coords t)).trans (congrArg (fun k => ![exOf n k, 0, 0]) (pn_coords t))

/-- Window 4's block at a point. -/
theorem index4 (t : Fin (cfgM m Hg).N) : ((cfgM m Hg).win 4).index t = ![exOf n t.val, 0, 0] := by
  have h : ((cfgM m Hg).win 4).index t = cc0_transform_4 k0_off1_inb numel1_S1 (adm m Hg).1 (grid0.coords t) := by exact rfl
  rw [h, adm_val]
  exact (tr4 Hg (grid0.coords t)).trans (congrArg (fun k => ![exOf n k, 0, 0]) (pn_coords t))

/-- Window 5's block at a point. -/
theorem index5 (t : Fin (cfgM m Hg).N) : ((cfgM m Hg).win 5).index t = ![exOf n t.val, 0, 0] := by
  have h : ((cfgM m Hg).win 5).index t = cc0_transform_5 k0_off1_inb numel1_S1 (adm m Hg).1 (grid0.coords t) := by exact rfl
  rw [h, adm_val]
  exact (tr5 Hg (grid0.coords t)).trans (congrArg (fun k => ![exOf n k, 0, 0]) (pn_coords t))

/-- Window 6's block at a point. -/
theorem index6 (t : Fin (cfgM m Hg).N) : ((cfgM m Hg).win 6).index t = ![exOf n t.val, 0, 0] := by
  have h : ((cfgM m Hg).win 6).index t = cc0_transform_6 k0_off1_inb numel1_S1 (adm m Hg).1 (grid0.coords t) := by exact rfl
  rw [h, adm_val]
  exact (tr6 Hg (grid0.coords t)).trans (congrArg (fun k => ![exOf n k, 0, 0]) (pn_coords t))

/-- The rows of the point's tile. -/
theorem iblk0_at (c : Dev nD) (t : Fin (cfgM m Hg).N) (y : S4096x128.Idx) (z : S2359296x128.Idx)
    (h0 : (z 0).val = tileOf n t.val * 4096 + (y 0).val) (h1 : (z 1).val = (y 1).val) :
    (iblk m Hg c 0 t : S4096x128.Idx → EReal) y = (m ((c : Thread nD τ).loc main_arg0) : S2359296x128.Idx → EReal) z := by
  have hi : ∀ a : Fin 2, (((cfgM m Hg).win 0).index t : Fin 2 → ℕ) a = ![tileOf n t.val, 0] a := fun a => congrFun (index0 m Hg t) a
  refine Eq.trans ?_ (congrFun (V_arg0 m c) z)
  refine congrArg (V m c main_arg0) (funext fun ax => Fin.ext ?_)
  match ax with
  | ⟨0, _⟩ =>
    exact (congrArg (fun k => k * 4096 + 1 * (y 0).val) (hi 0)).trans (by show tileOf n t.val * 4096 + 1 * (y 0).val = (z 0).val; omega)
  | ⟨1, _⟩ =>
    exact (congrArg (fun k => k * 128 + 1 * (y 1).val) (hi 1)).trans (by show 0 * 128 + 1 * (y 1).val = (z 1).val; omega)

/-- Window 1's block at a point, in its array. -/
theorem arr1_at (c : Dev nD) (t : Fin (cfgM m Hg).N) (y : S1x2048x2048.Idx) (z : S64x2048x2048.Idx)
    (h0 : (z 0).val = exOf n t.val + (y 0).val) (h1 : (z 1).val = (y 1).val) (h2 : (z 2).val = (y 2).val) :
    (iblk m Hg c 1 t : S1x2048x2048.Idx → EReal) y = (V m c main_v2 : S64x2048x2048.Idx → EReal) z := by
  have hi : ∀ a : Fin 3, (((cfgM m Hg).win 1).index t : Fin 3 → ℕ) a = ![exOf n t.val, 0, 0] a := fun a => congrFun (index1 m Hg t) a
  refine congrArg (V m c main_v2) (funext fun ax => Fin.ext ?_)
  match ax with
  | ⟨0, _⟩ =>
    refine (congrArg (fun k => k * S1x2048x2048.size 0 + 1 * (y 0).val) (hi 0)).trans ?_
    generalize exOf n t.val = e at h0 ⊢
    show e * 1 + 1 * (y 0).val = (z 0).val
    omega
  | ⟨1, _⟩ =>
    exact (congrArg (fun k => k * S1x2048x2048.size 1 + 1 * (y 1).val) (hi 1)).trans (by show 0 * 2048 + 1 * (y 1).val = (z 1).val; omega)
  | ⟨2, _⟩ =>
    exact (congrArg (fun k => k * S1x2048x2048.size 2 + 1 * (y 2).val) (hi 2)).trans (by show 0 * 2048 + 1 * (y 2).val = (z 2).val; omega)

/-- Window 1 at a point: its expert's part of the weights. -/
theorem iblk1_at (c : Dev nD) (t : Fin (cfgM m Hg).N) (e : Fin 32) (he : exOf n t.val = e.val) (a b : Fin 2048) :
    (iblk m Hg c 1 t : S1x2048x2048.Idx → EReal) (ix3 (0 : Fin 1) a b) = (m ((c : Thread nD τ).loc main_arg2) : S2x32x2048x4096.Idx → EReal) (ix4 (0 : Fin 2) e a (ev b)) :=
  (arr1_at m Hg c t (ix3 (0 : Fin 1) a b) (ix3 (⟨e.val, by have := e.isLt; omega⟩ : Fin 64) a b) (by rw [he]; rfl) rfl rfl).trans (wg_at (fun b => m (c, b)) e a b)

/-- Window 2's block at a point, in its array. -/
theorem arr2_at (c : Dev nD) (t : Fin (cfgM m Hg).N) (y : S1x2048x2048.Idx) (z : S64x2048x2048.Idx)
    (h0 : (z 0).val = exOf n t.val + (y 0).val) (h1 : (z 1).val = (y 1).val) (h2 : (z 2).val = (y 2).val) :
    (iblk m Hg c 2 t : S1x2048x2048.Idx → EReal) y = (V m c main_v5 : S64x2048x2048.Idx → EReal) z := by
  have hi : ∀ a : Fin 3, (((cfgM m Hg).win 2).index t : Fin 3 → ℕ) a = ![exOf n t.val, 0, 0] a := fun a => congrFun (index2 m Hg t) a
  refine congrArg (V m c main_v5) (funext fun ax => Fin.ext ?_)
  match ax with
  | ⟨0, _⟩ =>
    refine (congrArg (fun k => k * S1x2048x2048.size 0 + 1 * (y 0).val) (hi 0)).trans ?_
    generalize exOf n t.val = e at h0 ⊢
    show e * 1 + 1 * (y 0).val = (z 0).val
    omega
  | ⟨1, _⟩ =>
    exact (congrArg (fun k => k * S1x2048x2048.size 1 + 1 * (y 1).val) (hi 1)).trans (by show 0 * 2048 + 1 * (y 1).val = (z 1).val; omega)
  | ⟨2, _⟩ =>
    exact (congrArg (fun k => k * S1x2048x2048.size 2 + 1 * (y 2).val) (hi 2)).trans (by show 0 * 2048 + 1 * (y 2).val = (z 2).val; omega)

/-- Window 2 at a point: its expert's part of the weights. -/
theorem iblk2_at (c : Dev nD) (t : Fin (cfgM m Hg).N) (e : Fin 32) (he : exOf n t.val = e.val) (a b : Fin 2048) :
    (iblk m Hg c 2 t : S1x2048x2048.Idx → EReal) (ix3 (0 : Fin 1) a b) = (m ((c : Thread nD τ).loc main_arg2) : S2x32x2048x4096.Idx → EReal) (ix4 (0 : Fin 2) e a (od b)) :=
  (arr2_at m Hg c t (ix3 (0 : Fin 1) a b) (ix3 (⟨e.val, by have := e.isLt; omega⟩ : Fin 64) a b) (by rw [he]; rfl) rfl rfl).trans (wl_at (fun b => m (c, b)) e a b)

/-- Window 3's block at a point, in its array. -/
theorem arr3_at (c : Dev nD) (t : Fin (cfgM m Hg).N) (y : S1x1x2048.Idx) (z : S64x1x2048.Idx)
    (h0 : (z 0).val = exOf n t.val + (y 0).val) (h1 : (z 1).val = (y 1).val) (h2 : (z 2).val = (y 2).val) :
    (iblk m Hg c 3 t : S1x1x2048.Idx → EReal) y = (V m c main_v7 : S64x1x2048.Idx → EReal) z := by
  have hi : ∀ a : Fin 3, (((cfgM m Hg).win 3).index t : Fin 3 → ℕ) a = ![exOf n t.val, 0, 0] a := fun a => congrFun (index3 m Hg t) a
  refine congrArg (V m c main_v7) (funext fun ax => Fin.ext ?_)
  match ax with
  | ⟨0, _⟩ =>
    refine (congrArg (fun k => k * S1x1x2048.size 0 + 1 * (y 0).val) (hi 0)).trans ?_
    generalize exOf n t.val = e at h0 ⊢
    show e * 1 + 1 * (y 0).val = (z 0).val
    omega
  | ⟨1, _⟩ =>
    exact (congrArg (fun k => k * S1x1x2048.size 1 + 1 * (y 1).val) (hi 1)).trans (by show 0 * 1 + 1 * (y 1).val = (z 1).val; omega)
  | ⟨2, _⟩ =>
    exact (congrArg (fun k => k * S1x1x2048.size 2 + 1 * (y 2).val) (hi 2)).trans (by show 0 * 2048 + 1 * (y 2).val = (z 2).val; omega)

/-- Window 3 at a point: its expert's part of the weights. -/
theorem iblk3_at (c : Dev nD) (t : Fin (cfgM m Hg).N) (e : Fin 32) (he : exOf n t.val = e.val) (b : Fin 2048) :
    (iblk m Hg c 3 t : S1x1x2048.Idx → EReal) (ix3 (0 : Fin 1) (0 : Fin 1) b) = (m ((c : Thread nD τ).loc main_arg3) : S2x32x4096.Idx → EReal) (ix3 (0 : Fin 2) e (ev b)) :=
  (arr3_at m Hg c t (ix3 (0 : Fin 1) (0 : Fin 1) b) (ix3 (⟨e.val, by have := e.isLt; omega⟩ : Fin 64) (0 : Fin 1) b) (by rw [he]; rfl) rfl rfl).trans (bg_at (fun b => m (c, b)) e b)

/-- Window 4's block at a point, in its array. -/
theorem arr4_at (c : Dev nD) (t : Fin (cfgM m Hg).N) (y : S1x1x2048.Idx) (z : S64x1x2048.Idx)
    (h0 : (z 0).val = exOf n t.val + (y 0).val) (h1 : (z 1).val = (y 1).val) (h2 : (z 2).val = (y 2).val) :
    (iblk m Hg c 4 t : S1x1x2048.Idx → EReal) y = (V m c main_v9 : S64x1x2048.Idx → EReal) z := by
  have hi : ∀ a : Fin 3, (((cfgM m Hg).win 4).index t : Fin 3 → ℕ) a = ![exOf n t.val, 0, 0] a := fun a => congrFun (index4 m Hg t) a
  refine congrArg (V m c main_v9) (funext fun ax => Fin.ext ?_)
  match ax with
  | ⟨0, _⟩ =>
    refine (congrArg (fun k => k * S1x1x2048.size 0 + 1 * (y 0).val) (hi 0)).trans ?_
    generalize exOf n t.val = e at h0 ⊢
    show e * 1 + 1 * (y 0).val = (z 0).val
    omega
  | ⟨1, _⟩ =>
    exact (congrArg (fun k => k * S1x1x2048.size 1 + 1 * (y 1).val) (hi 1)).trans (by show 0 * 1 + 1 * (y 1).val = (z 1).val; omega)
  | ⟨2, _⟩ =>
    exact (congrArg (fun k => k * S1x1x2048.size 2 + 1 * (y 2).val) (hi 2)).trans (by show 0 * 2048 + 1 * (y 2).val = (z 2).val; omega)

/-- Window 4 at a point: its expert's part of the weights. -/
theorem iblk4_at (c : Dev nD) (t : Fin (cfgM m Hg).N) (e : Fin 32) (he : exOf n t.val = e.val) (b : Fin 2048) :
    (iblk m Hg c 4 t : S1x1x2048.Idx → EReal) (ix3 (0 : Fin 1) (0 : Fin 1) b) = (m ((c : Thread nD τ).loc main_arg3) : S2x32x4096.Idx → EReal) (ix3 (0 : Fin 2) e (od b)) :=
  (arr4_at m Hg c t (ix3 (0 : Fin 1) (0 : Fin 1) b) (ix3 (⟨e.val, by have := e.isLt; omega⟩ : Fin 64) (0 : Fin 1) b) (by rw [he]; rfl) rfl rfl).trans (bl_at (fun b => m (c, b)) e b)

/-- Window 5's block at a point, in its array. -/
theorem arr5_at (c : Dev nD) (t : Fin (cfgM m Hg).N) (y : S1x2048x2048.Idx) (z : S64x2048x2048.Idx)
    (h0 : (z 0).val = exOf n t.val + (y 0).val) (h1 : (z 1).val = (y 1).val) (h2 : (z 2).val = (y 2).val) :
    (iblk m Hg c 5 t : S1x2048x2048.Idx → EReal) y = (V m c main_v11 : S64x2048x2048.Idx → EReal) z := by
  have hi : ∀ a : Fin 3, (((cfgM m Hg).win 5).index t : Fin 3 → ℕ) a = ![exOf n t.val, 0, 0] a := fun a => congrFun (index5 m Hg t) a
  refine congrArg (V m c main_v11) (funext fun ax => Fin.ext ?_)
  match ax with
  | ⟨0, _⟩ =>
    refine (congrArg (fun k => k * S1x2048x2048.size 0 + 1 * (y 0).val) (hi 0)).trans ?_
    generalize exOf n t.val = e at h0 ⊢
    show e * 1 + 1 * (y 0).val = (z 0).val
    omega
  | ⟨1, _⟩ =>
    exact (congrArg (fun k => k * S1x2048x2048.size 1 + 1 * (y 1).val) (hi 1)).trans (by show 0 * 2048 + 1 * (y 1).val = (z 1).val; omega)
  | ⟨2, _⟩ =>
    exact (congrArg (fun k => k * S1x2048x2048.size 2 + 1 * (y 2).val) (hi 2)).trans (by show 0 * 2048 + 1 * (y 2).val = (z 2).val; omega)

/-- Window 5 at a point: its expert's part of the weights. -/
theorem iblk5_at (c : Dev nD) (t : Fin (cfgM m Hg).N) (e : Fin 32) (he : exOf n t.val = e.val) (a b : Fin 2048) :
    (iblk m Hg c 5 t : S1x2048x2048.Idx → EReal) (ix3 (0 : Fin 1) a b) = (m ((c : Thread nD τ).loc main_arg4) : S2x32x2048x2048.Idx → EReal) (ix4 (0 : Fin 2) e a b) :=
  (arr5_at m Hg c t (ix3 (0 : Fin 1) a b) (ix3 (⟨e.val, by have := e.isLt; omega⟩ : Fin 64) a b) (by rw [he]; rfl) rfl rfl).trans (wd_at (fun b => m (c, b)) e a b)

/-- Window 6's block at a point, in its array. -/
theorem arr6_at (c : Dev nD) (t : Fin (cfgM m Hg).N) (y : S1x1x2048.Idx) (z : S64x1x2048.Idx)
    (h0 : (z 0).val = exOf n t.val + (y 0).val) (h1 : (z 1).val = (y 1).val) (h2 : (z 2).val = (y 2).val) :
    (iblk m Hg c 6 t : S1x1x2048.Idx → EReal) y = (V m c main_v12 : S64x1x2048.Idx → EReal) z := by
  have hi : ∀ a : Fin 3, (((cfgM m Hg).win 6).index t : Fin 3 → ℕ) a = ![exOf n t.val, 0, 0] a := fun a => congrFun (index6 m Hg t) a
  refine congrArg (V m c main_v12) (funext fun ax => Fin.ext ?_)
  match ax with
  | ⟨0, _⟩ =>
    refine (congrArg (fun k => k * S1x1x2048.size 0 + 1 * (y 0).val) (hi 0)).trans ?_
    generalize exOf n t.val = e at h0 ⊢
    show e * 1 + 1 * (y 0).val = (z 0).val
    omega
  | ⟨1, _⟩ =>
    exact (congrArg (fun k => k * S1x1x2048.size 1 + 1 * (y 1).val) (hi 1)).trans (by show 0 * 1 + 1 * (y 1).val = (z 1).val; omega)
  | ⟨2, _⟩ =>
    exact (congrArg (fun k => k * S1x1x2048.size 2 + 1 * (y 2).val) (hi 2)).trans (by show 0 * 2048 + 1 * (y 2).val = (z 2).val; omega)

/-- Window 6 at a point: its expert's part of the weights. -/
theorem iblk6_at (c : Dev nD) (t : Fin (cfgM m Hg).N) (e : Fin 32) (he : exOf n t.val = e.val) (b : Fin 2048) :
    (iblk m Hg c 6 t : S1x1x2048.Idx → EReal) (ix3 (0 : Fin 1) (0 : Fin 1) b) = (m ((c : Thread nD τ).loc main_arg5) : S2x32x2048.Idx → EReal) (ix3 (0 : Fin 2) e b) :=
  (arr6_at m Hg c t (ix3 (0 : Fin 1) (0 : Fin 1) b) (ix3 (⟨e.val, by have := e.isLt; omega⟩ : Fin 64) (0 : Fin 1) b) (by rw [he]; rfl) rfl rfl).trans (bd_at (fun b => m (c, b)) e b)

end Cert.Gmm

end
-- ==== Proof.GmmValue.lean ====
/-
  The value of the call: the rows of a tile are done expert by expert, and a tile is written back when all of its rows are.
-/
module

public import proofs.«01_k».proof.Proof.GmmArrays
public import proofs.«01_k».proof.Proof.GmmRows
public import Idealize.ShloMosaic.Lib.Pipeline.ValueKit.Geometry

@[expose] public section

set_option maxRecDepth 20000

noncomputable section

namespace Cert.Gmm

open Cert.Kernel2Ideal Cert.Kernel2Ideal.Gen
open Idealize.ShloMosaic Idealize.ShloMosaic.TcCoe Idealize.ShloMosaic.Tactic Idealize.ShloMosaic.ValueIdx Idealize.ShloMosaic.Pipeline

/-! ## Which rows are done -/

section Rows

variable (n : ℕ → ℕ)

/-- Slots below this one are done after point `k`, of the tile the point is at. -/
def done (k : ℕ) : ℕ := if k < total n then pre n (exOf n k + 1) else 147456

theorem done_live {k : ℕ} (h : k < total n) : done n k = pre n (exOf n k + 1) := if_pos h
theorem done_idle {k : ℕ} (h : ¬ k < total n) : done n k = 147456 := if_neg h

/-- A slot between an expert's first and its last is that expert's. -/
theorem cut_eq (hs : pre n 32 = 147456) {e R : ℕ} (h : pre n e ≤ R) (h' : R < pre n (e + 1)) (hR : R < 147456) : cut n R = e := by
  obtain ⟨-, a, b⟩ := cut_spec n (b := R) (by omega)
  exact place_unique n a b h h'

/-- At a tile's last item every slot of it is done. -/
theorem all_done (hs : pre n 32 = 147456) {T e r : ℕ} (hT : T ≤ 575) (he : e = cut n (256 * T + 255)) (hr : r < 256) :
    256 * T + r < pre n (e + 1) := by
  obtain ⟨-, -, b⟩ := cut_spec n (b := 256 * T + 255) (by omega)
  rw [he]; omega

/-- At a tile's first item its expert starts no later than the tile. -/
theorem starts (hs : pre n 32 = 147456) {T e : ℕ} (hT : T ≤ 575) (he : e = cut n (256 * T)) : pre n e ≤ 256 * T := by
  obtain ⟨-, a, -⟩ := cut_spec n (b := 256 * T) (by omega)
  rw [he]; exact a

/-- The tile's expert at the first item of a tile. -/
theorem first_ex {k : ℕ} (hk : k < total n) (hf : k = pre (per n) (tileOf n k)) : exOf n k = cut n (256 * tileOf n k) := by
  rcases k with _ | k
  · obtain ⟨-, ht, he⟩ := first_item n
    rw [he, ht]
  · rcases next_item n hk with ⟨-, -, hne⟩ | ⟨-, -, -, he⟩
    · exact absurd hf hne
    · exact he

/-- When a tile is written back all of its slots are done. -/
theorem done_flush (hs : pre n 32 = 147456) {t : ℕ} (ht : t < 607) (h : t + 1 = 607 ∨ tileOf n (t + 1) ≠ tileOf n t) {r : ℕ} (hr : r < 256) :
    256 * tileOf n t + r < done n t := by
  have h1 := total_le n
  have hT := tileOf_le n t
  by_cases hv : t < total n
  · rw [done_live n hv]
    by_cases hl : t + 1 = total n
    · obtain ⟨e1, e2⟩ := last_item n hl
      exact all_done n hs hT (by rw [e2, e1]) hr
    · rcases h with h | h
      · omega
      · rcases next_item n (show t + 1 < total n by omega) with ⟨e, -⟩ | ⟨-, -, e, -⟩
        · exact absurd e h
        · exact all_done n hs hT e hr
  · rw [done_idle n hv]; omega

/-- Past the items nothing is left to do. -/
theorem done_keep (hs : pre n 32 = 147456) {k r : ℕ} (hv : ¬ k + 1 < total n) (hr : r < 256) : 256 * tileOf n k + r < done n k := by
  by_cases h : k < total n
  · rw [done_live n h]
    obtain ⟨e1, e2⟩ := last_item n (show k + 1 = total n by omega)
    exact all_done n hs (tileOf_le n k) (by rw [e2, e1]) hr
  · rw [done_idle n h]
    have := tileOf_le n k
    omega

/-- A tile is reached one after the other. -/
theorem reached (T k : ℕ) (h : T < tileOf n k) : ∃ t, t < k ∧ tileOf n t = T ∧ tileOf n (t + 1) ≠ tileOf n t := by
  induction k with
  | zero => rw [(first_item n).2.1] at h; omega
  | succ k ih =>
    by_cases hk : T < tileOf n k
    · obtain ⟨t, a, b⟩ := ih hk
      exact ⟨t, by omega, b⟩
    · refine ⟨k, by omega, ?_⟩
      by_cases hv : k + 1 < total n
      · rcases next_item n hv with ⟨e, -⟩ | ⟨e, -⟩ <;> omega
      · have := idle_tile n k hv; omega

/-- Every tile is written back at some point. -/
theorem some_flush {T : ℕ} (hT : T ≤ 575) : ∃ t, t < 607 ∧ tileOf n t = T ∧ (t + 1 = 607 ∨ tileOf n (t + 1) ≠ tileOf n t) := by
  have h1 := total_le n
  have hl : tileOf n 606 = 575 := by
    by_cases h : total n ≤ 606
    · exact past_items n h
    · exact (last_item n (show 606 + 1 = total n by omega)).1
  by_cases h : T = 575
  · exact ⟨606, by omega, by rw [hl, h], .inl rfl⟩
  · obtain ⟨t, a, b, c⟩ := reached n T 606 (by omega)
    exact ⟨t, by omega, b, .inr c⟩

end Rows

/-! ## A tile at a point -/

section Value

variable (m : (ℓ : Loc nD τ sig) → Buf (Elt Ideal) ℓ) {n : ℕ → ℕ} (Hg : Good n (tbl m))

/-- The result at slot `R` and place `q`, as the blocks lie. -/
theorem answer_at (xs : S2359296x128.Idx → EReal) (n : ℕ → ℕ) (wgu : S2x32x2048x4096.Idx → EReal)
    (bgu : S2x32x4096.Idx → EReal) (wdn : S2x32x2048x2048.Idx → EReal) (bdn : S2x32x2048.Idx → EReal)
    (z : S2359296x128.Idx) (e : Fin 32) (R : Fin 147456) (q : Fin 2048)
    (he : cut n R.val = e.val) (hR : (z 0).val / 16 = R.val) (hq : 128 * ((z 0).val % 16) + (z 1).val = q.val) :
    answer xs n wgu bgu wdn bdn z = slotRow xs wgu bgu wdn bdn e R q := by
  unfold answer
  have e1 : expOf n ((z 0).val / 16) = e := Fin.ext (by show cut n ((z 0).val / 16) = e.val; rw [hR, he])
  rw [e1]
  congr 1
  · exact Fin.ext hR
  · exact Fin.ext hq

/-- The value the call is to leave. -/
abbrev want (c : Dev nD) : S2359296x128.Idx → EReal :=
  answer (m ((c : Thread nD τ).loc main_arg0)) n (m ((c : Thread nD τ).loc main_arg2)) (m ((c : Thread nD τ).loc main_arg3))
    (m ((c : Thread nD τ).loc main_arg4)) (m ((c : Thread nD τ).loc main_arg5))

/-- The point's products at row `a` are its expert's at that slot. -/
theorem ffnAt_at (c : Dev nD) (t : Fin (cfgM m Hg).N) (e : Fin 32) (he : exOf n t.val = e.val) (a : Fin 256) (R : Fin 147456)
    (hR : R.val = 256 * tileOf n t.val + a.val) (q : Fin 2048) :
    (ffnAt m Hg c t (ix2 a q) : EReal)
      = slotRow (m ((c : Thread nD τ).loc main_arg0)) (m ((c : Thread nD τ).loc main_arg2)) (m ((c : Thread nD τ).loc main_arg3))
          (m ((c : Thread nD τ).loc main_arg4)) (m ((c : Thread nD τ).loc main_arg5)) e R q := by
  unfold ffnAt slotRow
  refine (ffn_at _ _ _ _ _ _ _ a q).trans ?_
  have e0 : (fun d => (iblk m Hg c 0 t : S4096x128.Idx → EReal) (tok (A := 256) (B := 4096) rfl a d))
      = fun d => (m ((c : Thread nD τ).loc main_arg0) : S2359296x128.Idx → EReal) (tok (A := 147456) (B := 2359296) rfl R d) :=
    funext fun d => iblk0_at m Hg c t _ _ (by show 16 * R.val + d.val / 128 = tileOf n t.val * 4096 + (16 * a.val + d.val / 128); omega) rfl
  have e1 := funext fun d => funext fun f => iblk1_at m Hg c t e he d f
  have e2 := funext fun d => funext fun f => iblk2_at m Hg c t e he d f
  have e3 := funext fun f => iblk3_at m Hg c t e he f
  have e4 := funext fun f => iblk4_at m Hg c t e he f
  have e5 := funext fun f => funext fun q => iblk5_at m Hg c t e he f q
  have e6 := funext fun q => iblk6_at m Hg c t e he q
  exact congr (congr (congr (congr (congr (congr (congr (congrArg expert e0) e1) e2) e3) e4) e5) e6) rfl

/-- The first row of the point's expert in its tile; -/
theorem lo_at (t : Fin (cfgM m Hg).N) {T e : ℕ} (hT : tileOf n t.val = T) (he : exOf n t.val = e) :
    loAt m Hg t = BitVec.ofNat 32 (min (pre n e - 256 * T) 256) :=
  ((Hg.lo ⟨pn (grid0.coords t), pn_lt _⟩).trans
    (congrArg (fun k => BitVec.ofNat 32 (min (pre n (exOf n k) - 256 * tileOf n k) 256)) (pn_coords t))).trans (by rw [hT, he])
/-- the one after its last. -/
theorem hi_at (t : Fin (cfgM m Hg).N) {T e : ℕ} (hT : tileOf n t.val = T) (he : exOf n t.val = e) :
    hiAt m Hg t = BitVec.ofNat 32 (min (pre n (e + 1) - 256 * T) 256) :=
  ((Hg.hi ⟨pn (grid0.coords t), pn_lt _⟩).trans
    (congrArg (fun k => BitVec.ofNat 32 (min (pre n (exOf n k + 1) - 256 * tileOf n k) 256)) (pn_coords t))).trans (by rw [hT, he])

/-- Where a tile's element lies in the result. -/
abbrev inTile (T : ℕ) (hT : T ≤ 575) (y : S4096x128.Idx) : S2359296x128.Idx :=
  ix2 ⟨4096 * T + (y 0).val, by have : (y 0).val < 4096 := (y 0).isLt; omega⟩ ⟨(y 1).val, (y 1).isLt⟩

/-- The result at a tile's element. -/
theorem want_at (hs : pre n 32 = 147456) (c : Dev nD) (T : ℕ) (hT : T ≤ 575) (y : S4096x128.Idx) (e : Fin 32) (R : Fin 147456) (q : Fin 2048)
    (hR : R.val = 256 * T + (y 0).val / 16) (hq : q.val = 128 * ((y 0).val % 16) + (y 1).val)
    (h : pre n e.val ≤ R.val) (h' : R.val < pre n (e.val + 1)) :
    want m (n := n) c (inTile T hT y)
      = slotRow (m ((c : Thread nD τ).loc main_arg0)) (m ((c : Thread nD τ).loc main_arg2)) (m ((c : Thread nD τ).loc main_arg3))
          (m ((c : Thread nD τ).loc main_arg4)) (m ((c : Thread nD τ).loc main_arg5)) e R q := by
  refine answer_at _ n _ _ _ _ _ _ _ _ (cut_eq n hs h h' R.isLt) ?_ ?_
  · show (4096 * T + (y 0).val) / 16 = R.val
    omega
  · show 128 * ((4096 * T + (y 0).val) % 16) + (y 1).val = q.val
    omega

/-- One point's step: what it writes is right, and what it keeps was. -/
theorem masked_right (hs : pre n 32 = 147456) (c : Dev nD) (t : Fin (cfgM m Hg).N) {T e : ℕ} (hT : tileOf n t.val = T) (he : exOf n t.val = e)
    (hT' : T ≤ 575) (he' : e ≤ 31) (Y : S4096x128.Idx → Elt Ideal .f32) (y : S4096x128.Idx)
    (hR : 256 * T + (y 0).val / 16 < pre n (e + 1))
    (hY : 256 * T + (y 0).val / 16 < pre n e → (Y y : EReal) = want m (n := n) c (inTile T hT' y)) :
    (masked (ffnAt m Hg c t) (min (pre n e - 256 * T) 256) (min (pre n (e + 1) - 256 * T) 256) Y y : EReal) = want m (n := n) c (inTile T hT' y) := by
  have hy0 : (y 0).val < 4096 := (y 0).isLt
  have hy1 : (y 1).val < 128 := (y 1).isLt
  unfold masked
  by_cases h : 16 * min (pre n e - 256 * T) 256 ≤ (y 0).val ∧ (y 0).val < 16 * min (pre n (e + 1) - 256 * T) 256
  · have h1 : pre n e ≤ 256 * T + (y 0).val / 16 := by omega
    have hb : 256 * T + (y 0).val / 16 < 147456 := by omega
    rw [if_pos h]
    unfold val16
    refine (ffnAt_at m Hg c t ⟨e, by omega⟩ he _ ⟨256 * T + (y 0).val / 16, hb⟩ (by rw [hT]) _).trans ?_
    exact (want_at m hs c T hT' y ⟨e, by omega⟩ ⟨256 * T + (y 0).val / 16, hb⟩ _ rfl rfl h1 hR).symm
  · rw [if_neg h]
    exact hY (by omega)

/-- The step at a tile's first item. -/
theorem first_right (hs : pre n 32 = 147456) (c : Dev nD) (k : ℕ) (h : k < (cfgM m Hg).N) (Y : S4096x128.Idx → Elt Ideal .f32) (y : S4096x128.Idx)
    (hv : k < total n) (hf : k = pre (per n) (tileOf n k)) (T : ℕ) (hT : tileOf n k = T) (hT' : T ≤ 575)
    (hd : 256 * T + (y 0).val / 16 < done n k) :
    (val m n Hg c ⟨k, h⟩ Y y : EReal) = want m (n := n) c (inTile T hT' y) := by
  rw [done_live n hv] at hd
  have hex := first_ex n hv hf
  have hle := exOf_le n k
  refine (congrFun (val_first m Hg c ⟨k, h⟩ ⟨hv, hf⟩ Y) y).trans ?_
  obtain ⟨e, he⟩ : ∃ e, exOf n k = e := ⟨_, rfl⟩
  rw [he] at hd hex hle
  rw [hT] at hex
  rw [lo_at m Hg ⟨k, h⟩ hT he, hi_at m Hg ⟨k, h⟩ hT he]
  refine (firstBlk_at _ _ _ (min_le_right _ _) (min_le_right _ _) y).trans ?_
  refine masked_right m Hg hs c ⟨k, h⟩ hT he hT' hle _ y hd fun hlt => ?_
  have := starts n hs hT' hex
  omega

/-- The step at a later item. -/
theorem next_right (hs : pre n 32 = 147456) (c : Dev nD) (k : ℕ) (h : k < (cfgM m Hg).N) (Y : S4096x128.Idx → Elt Ideal .f32) (y : S4096x128.Idx)
    (hv : k < total n) (hf : k ≠ pre (per n) (tileOf n k)) (T e : ℕ) (hT : tileOf n k = T) (he : exOf n k = e) (hT' : T ≤ 575)
    (hd : 256 * T + (y 0).val / 16 < pre n (e + 1))
    (hY : 256 * T + (y 0).val / 16 < pre n e → (Y y : EReal) = want m (n := n) c (inTile T hT' y)) :
    (val m n Hg c ⟨k, h⟩ Y y : EReal) = want m (n := n) c (inTile T hT' y) := by
  have hle := exOf_le n k
  rw [he] at hle
  refine (congrFun (val_next m Hg c ⟨k, h⟩ hv hf Y) y).trans ?_
  rw [lo_at m Hg ⟨k, h⟩ hT he, hi_at m Hg ⟨k, h⟩ hT he]
  refine (nextBlk_at _ _ _ (min_le_right _ _) (min_le_right _ _) _ y).trans ?_
  exact masked_right m Hg hs c ⟨k, h⟩ hT he hT' hle _ y hd hY

/-- After every point the tile's slots that are done hold the result. -/
theorem traj_right (hs : pre n 32 = 147456) (c : Dev nD) (y : S4096x128.Idx) (k : ℕ) (h : k < (cfgM m Hg).N) (T : ℕ)
    (hT : tileOf n k = T) (hT' : T ≤ 575) (hd : 256 * T + (y 0).val / 16 < done n k) :
    (traj m n Hg c k h y : EReal) = want m (n := n) c (inTile T hT' y) := by
  have hy0 : (y 0).val < 4096 := (y 0).isLt
  induction k generalizing T with
  | zero =>
    rw [traj_zero]
    exact first_right m Hg hs c 0 h _ y (zero_point n).1 (zero_point n).2 T hT hT' hd
  | succ k ih =>
    have h' : k < (cfgM m Hg).N := by omega
    rw [traj_succ m Hg c k h h']
    by_cases hv : k + 1 < total n
    · by_cases hf : k + 1 = pre (per n) (tileOf n (k + 1))
      · exact first_right m Hg hs c (k + 1) h _ y hv hf T hT hT' hd
      · rw [done_live n hv] at hd
        refine next_right m Hg hs c (k + 1) h _ y hv hf T _ hT rfl hT' hd fun hlt => ?_
        rcases next_item n hv with ⟨e, ex, -⟩ | ⟨-, e, -⟩
        · rw [ex] at hlt
          exact ih h' T (e.symm.trans hT) hT' (by rw [done_live n (by omega)]; exact hlt)
        · exact absurd e hf
    · have e := (idle_tile n k hv).symm.trans hT
      refine (congrFun (val_idle m Hg c ⟨k + 1, h⟩ hv _) y).trans ?_
      refine ih h' T e hT' ?_
      rw [← e]
      exact done_keep n hs hv (by omega)

/-- Where the output's block at a point lies. -/
theorem emb7 (t : Fin (cfgM m Hg).N) (y : S4096x128.Idx) :
    ((((cfgM m Hg).win 7).blk t).view.emb y : S2359296x128.Idx) = inTile (tileOf n t.val) (tileOf_le n t.val) y := by
  have hi : ∀ a : Fin 2, (((cfgM m Hg).win 7).index t : Fin 2 → ℕ) a = ![tileOf n t.val, 0] a := fun a => congrFun (index7 m Hg t) a
  refine funext fun ax => Fin.ext ?_
  match ax with
  | ⟨0, _⟩ =>
    exact (congrArg (fun k => k * 4096 + 1 * (y 0).val) (hi 0)).trans
      (by show tileOf n t.val * 4096 + 1 * (y 0).val = 4096 * tileOf n t.val + (y 0).val; omega)
  | ⟨1, _⟩ =>
    exact (congrArg (fun k => k * 128 + 1 * (y 1).val) (hi 1)).trans (by show 0 * 128 + 1 * (y 1).val = (y 1).val; omega)

/-- What is written back is right. -/
theorem flushed_right (hs : pre n 32 = 147456) (c : Dev nD) (t : Fin (cfgM m Hg).N) (hf : ((cfgM m Hg).win 7).flush t = true) (y : S4096x128.Idx) :
    (traj m n Hg c t.val t.isLt y : EReal) = want m (n := n) c (((cfgM m Hg).win 7).blk t |>.view.emb y : S2359296x128.Idx) := by
  have hN : (cfgM m Hg).N = 607 := N_0
  have hy : (y 0).val < 4096 := (y 0).isLt
  rw [emb7]
  exact traj_right m Hg hs c y t.val t.isLt _ rfl (tileOf_le n t.val) (done_flush n hs (lt_of_lt_of_eq t.isLt hN) ((flush7 m Hg t).1 hf) (by omega))

/-- Every element of the result is written back at some point. -/
theorem covered (i : S2359296x128.Idx) :
    ∃ t : Fin (cfgM m Hg).N, ((cfgM m Hg).win 7).flush t = true ∧ ((cfgM m Hg).win 7).arr.view.emb i ∈ (((cfgM m Hg).win 7).blk t).view.set := by
  have hN : (cfgM m Hg).N = 607 := N_0
  have hi0 : (i 0).val < 2359296 := (i 0).isLt
  have hi1 : (i 1).val < 128 := (i 1).isLt
  obtain ⟨t, ht, hT, hf⟩ := some_flush n (T := (i 0).val / 4096) (by omega)
  refine ⟨⟨t, lt_of_lt_of_eq ht hN.symm⟩, (flush7 m Hg _).2 hf, ?_⟩
  refine (Window.emb_mem_blk_iff ((cfgM m Hg).win 7) ⟨t, _⟩ i rfl).mpr ?_
  rw [index7]
  intro ax
  match ax with
  | ⟨0, _⟩ =>
    show tileOf n t * 4096 ≤ (i 0).val ∧ (i 0).val < tileOf n t * 4096 + 4096
    rw [hT]; omega
  | ⟨1, _⟩ =>
    show 0 * 128 ≤ (i 1).val ∧ (i 1).val < 0 * 128 + 128
    omega

/-- The result's array at the end. -/
theorem arr7 (hs : pre n 32 = 147456) (c : Dev nD) : ((dats m Hg 0 c).arrAt 7 (cfgM m Hg).N : S2359296x128.Idx → EReal) = want m (n := n) c :=
  (dats m Hg 0 c).arrAt_eq_of_emb 7 (want m (n := n) c) (fun t hf y => flushed_right m Hg hs c t hf y) (fun i => covered m Hg i)

end Value

end Cert.Gmm

end
-- ==== Proof.GmmRef.lean ====
/-
  The reference's result at an index: every slot through the expert that its place among the counts gives.
-/
module

public import proofs.«01_k».proof.Proof.GmmTables
public import proofs.«01_k».proof.Proof.GmmSpec
public import proofs.«01_k».proof.Proof.Gen.Reference2Ideal.Run
public import Idealize.ShloMosaic.Lib.Pipeline.ValueKit.Tiles
public import Idealize.ShloMosaic.Lib.ValueLayout
public import Idealize.ShloMosaic.Lib.StackMember
public import Idealize.ShloMosaic.Lib.IdealHost
public import Idealize.ShloMosaic.PureOps.Ideal.Laws

@[expose] public section

set_option maxRecDepth 20000

noncomputable section

namespace Cert.Gmm

open Idealize.ShloMosaic Idealize.ShloMosaic.ValueIdx Idealize.ShloMosaic.Routing
open Cert.Reference2Ideal Cert.Reference2Ideal.Gen
open scoped BigOperators

/-! ## Rows of a table of matrices -/

/-- The dimension numbers of `table[idx]` over the matrices of a `[nb, A, B]` table. -/
abbrev matDims (nb A B n : ℕ) (wf : GatherDims.WF ⟨3, ![nb, A, B]⟩ ⟨2, ![n, 1]⟩ ⟨3, ![n, A, B]⟩ [1, 2] [0] [] [0] [] 1 ![1, A, B]) :
    GatherDims ⟨3, ![nb, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where `idx` holds at `(c, 0)` a number `b < nb`, entry `(c, p, y)` of the result is the table's entry `(b, p, y)`. -/
theorem gather_mat {α : Type} {nb A B n : ℕ}
    (wf : GatherDims.WF ⟨3, ![nb, A, B]⟩ ⟨2, ![n, 1]⟩ ⟨3, ![n, A, B]⟩ [1, 2] [0] [] [0] [] 1 ![1, A, B])
    (x : (⟨3, ![nb, A, B]⟩ : Shape).Idx → α) (idx : IVec ⟨2, ![n, 1]⟩ 32) (c : Fin n) (p : Fin A) (y : Fin B) (b : Fin nb)
    (hb : idx (ix2 c (0 : Fin 1)) = BitVec.ofNat 32 b.val) (hnb : nb < 2 ^ 31) :
    Host.gather (matDims nb A B n wf) x idx (ix3 c p y) = x (ix3 b p y) := by
  unfold Host.gather
  refine congrArg x (funext fun a => Fin.ext ?_)
  show (matDims nb A B n wf).start (ix3 c p y) idx a + (matDims nb A B n wf).batchCoord (ix3 c p y) a
      + (matDims nb A B n wf).offCoord (ix3 c p y) a = _
  rw [GatherDims.batchCoord_eq_zero _ _ _ List.not_mem_nil, Nat.add_zero]
  match a with
  | ⟨0, _⟩ =>
    show (matDims nb A B n wf).start (ix3 c p y) idx 0 + (matDims nb A B n wf).offCoord (ix3 c p y) 0 = b.val
    rw [GatherDims.offCoord_eq_zero _ _ _ (fun h => ((GatherDims.mem_sKept _ _).mp h).1 (List.mem_singleton.mpr rfl)), Nat.add_zero]
    unfold GatherDims.start
    rw [dif_pos (show (0 : Fin 3) ∈ (matDims nb A B n wf).startIndexMap from List.mem_singleton.mpr rfl)]
    have hsi : (matDims nb A B n wf).siIdx (ix3 c p y) ⟨List.idxOf (0 : Fin 3) (matDims nb A B n wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    have hbl := b.isLt
    refine (congrArg (fun z => min (BitVec.toInt (idx z)).toNat (nb - 1)) hsi).trans ?_
    show min (BitVec.toInt (idx (ix2 c (0 : Fin 1)))).toNat (nb - 1) = b.val
    rw [hb, StableHlo.Predicate.toInt_ofNat_small _ (by omega)]
    omega
  | ⟨1, _⟩ =>
    show (matDims nb A B n wf).start (ix3 c p y) idx 1 + (matDims nb A B n wf).offCoord (ix3 c p y) 1 = p.val
    unfold GatherDims.start
    rw [dif_neg (show (1 : Fin 3) ∉ (matDims nb A B n wf).startIndexMap from fun h => by simp at h), Nat.zero_add]
    rfl
  | ⟨2, _⟩ =>
    show (matDims nb A B n wf).start (ix3 c p y) idx 2 + (matDims nb A B n wf).offCoord (ix3 c p y) 2 = y.val
    unfold GatherDims.start
    rw [dif_neg (show (2 : Fin 3) ∉ (matDims nb A B n wf).startIndexMap from fun h => by simp at h), Nat.zero_add]
    rfl

/-- A row against its own matrix, batched over the rows: entry `(r, j)` sums over the contracted place. -/
theorem dot_rows {R K N : ℕ} (w : DotDims.WF ⟨2, ![R, K]⟩ ⟨3, ![R, K, N]⟩ ⟨2, ![R, N]⟩ [1] [1] [] [2] [0] [0])
    (prec : Option ContractPrecision) (A : FVec Ideal ⟨2, ![R, K]⟩ .f32) (B : FVec Ideal ⟨3, ![R, K, N]⟩ .f32) (r : Fin R) (j : Fin N) :
    (Host.dotGeneral (⟨[1], [1], [], [2], [0], [0], w⟩ : DotDims _ _ _) prec A B (ix2 r j) : EReal)
      = ∑ c : Fin K, (A (ix2 r c) : EReal) * B (ix3 r c j) := by
  show FloatOps.dotGeneral _ prec _ A B (ix2 r j) = _
  rw [Ideal.dotGeneral_apply,
    ← Equiv.sum_comp (contrEquiv1 (⟨[1], [1], [], [2], [0], [0], w⟩ : DotDims ⟨2, ![R, K]⟩ ⟨3, ![R, K, N]⟩ ⟨2, ![R, N]⟩) K rfl rfl).symm]
  refine Finset.sum_congr rfl fun c _ => ?_
  have c3 := contrEquiv1_symm_val
    (⟨[1], [1], [], [2], [0], [0], w⟩ : DotDims ⟨2, ![R, K]⟩ ⟨3, ![R, K, N]⟩ ⟨2, ![R, N]⟩) K rfl rfl c
  have l3 : (⟨[1], [1], [], [2], [0], [0], w⟩ : DotDims ⟨2, ![R, K]⟩ ⟨3, ![R, K, N]⟩ ⟨2, ![R, N]⟩).lhsIdx (ix2 r j)
      ((contrEquiv1 _ K rfl rfl).symm c) = ix2 r c := by
    funext ax; apply Fin.ext
    match ax with
    | ⟨0, _⟩ => simp [DotDims.lhsIdx]; rfl
    | ⟨1, _⟩ => simp [DotDims.lhsIdx]; exact c3
  have r3 : (⟨[1], [1], [], [2], [0], [0], w⟩ : DotDims ⟨2, ![R, K]⟩ ⟨3, ![R, K, N]⟩ ⟨2, ![R, N]⟩).rhsIdx (ix2 r j)
      ((contrEquiv1 _ K rfl rfl).symm c) = ix3 r c j := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-! ## The parts of the reference's result -/

/-- Each slot's expert, as the reference counts it. -/
def refExp (a1 : IVec S32 32) : IVec S147456 32 :=
  Host.reduce IntOp.addi (extui 32 (cmpi .sle
      (broadcastInDim S147456x32 ![0, 1] bcast_S1x32_S147456x32_0_1 (broadcastInDim S1x32 ![1] bcast_S32_S1x32_1
        (Host.reduceWindow IntOp.addi ![32] ![1] ![31] ![0] a1 (broadcastInDim S_ ![] bcast_S_S_ (constantI S_ 32 0#32)) reduceWindows_S32_S32_w32s1p31_0 h_S_)))
      (broadcastInDim S147456x32 ![0, 1] bcast_S147456x1_S147456x32_0_1 (broadcastInDim S147456x1 ![0] bcast_S147456_S147456x1_0 (iotaInDim S147456 32 0)))) natLt_1_32)
    (constantI S_ 32 0#32) reducesTo_S147456x32_S147456_d1 h_S_

/-- The column of numbers the reference reads its tables at. -/
def refCol (E : IVec S147456 32) : IVec S147456x1 32 :=
  broadcastInDim S147456x1 ![0] bcast_S147456_S147456x1_0
    (select (cmpi .slt E (broadcastInDim S147456 ![] bcast_S_S147456 (constantI S_ 32 0#32)))
      (addi E (broadcastInDim S147456 ![] bcast_S_S147456 (constantI S_ 32 32#32))) E)

/-- Gate and linear part, interleaved. -/
def refGu (a0 : FVec Ideal S2359296x128 .f32) (a2 : FVec Ideal S2x32x2048x4096 .f32) (a3 : FVec Ideal S2x32x4096 .f32) (I : IVec S147456x1 32) :
    FVec Ideal S147456x4096 .f32 :=
  addf (Host.dotGeneral dot_S147456x2048_S147456x2048x4096_S147456x4096_1_1_n_2_0_0 none (shapeCast _ a0 shapeCasts_S2359296x128_S147456x2048 : FVec Ideal S147456x2048 .f32)
      (Host.gather gather_S32x2048x4096_S147456x1_S147456x2048x4096_12_0_n_n_0_1_120484096
        (shapeCast _ (extractStridedSlice S1x32x2048x4096 ![0, 0, 0, 0] a2 slices_S2x32x2048x4096_S1x32x2048x4096_0_0_0_0) shapeCasts_S1x32x2048x4096_S32x2048x4096) I : FVec Ideal S147456x2048x4096 .f32))
    (Host.gather gather_S32x4096_S147456x1_S147456x4096_1_0_n_n_0_1_14096
      (shapeCast _ (extractStridedSlice S1x32x4096 ![0, 0, 0] a3 slices_S2x32x4096_S1x32x4096_0_0_0) shapeCasts_S1x32x4096_S32x4096) I)

/-- The activation. -/
def refAct (g : FVec Ideal S147456x4096 .f32) : FVec Ideal S147456x2048 .f32 :=
  mulf (mulf (minimumf (Host.slice S147456x2048 ![0, 0] ![1, 2] g slicesBy_S147456x4096_S147456x2048_0s1_0s2) (broadcastInDim S147456x2048 ![] bcast_S_S147456x2048 (constant S_ .f32 0x40E00000#32)))
      (Host.divf (broadcastInDim S147456x2048 ![] bcast_S_S147456x2048 (constant S_ .f32 0x3F800000#32))
        (addf (broadcastInDim S147456x2048 ![] bcast_S_S147456x2048 (constant S_ .f32 0x3F800000#32))
          (Host.exp (Host.negf (mulf (broadcastInDim S147456x2048 ![] bcast_S_S147456x2048 (constant S_ .f32 0x3FD9DB23#32))
            (minimumf (Host.slice S147456x2048 ![0, 0] ![1, 2] g slicesBy_S147456x4096_S147456x2048_0s1_0s2) (broadcastInDim S147456x2048 ![] bcast_S_S147456x2048 (constant S_ .f32 0x40E00000#32)))))))))
    (addf (minimumf (broadcastInDim S147456x2048 ![] bcast_S_S147456x2048 (id (constant S_ .f32 0x40E00000#32)))
        (maximumf (broadcastInDim S147456x2048 ![] bcast_S_S147456x2048 (id (constant S_ .f32 0xC0E00000#32)))
          (Host.slice S147456x2048 ![0, 1] ![1, 2] g slicesBy_S147456x4096_S147456x2048_0s1_1s2)))
      (broadcastInDim S147456x2048 ![] bcast_S_S147456x2048 (constant S_ .f32 0x3F800000#32)))

/-- The down projection and its bias. -/
def refOut (h : FVec Ideal S147456x2048 .f32) (a4 : FVec Ideal S2x32x2048x2048 .f32) (a5 : FVec Ideal S2x32x2048 .f32) (I : IVec S147456x1 32) :
    FVec Ideal S147456x2048 .f32 :=
  addf (Host.dotGeneral dot_S147456x2048_S147456x2048x2048_S147456x2048_1_1_n_2_0_0 none h
      (Host.gather gather_S32x2048x2048_S147456x1_S147456x2048x2048_12_0_n_n_0_1_120482048
        (shapeCast _ (extractStridedSlice S1x32x2048x2048 ![0, 0, 0, 0] a4 slices_S2x32x2048x2048_S1x32x2048x2048_0_0_0_0) shapeCasts_S1x32x2048x2048_S32x2048x2048) I : FVec Ideal S147456x2048x2048 .f32))
    (Host.gather gather_S32x2048_S147456x1_S147456x2048_1_0_n_n_0_1_12048
      (shapeCast _ (extractStridedSlice S1x32x2048 ![0, 0, 0] a5 slices_S2x32x2048_S1x32x2048_0_0_0) shapeCasts_S1x32x2048_S32x2048) I)

/-- The reference's result, by its parts. -/
theorem ref_parts (m : (ℓ : Loc nD τ sig) → Buf (Elt Ideal) ℓ) (c : Dev nD) :
    (Cert.Reference2Ideal.Value.res_main_v67 m c : FVec Ideal S2359296x128 .f32)
      = shapeCast S2359296x128 (refOut (refAct (refGu (m ((c.tc : Thread nD τ).loc main_arg0)) (m ((c.tc : Thread nD τ).loc main_arg2)) (m ((c.tc : Thread nD τ).loc main_arg3))
          (refCol (refExp (m ((c.tc : Thread nD τ).loc main_arg1))))))
          (m ((c.tc : Thread nD τ).loc main_arg4)) (m ((c.tc : Thread nD τ).loc main_arg5)) (refCol (refExp (m ((c.tc : Thread nD τ).loc main_arg1)))))
        shapeCasts_S147456x2048_S2359296x128 := rfl

/-! ## The parts at an index -/

/-- Below the sum of the counts, a slot's expert is the place it falls in. -/
theorem refExp_at (a1 : IVec S32 32) (n : ℕ → ℕ) (h : ∀ e : Fin 32, a1 (ix1 e) = BitVec.ofNat 32 (n e.val)) (hs : pre n 32 = 147456)
    (R : Fin 147456) : refExp a1 (ix1 R) = BitVec.ofNat 32 (cut n R.val) := by
  have hE : ∀ k, k ≤ 32 → pre n k ≤ 147456 := fun k hk => hs ▸ pre_mono n hk
  have e1 := reduce_count (n := 147456) (m := 32) (by decide) (cmpi .sle
      (broadcastInDim S147456x32 ![0, 1] bcast_S1x32_S147456x32_0_1 (broadcastInDim S1x32 ![1] bcast_S32_S1x32_1
        (Host.reduceWindow IntOp.addi ![32] ![1] ![31] ![0] a1 (broadcastInDim S_ ![] bcast_S_S_ (constantI S_ 32 0#32)) reduceWindows_S32_S32_w32s1p31_0 h_S_)))
      (broadcastInDim S147456x32 ![0, 1] bcast_S147456x1_S147456x32_0_1 (broadcastInDim S147456x1 ![0] bcast_S147456_S147456x1_0 (iotaInDim S147456 32 0)))) natLt_1_32
    reducesTo_S147456x32_S147456_d1 h_S_ R (fun e => pre n (e + 1) ≤ R.val) (fun e => by
      have l := bcCols bcast_S32_S1x32_1 bcast_S1x32_S147456x32_0_1
        (Host.reduceWindow IntOp.addi ![32] ![1] ![31] ![0] a1 (broadcastInDim S_ ![] bcast_S_S_ (constantI S_ 32 0#32)) reduceWindows_S32_S32_w32s1p31_0 h_S_ : IVec S32 32) R e
      have r := bcRows bcast_S147456_S147456x1_0 bcast_S147456x1_S147456x32_0_1 (iotaInDim S147456 32 0 : IVec S147456 32) R e
      have k1 := hE (e.val + 1) (by have := e.isLt; omega)
      have k2 := R.isLt
      have k3 : (Host.reduceWindow IntOp.addi ![32] ![1] ![31] ![0] a1 (broadcastInDim S_ ![] bcast_S_S_ (constantI S_ 32 0#32)) reduceWindows_S32_S32_w32s1p31_0 h_S_ : IVec S32 32) (ix1 e)
          = BitVec.ofNat 32 (pre n (e.val + 1)) := cumsum1 (N := 32) (Nm1 := 31) rfl a1 n h _ rfl _ _ e
      show IntOp.cmpi .sle _ _ = 1#1 ↔ _
      rw [l, r, k3]
      rw [show (iotaInDim S147456 32 0 : IVec S147456 32) (ix1 R) = BitVec.ofNat 32 R.val from rfl, sle_word (by omega) (by omega)])
  refine e1.trans (congrArg (BitVec.ofNat 32) ?_)
  exact (cut_spec (n := n) (b := R.val) (by rw [hs]; exact R.isLt)).1

/-- The column holds the same numbers: none is negative. -/
theorem refCol_at (E : IVec S147456 32) (R : Fin 147456) (e : Fin 32) (h : E (ix1 R) = BitVec.ofNat 32 e.val) :
    refCol E (ix2 R (0 : Fin 1)) = BitVec.ofNat 32 e.val := by
  unfold refCol
  refine (bcCol bcast_S147456_S147456x1_0 _ R).trans ?_
  show Scalar.select (IntOp.cmpi .slt (E (ix1 R)) (broadcastInDim S147456 ![] bcast_S_S147456 (constantI S_ 32 0#32) (ix1 R))) _ (E (ix1 R)) = _
  rw [bc0 bcast_S_S147456 _ (ix1 R), h]
  exact wrap_word (by have := e.isLt; omega) _

/-- Gate and linear part at an index. -/
theorem refGu_at (a0 : FVec Ideal S2359296x128 .f32) (a2 : FVec Ideal S2x32x2048x4096 .f32) (a3 : FVec Ideal S2x32x4096 .f32) (I : IVec S147456x1 32)
    (R : Fin 147456) (e : Fin 32) (h : I (ix2 R (0 : Fin 1)) = BitVec.ofNat 32 e.val) (j : Fin 4096) :
    (refGu a0 a2 a3 I (ix2 R j) : EReal)
      = (∑ d : Fin 2048, (a0 (tok rfl R d) : EReal) * a2 (ix4 (0 : Fin 2) e d j)) + a3 (ix3 (0 : Fin 2) e j) := by
  refine congrArg₂ (fun p q : EReal => p + q) ?_ ?_
  · refine (dot_rows _ none _ _ R j).trans (Finset.sum_congr rfl fun d _ => congrArg₂ (fun p q : EReal => p * q) ?_ ?_)
    · refine shapeCast_apply (s := S2359296x128) (t := S147456x2048) _ _ (ix2 R d) (tok rfl R d) ?_
      rw [Shape.rowMajor_val_two, Shape.rowMajor_val_two]
      show (16 * R.val + d.val / 128) * 128 + d.val % 128 = R.val * 2048 + d.val
      omega
    · refine (gather_mat _ _ I R d j e h (by decide)).trans ?_
      refine (shapeCast_apply (s := S1x32x2048x4096) (t := S32x2048x4096) _ _ (ix3 e d j) (ix4 (0 : Fin 1) e d j) ?_).trans ?_
      · rw [Shape.rowMajor_val_four, Shape.rowMajor_val_three]
        show ((0 * 32 + e.val) * 2048 + d.val) * 4096 + j.val = (e.val * 2048 + d.val) * 4096 + j.val
        omega
      · refine extractStridedSlice_apply (s := S2x32x2048x4096) (t := S1x32x2048x4096) _ _ _ (ix4 (0 : Fin 1) e d j) (ix4 (0 : Fin 2) e d j) (fun ax => ?_)
        match ax with
        | ⟨0, _⟩ => rfl
        | ⟨1, _⟩ => show e.val = 0 + e.val; omega
        | ⟨2, _⟩ => show d.val = 0 + d.val; omega
        | ⟨3, _⟩ => show j.val = 0 + j.val; omega
  · refine (gather_row gather_S32x4096_S147456x1_S147456x4096_1_0_n_n_0_1_14096 rfl rfl rfl rfl rfl _ I R j e h (by decide)).trans ?_
    refine (shapeCast_apply (s := S1x32x4096) (t := S32x4096) _ _ (ix2 e j) (ix3 (0 : Fin 1) e j) ?_).trans ?_
    · rw [Shape.rowMajor_val_three, Shape.rowMajor_val_two]
      show (0 * 32 + e.val) * 4096 + j.val = e.val * 4096 + j.val
      omega
    · refine extractStridedSlice_apply (s := S2x32x4096) (t := S1x32x4096) _ _ _ (ix3 (0 : Fin 1) e j) (ix3 (0 : Fin 2) e j) (fun ax => ?_)
      match ax with
      | ⟨0, _⟩ => rfl
      | ⟨1, _⟩ => show e.val = 0 + e.val; omega
      | ⟨2, _⟩ => show j.val = 0 + j.val; omega

/-- The activation at an index. -/
theorem refAct_at (g : FVec Ideal S147456x4096 .f32) (R : Fin 147456) (f : Fin 2048) :
    (refAct g (ix2 R f) : EReal) = act (g (ix2 R (ev f))) (g (ix2 R (od f))) := by
  have hE : Host.slice S147456x2048 ![0, 0] ![1, 2] g slicesBy_S147456x4096_S147456x2048_0s1_0s2 (ix2 R f) = g (ix2 R (ev f)) := by
    refine congrArg g (funext fun ax => Fin.ext ?_)
    match ax with
    | ⟨0, _⟩ => show 0 + 1 * R.val = R.val; omega
    | ⟨1, _⟩ => show 0 + 2 * f.val = 2 * f.val; omega
  have hO : Host.slice S147456x2048 ![0, 1] ![1, 2] g slicesBy_S147456x4096_S147456x2048_0s1_1s2 (ix2 R f) = g (ix2 R (od f)) := by
    refine congrArg g (funext fun ax => Fin.ext ?_)
    match ax with
    | ⟨0, _⟩ => show 0 + 1 * R.val = R.val; omega
    | ⟨1, _⟩ => show 1 + 2 * f.val = 1 + 2 * f.val; rfl
  rw [← hE, ← hO]
  have h1 : (Scalar.ofBits .f32 0x3F800000#32 : Ideal .f32) = (1 : EReal) := Ideal.ofBits_one_f32
  unfold refAct act
  dsimp only
  refine congrArg₂ (fun p q : EReal => p * q) (congrArg₂ (fun p q : EReal => p * q) rfl ?_) rfl
  show FloatOps.hostDivf (Scalar.ofBits .f32 0x3F800000#32 : Ideal .f32) (FloatOps.addf (Scalar.ofBits .f32 0x3F800000#32 : Ideal .f32) (FloatOps.hostUnary .exp (FloatOps.hostNegf _))) = _
  rw [h1]
  rfl

/-- The down projection at an index. -/
theorem refOut_at (h' : FVec Ideal S147456x2048 .f32) (a4 : FVec Ideal S2x32x2048x2048 .f32) (a5 : FVec Ideal S2x32x2048 .f32) (I : IVec S147456x1 32)
    (R : Fin 147456) (e : Fin 32) (h : I (ix2 R (0 : Fin 1)) = BitVec.ofNat 32 e.val) (q : Fin 2048) :
    (refOut h' a4 a5 I (ix2 R q) : EReal)
      = (∑ f : Fin 2048, (h' (ix2 R f) : EReal) * a4 (ix4 (0 : Fin 2) e f q)) + a5 (ix3 (0 : Fin 2) e q) := by
  refine congrArg₂ (fun p q : EReal => p + q) ?_ ?_
  · refine (dot_rows _ none _ _ R q).trans (Finset.sum_congr rfl fun d _ => congrArg (fun z : EReal => (h' (ix2 R d) : EReal) * z) ?_)
    refine (gather_mat _ _ I R d q e h (by decide)).trans ?_
    refine (shapeCast_apply (s := S1x32x2048x2048) (t := S32x2048x2048) _ _ (ix3 e d q) (ix4 (0 : Fin 1) e d q) ?_).trans ?_
    · rw [Shape.rowMajor_val_four, Shape.rowMajor_val_three]
      show ((0 * 32 + e.val) * 2048 + d.val) * 2048 + q.val = (e.val * 2048 + d.val) * 2048 + q.val
      omega
    · refine extractStridedSlice_apply (s := S2x32x2048x2048) (t := S1x32x2048x2048) _ _ _ (ix4 (0 : Fin 1) e d q) (ix4 (0 : Fin 2) e d q) (fun ax => ?_)
      match ax with
      | ⟨0, _⟩ => rfl
      | ⟨1, _⟩ => show e.val = 0 + e.val; omega
      | ⟨2, _⟩ => show d.val = 0 + d.val; omega
      | ⟨3, _⟩ => show q.val = 0 + q.val; omega
  · refine (gather_row gather_S32x2048_S147456x1_S147456x2048_1_0_n_n_0_1_12048 rfl rfl rfl rfl rfl _ I R q e h (by decide)).trans ?_
    refine (shapeCast_apply (s := S1x32x2048) (t := S32x2048) _ _ (ix2 e q) (ix3 (0 : Fin 1) e q) ?_).trans ?_
    · rw [Shape.rowMajor_val_three, Shape.rowMajor_val_two]
      show (0 * 32 + e.val) * 2048 + q.val = e.val * 2048 + q.val
      omega
    · refine extractStridedSlice_apply (s := S2x32x2048) (t := S1x32x2048) _ _ _ (ix3 (0 : Fin 1) e q) (ix3 (0 : Fin 2) e q) (fun ax => ?_)
      match ax with
      | ⟨0, _⟩ => rfl
      | ⟨1, _⟩ => show e.val = 0 + e.val; omega
      | ⟨2, _⟩ => show q.val = 0 + q.val; omega

/-- The reference's result is the answer. -/
theorem ref_answer (m : (ℓ : Loc nD τ sig) → Buf (Elt Ideal) ℓ) (c : Dev nD) (n : ℕ → ℕ)
    (h : ∀ e : Fin 32, (m ((c.tc : Thread nD τ).loc main_arg1) : IVec S32 32) (ix1 e) = BitVec.ofNat 32 (n e.val)) (hs : pre n 32 = 147456) :
    (Cert.Reference2Ideal.Value.res_main_v67 m c : FVec Ideal S2359296x128 .f32)
      = answer (m ((c.tc : Thread nD τ).loc main_arg0)) n (m ((c.tc : Thread nD τ).loc main_arg2)) (m ((c.tc : Thread nD τ).loc main_arg3))
          (m ((c.tc : Thread nD τ).loc main_arg4)) (m ((c.tc : Thread nD τ).loc main_arg5)) := by
  rw [ref_parts]
  funext y
  have y0 : (y 0).val < 2359296 := (y 0).isLt
  have y1 : (y 1).val < 128 := (y 1).isLt
  let R : Fin 147456 := ⟨(y 0).val / 16, by omega⟩
  let q : Fin 2048 := ⟨128 * ((y 0).val % 16) + (y 1).val, by omega⟩
  have hc := refCol_at _ R (expOf n R.val) (refExp_at (m ((c.tc : Thread nD τ).loc main_arg1)) n h hs R)
  refine (shapeCast_apply (s := S147456x2048) (t := S2359296x128) _ _ y (ix2 R q) ?_).trans ?_
  · rw [Shape.rowMajor_val_two, Shape.rowMajor_val_two]
    show (y 0).val / 16 * 2048 + (128 * ((y 0).val % 16) + (y 1).val) = (y 0).val * 128 + (y 1).val
    omega
  · refine (refOut_at _ _ _ _ R (expOf n R.val) hc q).trans ?_
    unfold answer slotRow expert
    refine congrArg₂ (fun p q : EReal => p + q) (Finset.sum_congr rfl fun f _ => ?_) rfl
    refine congrArg₂ (fun p q : EReal => p * q) ((refAct_at _ R f).trans ?_) rfl
    rw [refGu_at _ _ _ _ R (expOf n R.val) hc, refGu_at _ _ _ _ R (expOf n R.val) hc]

end Cert.Gmm

end
-- ==== Proof.QkvValue.lean ====
/-
  The projection to queries, keys and values: each block of the result is a block of rows times a block of columns; beside
  it a slab of the down projection's weights is cast.
-/
module

public import proofs.«01_k».proof.Proof.Gen.Kernel3Ideal.Frame
public import proofs.«01_k».proof.Proof.Gen.Reference3Ideal.Run
public import Idealize.ShloMosaic.Lib.Pipeline.ValueKit
public import Idealize.ShloMosaic.Lib.MatmulPlain
public import Idealize.ShloMosaic.Lib.StackMember
public import Idealize.ShloMosaic.Lib.ValueIdxCore
public import Idealize.ShloMosaic.PureOps.Ideal.Laws

@[expose] public section

set_option maxRecDepth 20000

noncomputable section

namespace Cert.Qkv

open Cert.Kernel3Ideal Cert.Kernel3Ideal.Gen
open Idealize.ShloMosaic hiding ix2
open Idealize.ShloMosaic.TcCoe Idealize.ShloMosaic.Tactic Idealize.ShloMosaic.ValueIdx
open Idealize.SL.Sem
open scoped BigOperators

/-- The rows times the columns. -/
def lin (A : S36864x2048.Idx → EReal) (W : S2048x6144.Idx → EReal) (y : S36864x6144.Idx) : EReal :=
  ∑ d : Fin 2048, A (ix2 (⟨(y 0).val, (y 0).isLt⟩ : Fin 36864) d) * W (ix2 d (⟨(y 1).val, (y 1).isLt⟩ : Fin 6144))

/-- The tokens as rows. -/
abbrev rows (x : S16x2304x2048.Idx → EReal) : S36864x2048.Idx → EReal := shapeCast S36864x2048 x shapeCasts_S16x2304x2048_S36864x2048
/-- The weight. -/
abbrev wt (x : S1x2048x6144.Idx → EReal) : S2048x6144.Idx → EReal := shapeCast S2048x6144 x shapeCasts_S1x2048x6144_S2048x6144
/-- The down projections' weights as rows. -/
abbrev slab (x : S2x32x2048x2048.Idx → EReal) : S131072x2048.Idx → EReal := shapeCast S131072x2048 x shapeCasts_S2x32x2048x2048_S131072x2048

variable (m : (ℓ : Loc nD τ sig) → Buf (Elt Ideal) ℓ)

/-! ## What the call reads -/

theorem V1 (c : Dev nD) : (V m c main_v1 : S36864x2048.Idx → EReal) = rows (m ((c : Thread nD τ).loc main_arg0)) := by
  show (StableHlo.after hostOps0 (fun b => m (c, b)) (Proc.devRef .tc main_v1) : S36864x2048.Idx → EReal) = _
  after_results <;> rfl
theorem V3 (c : Dev nD) : (V m c main_v3 : S2048x6144.Idx → EReal) = wt (m ((c : Thread nD τ).loc main_arg1)) := by
  show (StableHlo.after hostOps0 (fun b => m (c, b)) (Proc.devRef .tc main_v3) : S2048x6144.Idx → EReal) = _
  after_results <;> rfl
theorem V4 (c : Dev nD) : (V m c main_v4 : S131072x2048.Idx → EReal) = slab (m ((c : Thread nD τ).loc main_arg2)) := by
  show (StableHlo.after hostOps0 (fun b => m (c, b)) (Proc.devRef .tc main_v4) : S131072x2048.Idx → EReal) = _
  after_results <;> rfl

/-! ## Where the blocks lie -/

theorem ix_0 : ∀ t : Fin cfg0.N, win0_0.index t = ![t.val / 8, 0] := (by decide +kernel : ∀ t : Fin grid0.N, _)
theorem ix_1 : ∀ t : Fin cfg0.N, win0_1.index t = ![0, t.val % 8] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val / 8, t.val % 8] := (by decide +kernel : ∀ t : Fin grid0.N, _)
theorem ix_4 : ∀ t : Fin cfg0.N, win0_4.index t = ![t.val, 0] := (by decide +kernel : ∀ t : Fin grid0.N, _)

/-- The rows' block at a point. -/
theorem blk0 (c : Dev nD) (t : Fin cfg0.N) (y : S1152x2048.Idx) (z : S36864x2048.Idx)
    (h0 : (z 0).val = t.val / 8 * 1152 + (y 0).val) (h1 : (z 1).val = (y 1).val) :
    (iblk m c 0 t : S1152x2048.Idx → EReal) y = rows (m ((c : Thread nD τ).loc main_arg0)) z := by
  have hi : ∀ a : Fin 2, (win0_0.index t : Fin 2 → ℕ) a = ![t.val / 8, 0] a := fun a => congrFun (ix_0 t) a
  refine Eq.trans ?_ (congrFun (V1 m c) z)
  refine congrArg (V m c main_v1) (funext fun ax => Fin.ext ?_)
  match ax with
  | ⟨0, _⟩ =>
    exact (congrArg (fun k => k * 1152 + 1 * (y 0).val) (hi 0)).trans (by show t.val / 8 * 1152 + 1 * (y 0).val = (z 0).val; omega)
  | ⟨1, _⟩ =>
    exact (congrArg (fun k => k * 2048 + 1 * (y 1).val) (hi 1)).trans (by show 0 * 2048 + 1 * (y 1).val = (z 1).val; omega)

/-- The weight's block at a point. -/
theorem blk1 (c : Dev nD) (t : Fin cfg0.N) (y : S2048x768.Idx) (z : S2048x6144.Idx)
    (h0 : (z 0).val = (y 0).val) (h1 : (z 1).val = t.val % 8 * 768 + (y 1).val) :
    (iblk m c 1 t : S2048x768.Idx → EReal) y = wt (m ((c : Thread nD τ).loc main_arg1)) z := by
  have hi : ∀ a : Fin 2, (win0_1.index t : Fin 2 → ℕ) a = ![0, t.val % 8] a := fun a => congrFun (ix_1 t) a
  refine Eq.trans ?_ (congrFun (V3 m c) z)
  refine congrArg (V m c main_v3) (funext fun ax => Fin.ext ?_)
  match ax with
  | ⟨0, _⟩ =>
    exact (congrArg (fun k => k * 2048 + 1 * (y 0).val) (hi 0)).trans (by show 0 * 2048 + 1 * (y 0).val = (z 0).val; omega)
  | ⟨1, _⟩ =>
    exact (congrArg (fun k => k * 768 + 1 * (y 1).val) (hi 1)).trans (by show t.val % 8 * 768 + 1 * (y 1).val = (z 1).val; omega)

/-- The slab at a point. -/
theorem blk2 (c : Dev nD) (t : Fin cfg0.N) (y : S512x2048.Idx) (z : S131072x2048.Idx)
    (h0 : (z 0).val = t.val * 512 + (y 0).val) (h1 : (z 1).val = (y 1).val) :
    (iblk m c 2 t : S512x2048.Idx → EReal) y = slab (m ((c : Thread nD τ).loc main_arg2)) z := by
  have hi : ∀ a : Fin 2, (win0_2.index t : Fin 2 → ℕ) a = ![t.val, 0] a := fun a => congrFun (ix_2 t) a
  refine Eq.trans ?_ (congrFun (V4 m c) z)
  refine congrArg (V m c main_v4) (funext fun ax => Fin.ext ?_)
  match ax with
  | ⟨0, _⟩ =>
    exact (congrArg (fun k => k * 512 + 1 * (y 0).val) (hi 0)).trans (by show t.val * 512 + 1 * (y 0).val = (z 0).val; omega)
  | ⟨1, _⟩ =>
    exact (congrArg (fun k => k * 2048 + 1 * (y 1).val) (hi 1)).trans (by show 0 * 2048 + 1 * (y 1).val = (z 1).val; omega)

/-! ## What the body leaves -/

/-- The product of two blocks, at an index. -/
theorem pay1_at (x : Vec Ideal S1152x2048 .bf16) (w : Vec Ideal S2048x768 .bf16) (a : Fin 1152) (b : Fin 768) :
    (k0_pay1 x w (ix2 a b) : EReal) = ∑ d : Fin 2048, (x (ix2 a d) : EReal) * w (ix2 d b) := by
  unfold k0_pay1
  refine (Ideal.matmul_plain_apply (M := 1152) (K := 2048) (N := 768) none _ _ _ a b).trans ?_
  rw [show (constant (F := Ideal) S1152x768 .f32 0x00000000#32 (ix2 a b) : EReal) = 0 from Ideal.ofBits_zero_f32, zero_add]
  refine Finset.sum_congr rfl fun d _ => congrArg₂ (fun y z : EReal => y * z) ?_ ?_
  · exact congrFun (shapeCast_self x _) (ix2 a d)
  · exact congrFun (shapeCast_self w _) (ix2 d b)

/-- The product's block. -/
theorem out3_at (x0 : Vec Ideal S1152x2048 .bf16) (x1 : Vec Ideal S2048x768 .bf16) (x2 : Vec Ideal S512x2048 .f32) (a : Fin 1152) (b : Fin 768) :
    (out0_3 x0 x1 x2 (ix2 a b) : EReal) = ∑ d : Fin 2048, (x0 (ix2 a d) : EReal) * x1 (ix2 d b) := by
  rw [show out0_3 x0 x1 x2 = k0_pay1 x0 x1 by frame_out]
  exact pay1_at x0 x1 a b

/-- The slab, cast. -/
theorem out4_at (x0 : Vec Ideal S1152x2048 .bf16) (x1 : Vec Ideal S2048x768 .bf16) (x2 : Vec Ideal S512x2048 .f32) (y : S512x2048.Idx) :
    (out0_4 x0 x1 x2 y : EReal) = x2 y := by
  rw [show out0_4 x0 x1 x2 = k0_pay2 x2 by frame_out]
  unfold k0_pay2
  exact congrFun (shapeCast_self x2 _) y

/-- The two results' blocks, at an element of the arrays. -/
theorem left3 (c : Dev nD) (t : Fin cfg0.N) (y : S1152x768.Idx) (z : S36864x6144.Idx)
    (h0 : (z 0).val = t.val / 8 * 1152 + (y 0).val) (h1 : (z 1).val = t.val % 8 * 768 + (y 1).val) :
    (out0_3 (iblk m c 0 t) (iblk m c 1 t) (iblk m c 2 t) y : EReal)
      = lin (rows (m ((c : Thread nD τ).loc main_arg0))) (wt (m ((c : Thread nD τ).loc main_arg1))) z := by
  have e : y = ix2 (⟨(y 0).val, (y 0).isLt⟩ : Fin 1152) (⟨(y 1).val, (y 1).isLt⟩ : Fin 768) := by
    funext ax
    match ax with
    | ⟨0, _⟩ => rfl
    | ⟨1, _⟩ => rfl
  rw [e]
  refine (out3_at _ _ _ _ _).trans (Finset.sum_congr rfl fun d _ => congrArg₂ (fun p q : EReal => p * q) ?_ ?_)
  · exact blk0 m c t _ _ h0 rfl
  · exact blk1 m c t _ _ rfl h1

theorem left4 (c : Dev nD) (t : Fin cfg0.N) (y : S512x2048.Idx) (z : S131072x2048.Idx)
    (h0 : (z 0).val = t.val * 512 + (y 0).val) (h1 : (z 1).val = (y 1).val) :
    (out0_4 (iblk m c 0 t) (iblk m c 1 t) (iblk m c 2 t) y : EReal) = slab (m ((c : Thread nD τ).loc main_arg2)) z :=
  (out4_at _ _ _ y).trans (blk2 m c t y z h0 h1)

/-! ## The arrays at the end -/

/-- Where the product's block lies. -/
theorem emb3 (t : Fin cfg0.N) (y : S1152x768.Idx) :
    (((win0_3.blk t).view.emb y : S36864x6144.Idx) 0).val = t.val / 8 * 1152 + (y 0).val
      ∧ (((win0_3.blk t).view.emb y : S36864x6144.Idx) 1).val = t.val % 8 * 768 + (y 1).val := by
  have hi : ∀ a : Fin 2, (win0_3.index t : Fin 2 → ℕ) a = ![t.val / 8, t.val % 8] a := fun a => congrFun (ix_3 t) a
  constructor
  · exact (congrArg (fun k => k * 1152 + 1 * (y 0).val) (hi 0)).trans
      (by show t.val / 8 * 1152 + 1 * (y 0).val = t.val / 8 * 1152 + (y 0).val; omega)
  · exact (congrArg (fun k => k * 768 + 1 * (y 1).val) (hi 1)).trans
      (by show t.val % 8 * 768 + 1 * (y 1).val = t.val % 8 * 768 + (y 1).val; omega)

/-- Where the slab's cast lies. -/
theorem emb4 (t : Fin cfg0.N) (y : S512x2048.Idx) :
    (((win0_4.blk t).view.emb y : S131072x2048.Idx) 0).val = t.val * 512 + (y 0).val
      ∧ (((win0_4.blk t).view.emb y : S131072x2048.Idx) 1).val = (y 1).val := by
  have hi : ∀ a : Fin 2, (win0_4.index t : Fin 2 → ℕ) a = ![t.val, 0] a := fun a => congrFun (ix_4 t) a
  constructor
  · exact (congrArg (fun k => k * 512 + 1 * (y 0).val) (hi 0)).trans
      (by show t.val * 512 + 1 * (y 0).val = t.val * 512 + (y 0).val; omega)
  · exact (congrArg (fun k => k * 2048 + 1 * (y 1).val) (hi 1)).trans (by show 0 * 2048 + 1 * (y 1).val = (y 1).val; omega)

theorem point3 (c : Dev nD) (t : Fin cfg0.N) (y : S1152x768.Idx) :
    ((dats m 0 c).after 3 t y : EReal)
      = lin (rows (m ((c : Thread nD τ).loc main_arg0))) (wt (m ((c : Thread nD τ).loc main_arg1))) ((win0_3.blk t).view.emb y : S36864x6144.Idx) :=
  (congrFun (after0_3 m c t) y).trans (left3 m c t y _ (emb3 t y).1 (emb3 t y).2)

theorem point4 (c : Dev nD) (t : Fin cfg0.N) (y : S512x2048.Idx) :
    ((dats m 0 c).after 4 t y : EReal) = slab (m ((c : Thread nD τ).loc main_arg2)) ((win0_4.blk t).view.emb y : S131072x2048.Idx) :=
  (congrFun (after0_4 m c t) y).trans (left4 m c t y _ (emb4 t y).1 (emb4 t y).2)

/-- The projection. -/
theorem arr3 (c : Dev nD) : ((dats m 0 c).arrAt 3 cfg0.N : S36864x6144.Idx → EReal)
    = lin (rows (m ((c : Thread nD τ).loc main_arg0))) (wt (m ((c : Thread nD τ).loc main_arg1))) :=
  (dats m 0 c).arrAt_eq_of_covers 3 (lin (rows (m ((c : Thread nD τ).loc main_arg0))) (wt (m ((c : Thread nD τ).loc main_arg1))))
    (by decide +kernel) fun t _ y => point3 m c t y

/-- The cast weights. -/
theorem arr4 (c : Dev nD) : ((dats m 0 c).arrAt 4 cfg0.N : S131072x2048.Idx → EReal) = slab (m ((c : Thread nD τ).loc main_arg2)) :=
  (dats m 0 c).arrAt_eq_of_covers 4 (slab (m ((c : Thread nD τ).loc main_arg2))) (by decide +kernel) fun t _ y => point4 m c t y

/-! ## The runs -/

/-- The call's run. -/
theorem run (ρ : Dev nD → PrngReg) : θ_run defs (onTc (τ := τ) (main (F := Ideal))) ⟨m, fun _ => 0, ρ⟩ fun r => ∀ c : Dev nD,
      (r.2.mem ((c.tc : Thread nD τ).loc main_v5_0) : S36864x6144.Idx → EReal)
          = lin (rows (m ((c.tc : Thread nD τ).loc main_arg0))) (wt (m ((c.tc : Thread nD τ).loc main_arg1)))
      ∧ (r.2.mem ((c.tc : Thread nD τ).loc main_v5_1) : S131072x2048.Idx → EReal) = slab (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (arr3 m c), ((h.1 c).1 4).trans (arr4 m c), h.2 c⟩)
    (θ_run_and (run_main m ρ) (unchanged m ρ))

/-- The reference's product is the same. -/
theorem ref_lin (A : FVec Ideal S36864x2048 .f32) (W : FVec Ideal S2048x6144 .f32) :
    (truncf .bf16 (Host.dotGeneral (DotDims.plain 36864 2048 6144) none A W : FVec Ideal S36864x6144 .f32) Cert.Reference3Ideal.Gen.bitsLt_bf16_f32
      : S36864x6144.Idx → EReal) = lin A W := by
  funext y
  have e : y = ix2 (⟨(y 0).val, (y 0).isLt⟩ : Fin 36864) (⟨(y 1).val, (y 1).isLt⟩ : Fin 6144) := by
    funext ax
    match ax with
    | ⟨0, _⟩ => rfl
    | ⟨1, _⟩ => rfl
  refine Eq.trans (congrArg (Host.dotGeneral (DotDims.plain 36864 2048 6144) none A W : S36864x6144.Idx → EReal) e) ?_
  exact StackMember.dotGeneral_plain_apply none A W _ _

end Cert.Qkv

end
-- ==== Proof.MatmulValue.lean ====
/-
  The recurrent mixer's first projection: each block of the result is a block of rows times a block of columns, plus the bias.
-/
module

public import proofs.«01_k».proof.Proof.Gen.Kernel4
public import proofs.«01_k».proof.Proof.Gen.Kernel4Ideal.Frame
public import proofs.«01_k».proof.Proof.Gen.Reference4Ideal.Run
public import Idealize.ShloMosaic.Lib.Pipeline.ValueKit
public import Idealize.ShloMosaic.Lib.MatmulPlain
public import Idealize.ShloMosaic.Lib.StackMember
public import Idealize.ShloMosaic.Lib.ValueIdxCore
public import Idealize.ShloMosaic.PureOps.Ideal.Laws

@[expose] public section

set_option maxRecDepth 20000

noncomputable section

namespace Cert.Mm

open Cert.Kernel4Ideal Cert.Kernel4Ideal.Gen
open Idealize.ShloMosaic hiding ix2 ix1
open Idealize.ShloMosaic.TcCoe Idealize.ShloMosaic.Tactic Idealize.ShloMosaic.ValueIdx
open Idealize.SL.Sem
open scoped BigOperators

/-- The rows times the columns, plus the bias. -/
def lin (A : S36864x2048.Idx → EReal) (W : S2048x2048.Idx → EReal) (b : S2048.Idx → EReal) (y : S36864x2048.Idx) : EReal :=
  (∑ d : Fin 2048, A (ix2 (⟨(y 0).val, (y 0).isLt⟩ : Fin 36864) d) * W (ix2 d (⟨(y 1).val, (y 1).isLt⟩ : Fin 2048)))
    + b (ix1 (⟨(y 1).val, (y 1).isLt⟩ : Fin 2048))

/-- The tokens as rows. -/
abbrev rows (x : S16x2304x2048.Idx → EReal) : S36864x2048.Idx → EReal := shapeCast S36864x2048 x shapeCasts_S16x2304x2048_S36864x2048
/-- The weight. -/
abbrev wt (x : S1x2048x2048.Idx → EReal) : S2048x2048.Idx → EReal := shapeCast S2048x2048 x shapeCasts_S1x2048x2048_S2048x2048
/-- The bias. -/
abbrev bias (x : S1x2048.Idx → EReal) : S2048.Idx → EReal := shapeCast S2048 x shapeCasts_S1x2048_S2048

/-- An index is its two coordinates. -/
theorem at_ix2 {n0 n1 : ℕ} (y : (⟨2, ![n0, n1]⟩ : Shape).Idx) : y = ix2 (⟨(y 0).val, (y 0).isLt⟩ : Fin n0) (⟨(y 1).val, (y 1).isLt⟩ : Fin n1) := by
  funext ax
  match ax with
  | ⟨0, _⟩ => rfl
  | ⟨1, _⟩ => rfl

/-- The product of two blocks plus the bias, at an index. -/
theorem lin_at (x : FVec Ideal S1024x2048 .bf16) (w : FVec Ideal S2048x512 .bf16) (b : FVec Ideal S1x512 .f32) (p : Fin 1024) (q : Fin 512) :
    (addf (F := Ideal) (matmul dot_S1024x2048_S2048x512_S1024x512_1_0_0_1_n_n none
          (shapeCast S1024x2048 x shapeCasts_S1024x2048_S1024x2048 : FVec Ideal S1024x2048 .bf16)
          (shapeCast S2048x512 w shapeCasts_S2048x512_S2048x512 : FVec Ideal S2048x512 .bf16)
          (constant S1024x512 .f32 0x00000000#32))
        (broadcastTo S1024x512 (shapeCast S1x512 b shapeCasts_S1x512_S1x512 : FVec Ideal S1x512 .f32) broadcasts_S1x512_S1024x512) (ix2 p q) : EReal)
      = (∑ d : Fin 2048, (x (ix2 p d) : EReal) * w (ix2 d q)) + b (ix2 (0 : Fin 1) q) := by
  have e1 : (FloatOps.matmul (DotDims.plain 1024 2048 512) none
          (shapeCast S1024x2048 x shapeCasts_S1024x2048_S1024x2048 : FVec Ideal S1024x2048 .bf16)
          (shapeCast S2048x512 w shapeCasts_S2048x512_S2048x512 : FVec Ideal S2048x512 .bf16)
          (constant S1024x512 .f32 0x00000000#32) (ix2 p q) : EReal) = ∑ d : Fin 2048, (x (ix2 p d) : EReal) * w (ix2 d q) := by
    refine (Ideal.matmul_plain_apply none _ _ _ p q).trans ?_
    rw [show (constant (F := Ideal) S1024x512 .f32 0x00000000#32 (ix2 p q) : EReal) = 0 from Ideal.ofBits_zero_f32, zero_add]
    refine Finset.sum_congr rfl fun d _ => congrArg₂ (fun y z : EReal => y * z) ?_ ?_
    · exact congrFun (shapeCast_self x _) (ix2 p d)
    · exact congrFun (shapeCast_self w _) (ix2 d q)
  have e2 : (broadcastTo S1024x512 (shapeCast S1x512 b shapeCasts_S1x512_S1x512 : FVec Ideal S1x512 .f32) broadcasts_S1x512_S1024x512 (ix2 p q) : EReal)
      = b (ix2 (0 : Fin 1) q) := by
    refine (broadcastTo_apply (s := S1x512) (t := S1024x512) _ _ (ix2 p q) (ix2 (0 : Fin 1) q) (fun ax => ?_)).trans
      (congrFun (shapeCast_self b _) (ix2 (0 : Fin 1) q))
    match ax with
    | ⟨0, _⟩ => rfl
    | ⟨1, _⟩ => rfl
  exact congrArg₂ (fun y z : EReal => y + z) e1 e2

/-- The reference's product plus its bias is the same. -/
theorem ref_lin (A : FVec Ideal S36864x2048 .f32) (W : FVec Ideal S2048x2048 .f32) (b : FVec Ideal S2048 .f32) :
    (addf (F := Ideal) (Host.dotGeneral (DotDims.plain 36864 2048 2048) none A W : FVec Ideal S36864x2048 .f32)
        (broadcastInDim S36864x2048 ![0, 1] Cert.Reference4Ideal.Gen.bcast_S1x2048_S36864x2048_0_1
          (broadcastInDim S1x2048 ![1] Cert.Reference4Ideal.Gen.bcast_S2048_S1x2048_1 b) : FVec Ideal S36864x2048 .f32)
      : S36864x2048.Idx → EReal) = lin A W b := by
  funext y
  refine congrArg₂ (fun p q : EReal => p + q) ?_ ?_
  · refine Eq.trans (congrArg (Host.dotGeneral (DotDims.plain 36864 2048 2048) none A W : S36864x2048.Idx → EReal) (at_ix2 y)) ?_
    exact StackMember.dotGeneral_plain_apply none A W _ _
  · refine (broadcastInDim_apply (s := S1x2048) (t := S36864x2048) ![0, 1] _ _ y (ix2 (0 : Fin 1) (⟨(y 1).val, (y 1).isLt⟩ : Fin 2048)) (fun ax => ?_)).trans
      (broadcastInDim_apply (s := S2048) (t := S1x2048) ![1] _ b _ (ix1 (⟨(y 1).val, (y 1).isLt⟩ : Fin 2048)) (fun ax => ?_))
    · match ax with
      | ⟨0, _⟩ => rfl
      | ⟨1, _⟩ => rfl
    · match ax with
      | ⟨0, _⟩ => rfl

variable (m : (ℓ : Loc nD τ sig) → Buf (Elt Ideal) ℓ)

/-! ## What the call reads -/

theorem V1 (c : Dev nD) : (V m c main_v1 : S36864x2048.Idx → EReal) = rows (m ((c : Thread nD τ).loc main_arg0)) := by
  show (StableHlo.after hostOps0 (fun b => m (c, b)) (Proc.devRef .tc main_v1) : S36864x2048.Idx → EReal) = _
  after_results <;> rfl
theorem V3 (c : Dev nD) : (V m c main_v3 : S2048x2048.Idx → EReal) = wt (m ((c : Thread nD τ).loc main_arg1)) := by
  show (StableHlo.after hostOps0 (fun b => m (c, b)) (Proc.devRef .tc main_v3) : S2048x2048.Idx → EReal) = _
  after_results <;> rfl
theorem V5 (c : Dev nD) : (V m c main_v5 : S1x2048.Idx → EReal)
    = shapeCast S1x2048 (bias (m ((c : Thread nD τ).loc main_arg2))) shapeCasts_S2048_S1x2048 := by
  show (StableHlo.after hostOps0 (fun b => m (c, b)) (Proc.devRef .tc main_v5) : S1x2048.Idx → EReal) = _
  after_results <;> rfl

/-! ## Where the blocks lie -/

theorem ix_0 : ∀ t : Fin cfg0.N, win0_0.index t = ![t.val / 4, 0] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![0, t.val % 4] := (by decide +kernel : ∀ t : Fin grid0.N, _)
theorem ix_3 : ∀ t : Fin cfg0.N, win0_3.index t = ![t.val / 4, t.val % 4] := (by decide +kernel : ∀ t : Fin grid0.N, _)

/-- The rows' block at a point. -/
theorem blk0 (c : Dev nD) (t : Fin cfg0.N) (y : S1024x2048.Idx) (z : S36864x2048.Idx)
    (h0 : (z 0).val = t.val / 4 * 1024 + (y 0).val) (h1 : (z 1).val = (y 1).val) :
    (iblk m c 0 t : S1024x2048.Idx → EReal) y = rows (m ((c : Thread nD τ).loc main_arg0)) z := by
  have hi : ∀ a : Fin 2, (win0_0.index t : Fin 2 → ℕ) a = ![t.val / 4, 0] a := fun a => congrFun (ix_0 t) a
  refine Eq.trans ?_ (congrFun (V1 m c) z)
  refine congrArg (V m c main_v1) (funext fun ax => Fin.ext ?_)
  match ax with
  | ⟨0, _⟩ =>
    exact (congrArg (fun k => k * 1024 + 1 * (y 0).val) (hi 0)).trans (by show t.val / 4 * 1024 + 1 * (y 0).val = (z 0).val; omega)
  | ⟨1, _⟩ =>
    exact (congrArg (fun k => k * 2048 + 1 * (y 1).val) (hi 1)).trans (by show 0 * 2048 + 1 * (y 1).val = (z 1).val; omega)

/-- The weight's block at a point. -/
theorem blk1 (c : Dev nD) (t : Fin cfg0.N) (y : S2048x512.Idx) (z : S2048x2048.Idx)
    (h0 : (z 0).val = (y 0).val) (h1 : (z 1).val = t.val % 4 * 512 + (y 1).val) :
    (iblk m c 1 t : S2048x512.Idx → EReal) y = wt (m ((c : Thread nD τ).loc main_arg1)) z := by
  have hi : ∀ a : Fin 2, (win0_1.index t : Fin 2 → ℕ) a = ![0, t.val % 4] a := fun a => congrFun (ix_1 t) a
  refine Eq.trans ?_ (congrFun (V3 m c) z)
  refine congrArg (V m c main_v3) (funext fun ax => Fin.ext ?_)
  match ax with
  | ⟨0, _⟩ =>
    exact (congrArg (fun k => k * 2048 + 1 * (y 0).val) (hi 0)).trans (by show 0 * 2048 + 1 * (y 0).val = (z 0).val; omega)
  | ⟨1, _⟩ =>
    exact (congrArg (fun k => k * 512 + 1 * (y 1).val) (hi 1)).trans (by show t.val % 4 * 512 + 1 * (y 1).val = (z 1).val; omega)

/-- The bias's block at a point, in the row the call reads; -/
theorem blk2_row (c : Dev nD) (t : Fin cfg0.N) (y : S1x512.Idx) (z : S1x2048.Idx)
    (h0 : (z 0).val = (y 0).val) (h1 : (z 1).val = t.val % 4 * 512 + (y 1).val) :
    (iblk m c 2 t : S1x512.Idx → EReal) y = (V m c main_v5 : S1x2048.Idx → EReal) z := by
  have hi : ∀ a : Fin 2, (win0_2.index t : Fin 2 → ℕ) a = ![0, t.val % 4] a := fun a => congrFun (ix_2 t) a
  refine congrArg (V m c main_v5) (funext fun ax => Fin.ext ?_)
  match ax with
  | ⟨0, _⟩ =>
    exact (congrArg (fun k => k * 1 + 1 * (y 0).val) (hi 0)).trans (by show 0 * 1 + 1 * (y 0).val = (z 0).val; omega)
  | ⟨1, _⟩ =>
    exact (congrArg (fun k => k * 512 + 1 * (y 1).val) (hi 1)).trans (by show t.val % 4 * 512 + 1 * (y 1).val = (z 1).val; omega)

/-- the row at an index; -/
theorem row_at (b : S2048.Idx → EReal) (z : Fin 2048) : shapeCast S1x2048 b shapeCasts_S2048_S1x2048 (ix2 (0 : Fin 1) z) = b (ix1 z) := by
  refine shapeCast_apply (s := S2048) (t := S1x2048) _ _ (ix2 (0 : Fin 1) z) (ix1 z) ?_
  rw [Shape.rowMajor_val_one, Shape.rowMajor_val_two]
  show z.val = 0 * 2048 + z.val
  omega

/-- so the bias's block at a point. -/
theorem blk2 (c : Dev nD) (t : Fin cfg0.N) (q : Fin 512) (z : Fin 2048) (h1 : z.val = t.val % 4 * 512 + q.val) :
    (iblk m c 2 t : S1x512.Idx → EReal) (ix2 (0 : Fin 1) q) = bias (m ((c : Thread nD τ).loc main_arg2)) (ix1 z) :=
  (blk2_row m c t (ix2 (0 : Fin 1) q) (ix2 (0 : Fin 1) z) rfl h1).trans ((congrFun (V5 m c) (ix2 (0 : Fin 1) z)).trans (row_at _ z))

/-! ## What the body leaves -/

/-- The result's block. -/
theorem out3_at (x0 : Vec Ideal S1024x2048 .bf16) (x1 : Vec Ideal S2048x512 .bf16) (x2 : Vec Ideal S1x512 .f32) (a : Fin 1024) (b : Fin 512) :
    (out0_3 x0 x1 x2 (ix2 a b) : EReal) = ((∑ d : Fin 2048, (x0 (ix2 a d) : EReal) * x1 (ix2 d b)) + x2 (ix2 (0 : Fin 1) b)) := by
  rw [show out0_3 x0 x1 x2 = k0_pay1 x0 x1 x2 by frame_out]
  rw [← lin_at x0 x1 x2 a b]
  rfl

/-- The result's block, at an element of the array. -/
theorem left3 (c : Dev nD) (t : Fin cfg0.N) (y : S1024x512.Idx) (z : S36864x2048.Idx)
    (h0 : (z 0).val = t.val / 4 * 1024 + (y 0).val) (h1 : (z 1).val = t.val % 4 * 512 + (y 1).val) :
    (out0_3 (iblk m c 0 t) (iblk m c 1 t) (iblk m c 2 t) y : EReal)
      = lin (rows (m ((c : Thread nD τ).loc main_arg0))) (wt (m ((c : Thread nD τ).loc main_arg1))) (bias (m ((c : Thread nD τ).loc main_arg2))) z := by
  rw [at_ix2 y]
  refine (out3_at _ _ _ _ _).trans (congrArg (fun p : EReal => p) (congrArg₂ (fun p q : EReal => p + q)
    (Finset.sum_congr rfl fun d _ => congrArg₂ (fun p q : EReal => p * q) ?_ ?_) ?_))
  · exact blk0 m c t _ _ h0 rfl
  · exact blk1 m c t _ _ rfl h1
  · exact blk2 m c t _ _ h1

/-! ## The array at the end -/

/-- Where the result's block lies. -/
theorem emb3 (t : Fin cfg0.N) (y : S1024x512.Idx) :
    (((win0_3.blk t).view.emb y : S36864x2048.Idx) 0).val = t.val / 4 * 1024 + (y 0).val
      ∧ (((win0_3.blk t).view.emb y : S36864x2048.Idx) 1).val = t.val % 4 * 512 + (y 1).val := by
  have hi : ∀ a : Fin 2, (win0_3.index t : Fin 2 → ℕ) a = ![t.val / 4, t.val % 4] a := fun a => congrFun (ix_3 t) a
  constructor
  · exact (congrArg (fun k => k * 1024 + 1 * (y 0).val) (hi 0)).trans
      (by show t.val / 4 * 1024 + 1 * (y 0).val = t.val / 4 * 1024 + (y 0).val; omega)
  · exact (congrArg (fun k => k * 512 + 1 * (y 1).val) (hi 1)).trans
      (by show t.val % 4 * 512 + 1 * (y 1).val = t.val % 4 * 512 + (y 1).val; omega)

theorem point3 (c : Dev nD) (t : Fin cfg0.N) (y : S1024x512.Idx) :
    ((dats m 0 c).after 3 t y : EReal)
      = lin (rows (m ((c : Thread nD τ).loc main_arg0))) (wt (m ((c : Thread nD τ).loc main_arg1))) (bias (m ((c : Thread nD τ).loc main_arg2)))
          ((win0_3.blk t).view.emb y : S36864x2048.Idx) :=
  (congrFun (after0_3 m c t) y).trans (left3 m c t y _ (emb3 t y).1 (emb3 t y).2)

/-- The result. -/
theorem arr3 (c : Dev nD) : ((dats m 0 c).arrAt 3 cfg0.N : S36864x2048.Idx → EReal)
    = lin (rows (m ((c : Thread nD τ).loc main_arg0))) (wt (m ((c : Thread nD τ).loc main_arg1))) (bias (m ((c : Thread nD τ).loc main_arg2))) :=
  (dats m 0 c).arrAt_eq_of_covers 3
    (lin (rows (m ((c : Thread nD τ).loc main_arg0))) (wt (m ((c : Thread nD τ).loc main_arg1))) (bias (m ((c : Thread nD τ).loc main_arg2))))
    (by decide +kernel) fun t _ y => point3 m c t y

/-! ## The runs -/

/-- The call's run. -/
theorem run (ρ : Dev nD → PrngReg) : θ_run defs (onTc (τ := τ) (main (F := Ideal))) ⟨m, fun _ => 0, ρ⟩ fun r => ∀ c : Dev nD,
      (r.2.mem ((c.tc : Thread nD τ).loc main_v6) : S36864x2048.Idx → EReal)
          = lin (rows (m ((c.tc : Thread nD τ).loc main_arg0))) (wt (m ((c.tc : Thread nD τ).loc main_arg1))) (bias (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (arr3 m c), h.2 c⟩) (θ_run_and (run_main m ρ) (unchanged m ρ))

section
variable {F : FTy → Type} [FloatOps F]

/-- The two printings of the call have one body table; -/
theorem defs₀_eq : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | 0, (t, s) => rfl

/-- so one table of procedures; -/
theorem defs_eq : Cert.Kernel4.defs (F := F) = Cert.Kernel4Ideal.defs (F := F) :=
  congrArg (Pipeline.defs Cert.Kernel4Ideal.pcfgs) defs₀_eq

/-- and a run of the one is a run of the other. -/
theorem run_eq (m : (ℓ : Loc nD τ sig) → Buf (Elt F) ℓ) (g : Dev nD → PrngReg) (Q : PUnit × MemSt nD τ sig (Elt F) → Prop) :
    θ_run (Cert.Kernel4.defs (F := F)) (onTc (τ := Cert.Kernel4.τ) (Cert.Kernel4.main (F := F))) ⟨m, fun _ => 0, g⟩ Q
      = θ_run (Cert.Kernel4Ideal.defs (F := F)) (onTc (τ := Cert.Kernel4Ideal.τ) (Cert.Kernel4Ideal.main (F := F))) ⟨m, fun _ => 0, g⟩ Q := by
  rw [defs_eq]; rfl

end

/-- The reference's run. -/
theorem ref_run (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩ fun r => ∀ c : Dev Cert.Reference4Ideal.nD,
      (r.2.mem ((c.tc : Thread Cert.Reference4Ideal.nD Cert.Reference4Ideal.τ).loc Cert.Reference4Ideal.main_v6) : S36864x2048.Idx → EReal)
          = lin (rows (m ((c.tc : Thread Cert.Reference4Ideal.nD Cert.Reference4Ideal.τ).loc Cert.Reference4Ideal.main_arg0)))
              (wt (m ((c.tc : Thread Cert.Reference4Ideal.nD Cert.Reference4Ideal.τ).loc Cert.Reference4Ideal.main_arg1)))
              (bias (m ((c.tc : Thread Cert.Reference4Ideal.nD Cert.Reference4Ideal.τ).loc Cert.Reference4Ideal.main_arg2)))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2) :=
  (θ_run Cert.Reference4Ideal.defs _ _).mono (fun _ h c => ⟨(h c).1.trans (ref_lin _ _ _), (h c).2⟩) (Cert.Reference4Ideal.Value.run (F := Ideal) m ρ)

end Cert.Mm

end
-- ==== Proof.GeluValue.lean ====
/-
  The recurrent mixer's gate branch: the same product (Proof/MatmulValue.lean), through the approximate GELU.
-/
module

public import proofs.«01_k».proof.Proof.Gen.Kernel5
public import proofs.«01_k».proof.Proof.Gen.Kernel5Ideal.Frame
public import proofs.«01_k».proof.Proof.Gen.Reference5Ideal.Run
public import proofs.«01_k».proof.Proof.MatmulValue
public import Idealize.ShloMosaic.Lib.Pipeline.ValueKit
public import Idealize.ShloMosaic.Lib.MatmulPlain
public import Idealize.ShloMosaic.Lib.StackMember
public import Idealize.ShloMosaic.Lib.ValueIdxCore
public import Idealize.ShloMosaic.PureOps.Ideal.Laws

@[expose] public section

set_option maxRecDepth 20000

noncomputable section

namespace Cert.Gelu

open Cert.Kernel5Ideal Cert.Kernel5Ideal.Gen
open Idealize.ShloMosaic hiding ix2 ix1
open Idealize.ShloMosaic.TcCoe Idealize.ShloMosaic.Tactic Idealize.ShloMosaic.ValueIdx
open Idealize.SL.Sem
open scoped BigOperators

/-- The approximate GELU, as `jax.nn.gelu` writes it. -/
def gelu (z : EReal) : EReal :=
  z * ((Scalar.ofBits (F := Ideal) .f32 0x3F000000#32 : EReal) * ((Scalar.ofBits (F := Ideal) .f32 0x3F800000#32 : EReal)
    + (FloatOps.tanh (F := Ideal) (φ := .f32) ((Scalar.ofBits (F := Ideal) .f32 0x3F4C422A#32 : EReal)
        * (z + (Scalar.ofBits (F := Ideal) .f32 0x3D372713#32 : EReal) * (z * z * z)) : EReal) : EReal)))

/-- The kernel writes its factors in another order. -/
theorem gelu_eq (z : EReal) : ((Scalar.ofBits (F := Ideal) .f32 0x3F000000#32 : EReal) * z) * ((Scalar.ofBits (F := Ideal) .f32 0x3F800000#32 : EReal)
    + (FloatOps.tanh (F := Ideal) (φ := .f32) ((Scalar.ofBits (F := Ideal) .f32 0x3F4C422A#32 : EReal)
        * (z + (Scalar.ofBits (F := Ideal) .f32 0x3D372713#32 : EReal) * (z * z * z)) : EReal) : EReal)) = gelu z := by
  unfold gelu
  rw [mul_comm (Scalar.ofBits (F := Ideal) .f32 0x3F000000#32 : EReal) z, mul_assoc]

/-- The projection, through the GELU. -/
def gated (A : S36864x2048.Idx → EReal) (W : S2048x2048.Idx → EReal) (b : S2048.Idx → EReal) (y : S36864x2048.Idx) : EReal :=
  gelu (Mm.lin A W b y)

variable (m : (ℓ : Loc nD τ sig) → Buf (Elt Ideal) ℓ)

/-! ## What the call reads -/

theorem V1 (c : Dev nD) : (V m c main_v1 : S36864x2048.Idx → EReal) = Mm.rows (m ((c : Thread nD τ).loc main_arg0)) := by
  show (StableHlo.after hostOps0 (fun b => m (c, b)) (Proc.devRef .tc main_v1) : S36864x2048.Idx → EReal) = _
  after_results <;> rfl
theorem V3 (c : Dev nD) : (V m c main_v3 : S2048x2048.Idx → EReal) = Mm.wt (m ((c : Thread nD τ).loc main_arg1)) := by
  show (StableHlo.after hostOps0 (fun b => m (c, b)) (Proc.devRef .tc main_v3) : S2048x2048.Idx → EReal) = _
  after_results <;> rfl
theorem V5 (c : Dev nD) : (V m c main_v5 : S1x2048.Idx → EReal)
    = shapeCast S1x2048 (Mm.bias (m ((c : Thread nD τ).loc main_arg2))) shapeCasts_S2048_S1x2048 := by
  show (StableHlo.after hostOps0 (fun b => m (c, b)) (Proc.devRef .tc main_v5) : S1x2048.Idx → EReal) = _
  after_results <;> rfl

/-! ## Where the blocks lie -/

theorem ix_0 : ∀ t : Fin cfg0.N, win0_0.index t = ![t.val / 4, 0] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![0, t.val % 4] := (by decide +kernel : ∀ t : Fin grid0.N, _)
theorem ix_3 : ∀ t : Fin cfg0.N, win0_3.index t = ![t.val / 4, t.val % 4] := (by decide +kernel : ∀ t : Fin grid0.N, _)

/-- The rows' block at a point. -/
theorem blk0 (c : Dev nD) (t : Fin cfg0.N) (y : S1024x2048.Idx) (z : S36864x2048.Idx)
    (h0 : (z 0).val = t.val / 4 * 1024 + (y 0).val) (h1 : (z 1).val = (y 1).val) :
    (iblk m c 0 t : S1024x2048.Idx → EReal) y = Mm.rows (m ((c : Thread nD τ).loc main_arg0)) z := by
  have hi : ∀ a : Fin 2, (win0_0.index t : Fin 2 → ℕ) a = ![t.val / 4, 0] a := fun a => congrFun (ix_0 t) a
  refine Eq.trans ?_ (congrFun (V1 m c) z)
  refine congrArg (V m c main_v1) (funext fun ax => Fin.ext ?_)
  match ax with
  | ⟨0, _⟩ =>
    exact (congrArg (fun k => k * 1024 + 1 * (y 0).val) (hi 0)).trans (by show t.val / 4 * 1024 + 1 * (y 0).val = (z 0).val; omega)
  | ⟨1, _⟩ =>
    exact (congrArg (fun k => k * 2048 + 1 * (y 1).val) (hi 1)).trans (by show 0 * 2048 + 1 * (y 1).val = (z 1).val; omega)

/-- The weight's block at a point. -/
theorem blk1 (c : Dev nD) (t : Fin cfg0.N) (y : S2048x512.Idx) (z : S2048x2048.Idx)
    (h0 : (z 0).val = (y 0).val) (h1 : (z 1).val = t.val % 4 * 512 + (y 1).val) :
    (iblk m c 1 t : S2048x512.Idx → EReal) y = Mm.wt (m ((c : Thread nD τ).loc main_arg1)) z := by
  have hi : ∀ a : Fin 2, (win0_1.index t : Fin 2 → ℕ) a = ![0, t.val % 4] a := fun a => congrFun (ix_1 t) a
  refine Eq.trans ?_ (congrFun (V3 m c) z)
  refine congrArg (V m c main_v3) (funext fun ax => Fin.ext ?_)
  match ax with
  | ⟨0, _⟩ =>
    exact (congrArg (fun k => k * 2048 + 1 * (y 0).val) (hi 0)).trans (by show 0 * 2048 + 1 * (y 0).val = (z 0).val; omega)
  | ⟨1, _⟩ =>
    exact (congrArg (fun k => k * 512 + 1 * (y 1).val) (hi 1)).trans (by show t.val % 4 * 512 + 1 * (y 1).val = (z 1).val; omega)

/-- The bias's block at a point, in the row the call reads; -/
theorem blk2_row (c : Dev nD) (t : Fin cfg0.N) (y : S1x512.Idx) (z : S1x2048.Idx)
    (h0 : (z 0).val = (y 0).val) (h1 : (z 1).val = t.val % 4 * 512 + (y 1).val) :
    (iblk m c 2 t : S1x512.Idx → EReal) y = (V m c main_v5 : S1x2048.Idx → EReal) z := by
  have hi : ∀ a : Fin 2, (win0_2.index t : Fin 2 → ℕ) a = ![0, t.val % 4] a := fun a => congrFun (ix_2 t) a
  refine congrArg (V m c main_v5) (funext fun ax => Fin.ext ?_)
  match ax with
  | ⟨0, _⟩ =>
    exact (congrArg (fun k => k * 1 + 1 * (y 0).val) (hi 0)).trans (by show 0 * 1 + 1 * (y 0).val = (z 0).val; omega)
  | ⟨1, _⟩ =>
    exact (congrArg (fun k => k * 512 + 1 * (y 1).val) (hi 1)).trans (by show t.val % 4 * 512 + 1 * (y 1).val = (z 1).val; omega)

/-- the row at an index; -/
theorem row_at (b : S2048.Idx → EReal) (z : Fin 2048) : shapeCast S1x2048 b shapeCasts_S2048_S1x2048 (ix2 (0 : Fin 1) z) = b (ix1 z) := by
  refine shapeCast_apply (s := S2048) (t := S1x2048) _ _ (ix2 (0 : Fin 1) z) (ix1 z) ?_
  rw [Shape.rowMajor_val_one, Shape.rowMajor_val_two]
  show z.val = 0 * 2048 + z.val
  omega

/-- so the bias's block at a point. -/
theorem blk2 (c : Dev nD) (t : Fin cfg0.N) (q : Fin 512) (z : Fin 2048) (h1 : z.val = t.val % 4 * 512 + q.val) :
    (iblk m c 2 t : S1x512.Idx → EReal) (ix2 (0 : Fin 1) q) = Mm.bias (m ((c : Thread nD τ).loc main_arg2)) (ix1 z) :=
  (blk2_row m c t (ix2 (0 : Fin 1) q) (ix2 (0 : Fin 1) z) rfl h1).trans ((congrFun (V5 m c) (ix2 (0 : Fin 1) z)).trans (row_at _ z))

/-! ## What the body leaves -/

/-- The result's block. -/
theorem out3_at (x0 : Vec Ideal S1024x2048 .bf16) (x1 : Vec Ideal S2048x512 .bf16) (x2 : Vec Ideal S1x512 .f32) (a : Fin 1024) (b : Fin 512) :
    (out0_3 x0 x1 x2 (ix2 a b) : EReal) = gelu ((∑ d : Fin 2048, (x0 (ix2 a d) : EReal) * x1 (ix2 d b)) + x2 (ix2 (0 : Fin 1) b)) := by
  rw [show out0_3 x0 x1 x2 = k0_pay1 x0 x1 x2 by frame_out]
  rw [← Mm.lin_at x0 x1 x2 a b]
  exact gelu_eq _

/-- The result's block, at an element of the array. -/
theorem left3 (c : Dev nD) (t : Fin cfg0.N) (y : S1024x512.Idx) (z : S36864x2048.Idx)
    (h0 : (z 0).val = t.val / 4 * 1024 + (y 0).val) (h1 : (z 1).val = t.val % 4 * 512 + (y 1).val) :
    (out0_3 (iblk m c 0 t) (iblk m c 1 t) (iblk m c 2 t) y : EReal)
      = gated (Mm.rows (m ((c : Thread nD τ).loc main_arg0))) (Mm.wt (m ((c : Thread nD τ).loc main_arg1))) (Mm.bias (m ((c : Thread nD τ).loc main_arg2))) z := by
  rw [Mm.at_ix2 y]
  refine (out3_at _ _ _ _ _).trans (congrArg (fun p : EReal => gelu p) (congrArg₂ (fun p q : EReal => p + q)
    (Finset.sum_congr rfl fun d _ => congrArg₂ (fun p q : EReal => p * q) ?_ ?_) ?_))
  · exact blk0 m c t _ _ h0 rfl
  · exact blk1 m c t _ _ rfl h1
  · exact blk2 m c t _ _ h1

/-! ## The array at the end -/

/-- Where the result's block lies. -/
theorem emb3 (t : Fin cfg0.N) (y : S1024x512.Idx) :
    (((win0_3.blk t).view.emb y : S36864x2048.Idx) 0).val = t.val / 4 * 1024 + (y 0).val
      ∧ (((win0_3.blk t).view.emb y : S36864x2048.Idx) 1).val = t.val % 4 * 512 + (y 1).val := by
  have hi : ∀ a : Fin 2, (win0_3.index t : Fin 2 → ℕ) a = ![t.val / 4, t.val % 4] a := fun a => congrFun (ix_3 t) a
  constructor
  · exact (congrArg (fun k => k * 1024 + 1 * (y 0).val) (hi 0)).trans
      (by show t.val / 4 * 1024 + 1 * (y 0).val = t.val / 4 * 1024 + (y 0).val; omega)
  · exact (congrArg (fun k => k * 512 + 1 * (y 1).val) (hi 1)).trans
      (by show t.val % 4 * 512 + 1 * (y 1).val = t.val % 4 * 512 + (y 1).val; omega)

theorem point3 (c : Dev nD) (t : Fin cfg0.N) (y : S1024x512.Idx) :
    ((dats m 0 c).after 3 t y : EReal)
      = gated (Mm.rows (m ((c : Thread nD τ).loc main_arg0))) (Mm.wt (m ((c : Thread nD τ).loc main_arg1))) (Mm.bias (m ((c : Thread nD τ).loc main_arg2)))
          ((win0_3.blk t).view.emb y : S36864x2048.Idx) :=
  (congrFun (after0_3 m c t) y).trans (left3 m c t y _ (emb3 t y).1 (emb3 t y).2)

/-- The result. -/
theorem arr3 (c : Dev nD) : ((dats m 0 c).arrAt 3 cfg0.N : S36864x2048.Idx → EReal)
    = gated (Mm.rows (m ((c : Thread nD τ).loc main_arg0))) (Mm.wt (m ((c : Thread nD τ).loc main_arg1))) (Mm.bias (m ((c : Thread nD τ).loc main_arg2))) :=
  (dats m 0 c).arrAt_eq_of_covers 3
    (gated (Mm.rows (m ((c : Thread nD τ).loc main_arg0))) (Mm.wt (m ((c : Thread nD τ).loc main_arg1))) (Mm.bias (m ((c : Thread nD τ).loc main_arg2))))
    (by decide +kernel) fun t _ y => point3 m c t y

/-! ## The runs -/

/-- The call's run. -/
theorem run (ρ : Dev nD → PrngReg) : θ_run defs (onTc (τ := τ) (main (F := Ideal))) ⟨m, fun _ => 0, ρ⟩ fun r => ∀ c : Dev nD,
      (r.2.mem ((c.tc : Thread nD τ).loc main_v6) : S36864x2048.Idx → EReal)
          = gated (Mm.rows (m ((c.tc : Thread nD τ).loc main_arg0))) (Mm.wt (m ((c.tc : Thread nD τ).loc main_arg1))) (Mm.bias (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (arr3 m c), h.2 c⟩) (θ_run_and (run_main m ρ) (unchanged m ρ))

section
variable {F : FTy → Type} [FloatOps F]

/-- The two printings of the call have one body table; -/
theorem defs₀_eq : Cert.Kernel5.defs₀ (F := F) = Cert.Kernel5Ideal.defs₀ (F := F) := by
  unfold Cert.Kernel5.defs₀ Cert.Kernel5Ideal.defs₀
  refine congrArg Defs.onTc (funext fun l => funext fun a => ?_)
  match l, a with
  | 0, (t, s) => rfl

/-- so one table of procedures; -/
theorem defs_eq : Cert.Kernel5.defs (F := F) = Cert.Kernel5Ideal.defs (F := F) :=
  congrArg (Pipeline.defs Cert.Kernel5Ideal.pcfgs) defs₀_eq

/-- and a run of the one is a run of the other. -/
theorem run_eq (m : (ℓ : Loc nD τ sig) → Buf (Elt F) ℓ) (g : Dev nD → PrngReg) (Q : PUnit × MemSt nD τ sig (Elt F) → Prop) :
    θ_run (Cert.Kernel5.defs (F := F)) (onTc (τ := Cert.Kernel5.τ) (Cert.Kernel5.main (F := F))) ⟨m, fun _ => 0, g⟩ Q
      = θ_run (Cert.Kernel5Ideal.defs (F := F)) (onTc (τ := Cert.Kernel5Ideal.τ) (Cert.Kernel5Ideal.main (F := F))) ⟨m, fun _ => 0, g⟩ Q := by
  rw [defs_eq]; rfl

end

/-- The reference's GELU of an array, element by element. -/
theorem ref_gelu (Z : FVec Ideal S36864x2048 .f32) :
    (mulf Z (mulf (broadcastInDim S36864x2048 ![] Cert.Reference5Ideal.Gen.bcast_S_S36864x2048 (constant Cert.Reference5Ideal.S_ .f32 0x3F000000#32))
        (addf (broadcastInDim S36864x2048 ![] Cert.Reference5Ideal.Gen.bcast_S_S36864x2048 (constant Cert.Reference5Ideal.S_ .f32 0x3F800000#32))
          (Host.tanh (mulf (broadcastInDim S36864x2048 ![] Cert.Reference5Ideal.Gen.bcast_S_S36864x2048 (constant Cert.Reference5Ideal.S_ .f32 0x3F4C422A#32))
            (addf Z (mulf (broadcastInDim S36864x2048 ![] Cert.Reference5Ideal.Gen.bcast_S_S36864x2048 (constant Cert.Reference5Ideal.S_ .f32 0x3D372713#32))
              (mulf (mulf Z Z) Z))))))) : S36864x2048.Idx → EReal) = fun y => gelu (Z y) := by
  funext y
  rfl

/-- The reference's run. -/
theorem ref_run (m : (ℓ : Loc Cert.Reference5Ideal.nD Cert.Reference5Ideal.τ Cert.Reference5Ideal.sig) → Buf (Elt Ideal) ℓ) (ρ : Dev Cert.Reference5Ideal.nD → PrngReg) :
    θ_run Cert.Reference5Ideal.defs (onTc (τ := Cert.Reference5Ideal.τ) (Cert.Reference5Ideal.main (F := Ideal))) ⟨m, fun _ => 0, ρ⟩ fun r => ∀ c : Dev Cert.Reference5Ideal.nD,
      (r.2.mem ((c.tc : Thread Cert.Reference5Ideal.nD Cert.Reference5Ideal.τ).loc Cert.Reference5Ideal.main_v19) : S36864x2048.Idx → EReal)
          = gated (Mm.rows (m ((c.tc : Thread Cert.Reference5Ideal.nD Cert.Reference5Ideal.τ).loc Cert.Reference5Ideal.main_arg0)))
              (Mm.wt (m ((c.tc : Thread Cert.Reference5Ideal.nD Cert.Reference5Ideal.τ).loc Cert.Reference5Ideal.main_arg1)))
              (Mm.bias (m ((c.tc : Thread Cert.Reference5Ideal.nD Cert.Reference5Ideal.τ).loc Cert.Reference5Ideal.main_arg2)))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2) :=
  (θ_run Cert.Reference5Ideal.defs _ _).mono (fun _ h c => ⟨(h c).1.trans ((ref_gelu _).trans (congrArg (fun (Z : S36864x2048.Idx → EReal) y => gelu (Z y)) (Mm.ref_lin _ _ _))), (h c).2⟩) (Cert.Reference5Ideal.Value.run (F := Ideal) m ρ)

end Cert.Gelu

end
-- ==== Proof.lean ====
/-
  The certificate. The dispatch: one run of the kernel (Proof/DispatchLaunch.lean) and one of the reference
  (Proof/DispatchRef.lean), both over any float values, give every claim. The expert call: its run (Proof/GmmFrame.lean),
  what it leaves (Proof/GmmValue.lean), and the reference's value (Proof/GmmRef.lean). The projections:
  Proof/QkvValue.lean, Proof/MatmulValue.lean, Proof/GeluValue.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.DispatchLaunch
public import proofs.«01_k».proof.Proof.DispatchRef
public import proofs.«01_k».proof.Proof.Gen.Reference2Ideal.Run
public import proofs.«01_k».proof.Proof.GmmFrame
public import proofs.«01_k».proof.Proof.GmmValue
public import proofs.«01_k».proof.Proof.GmmRef
public import proofs.«01_k».proof.Proof.Gen.Kernel3
public import proofs.«01_k».proof.Proof.QkvValue
public import proofs.«01_k».proof.Proof.MatmulValue
public import proofs.«01_k».proof.Proof.GeluValue

@[expose] public section

noncomputable section

namespace Cert.Proof

open Idealize.ShloMosaic Idealize.ShloMosaic.TcCoe Idealize.SL.Sem

instance preFacts : Cert.Pre_dest_permutes.Facts := ⟨⟩

/-- The precondition, read: the table of slots holds the numbers below its length, each once. -/
theorem permutes_of_pre {F : FTy → Type} [FloatOps F] (x : FVec F Cert.Pre_dest_permutes.S589824x128 .f32)
    (idx : IVec Cert.Pre_dest_permutes.S147456 32) (h : Cert.Pre_dest_permutes.fn (F := F) x idx = fun _ => 1#1) :
    Cert.Dispatch.Permutes idx :=
  Cert.Dispatch.permutes_of_sort Cert.Pre_dest_permutes.comparator_i32_d0 idx fun j => by
    have e := congrFun h j
    simp only [Cert.Pre_dest_permutes.fn, Cert.Pre_dest_permutes.fn_sort, cmpi, IntOp.cmpi, StableHlo.Predicate.ofBool_eq_one_iff, beq_iff_eq] at e
    exact e

/-- A table equal to a permutation is one. -/
theorem permutes_of_eq {a b : IVec Cert.Pre_dest_permutes.S147456 32} (e : a = b) (h : Cert.Dispatch.Permutes b) :
    Cert.Dispatch.Permutes a := e ▸ h

/-- The two printings of the kernel have one body table; -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- so one table of procedures; -/
theorem defs_eq {F : FTy → Type} [FloatOps F] : Cert.Kernel.defs (F := F) = Cert.KernelIdeal.defs (F := F) :=
  congrArg (Pipeline.defs Cert.KernelIdeal.pcfgs) defs₀_eq

/-- and a run of the one is a run of the other. -/
theorem run_eq {F : FTy → Type} [FloatOps F] (m : (ℓ : Loc Cert.KernelIdeal.nD Cert.KernelIdeal.τ Cert.KernelIdeal.sig) → Buf (Elt F) ℓ)
    (g : Dev Cert.KernelIdeal.nD → PrngReg) (Q : PUnit × MemSt Cert.KernelIdeal.nD Cert.KernelIdeal.τ Cert.KernelIdeal.sig (Elt F) → Prop) :
    θ_run (Cert.Kernel.defs (F := F)) (onTc (τ := Cert.Kernel.τ) (Cert.Kernel.main (F := F))) ⟨m, fun _ => 0, g⟩ Q
      = θ_run (Cert.KernelIdeal.defs (F := F)) (onTc (τ := Cert.KernelIdeal.τ) (Cert.KernelIdeal.main (F := F))) ⟨m, fun _ => 0, g⟩ Q := by
  rw [defs_eq]; rfl

/-- The kernel runs and leaves its arguments as they were, at the formats. -/
theorem frame_kernel : Cert.quiescent_Kernel := fun m g h =>
  (run_eq (F := Bits) m g _).mpr ((θ_run Cert.KernelIdeal.defs _ _).mono (fun _ h => ⟨fun c => (h.1 c).2, h.2⟩)
    (Cert.Dispatch.run_main (F := Bits) m g fun c => permutes_of_pre _ _ (h c)))

/-- The kernel runs and leaves its arguments as they were, over the reals. -/
theorem frame_kernelIdeal : Cert.quiescent_KernelIdeal := fun m g h =>
  (θ_run Cert.KernelIdeal.defs _ _).mono (fun _ h => ⟨fun c => (h.1 c).2, h.2⟩)
    (Cert.Dispatch.run_main (F := Ideal) m g fun c => permutes_of_pre _ _ (h c))

/-- The reference runs and leaves its arguments as they were, over the reals. -/
theorem frame_referenceIdeal : Cert.quiescent_ReferenceIdeal := fun m g h =>
  (θ_run Cert.ReferenceIdeal.defs _ _).mono (fun r h => ⟨fun c => (h c).2, sem_eq_zero_of_no_sems (by decide) r.2⟩)
    (Cert.ReferenceIdeal.Value.run (F := Ideal) m g)

/-- The reference runs and leaves its arguments as they were, at the formats. -/
theorem frame_reference : Cert.quiescent_Reference := fun m g h =>
  (θ_run Cert.ReferenceIdeal.defs _ _).mono (fun r h => ⟨fun c => (h c).2, sem_eq_zero_of_no_sems (by decide) r.2⟩)
    (Cert.ReferenceIdeal.Value.run (F := Bits) m g)

/-- Over the reals the kernel's result is the reference's. -/
theorem algebraic : Cert.algebraic_KernelIdeal_ReferenceIdeal := fun m g m' g' h hag =>
  ⟨fun c => Cert.Dispatch.result m c,
    (θ_run Cert.KernelIdeal.defs _ _).mono (fun _ h => h.1) (Cert.Dispatch.run_main (F := Ideal) m g fun c => permutes_of_pre _ _ (h c)),
    (θ_run Cert.ReferenceIdeal.defs _ _).mono (fun _ hr c => ⟨(hr c).1.trans (by rw [(hag c).1, (hag c).2]), (hr c).2⟩)
      (Cert.Dispatch.ref_run (F := Ideal) m' g' fun c => by rw [(hag c).2]; exact permutes_of_pre _ _ (h c))⟩

/-- Bit for bit the kernel's result is the reference's. -/
theorem bitexact : Cert.bitexact_Kernel_Reference := fun m g m' g' h hag =>
  ⟨fun c => Cert.Dispatch.result (F := Bits) m c,
    (run_eq (F := Bits) m g _).mpr ((θ_run Cert.KernelIdeal.defs _ _).mono (fun _ h => h.1)
      (Cert.Dispatch.run_main (F := Bits) m g fun c => permutes_of_pre _ _ (h c))),
    (θ_run Cert.ReferenceIdeal.defs _ _).mono
      (fun _ hr c => ⟨(hr c).1.trans (congrArg₂ Cert.Dispatch.moved (hag c).2 (hag c).1), (hr c).2⟩)
      (Cert.Dispatch.ref_run (F := Bits) m' g' fun c => permutes_of_eq (hag c).2 (permutes_of_pre _ _ (h c)))⟩

/-! ## The expert call -/

instance countsFacts : Cert.Pre_counts_add_up.Facts := Cert.Pre_counts_add_up.Gen.facts

/-- The expert call runs and leaves its arguments as they were, at the formats. -/
theorem frame_kernel2 : Cert.quiescent_Kernel2 := fun m g h =>
  (Cert.Gmm.run_eq (F := Bits) m g _).mpr ((θ_run Cert.Kernel2Ideal.defs _ _).mono (fun _ h => ⟨fun c => (h.1 c).2, h.2⟩)
    (Cert.Gmm.run_main (F := Bits) m g (Cert.Gmm.good m (Cert.Gmm.sum_of_pre _ _ _ _ _ _ (h 0)))))

/-- The expert call runs and leaves its arguments as they were, over the reals. -/
theorem frame_kernel2Ideal : Cert.quiescent_Kernel2Ideal := fun m g h =>
  (θ_run Cert.Kernel2Ideal.defs _ _).mono (fun _ h => ⟨fun c => (h.1 c).2, h.2⟩)
    (Cert.Gmm.run_main (F := Ideal) m g (Cert.Gmm.good m (Cert.Gmm.sum_of_pre _ _ _ _ _ _ (h 0))))

/-- The experts' reference runs and leaves its arguments as they were, over the reals. -/
theorem frame_reference2Ideal : Cert.quiescent_Reference2Ideal := fun m g h =>
  (θ_run Cert.Reference2Ideal.defs _ _).mono (fun r h => ⟨fun c => (h c).2, sem_eq_zero_of_no_sems (by decide) r.2⟩)
    (Cert.Reference2Ideal.Value.run (F := Ideal) m g)

/-- Over the reals the expert call's result is its reference's. -/
theorem algebraic2 : Cert.algebraic_Kernel2Ideal_Reference2Ideal := fun m g m' g' h hag =>
  have hs : Cert.Gmm.pre (Cert.Gmm.cnt m) 32 = 147456 := Cert.Gmm.sum_of_pre _ _ _ _ _ _ (h 0)
  ⟨fun c => Cert.Gmm.want m (n := Cert.Gmm.cnt m) c,
    (θ_run Cert.Kernel2Ideal.defs _ _).mono
      (fun _ hr c => ⟨((hr.1 c).1).trans (Cert.Gmm.arr7 m (Cert.Gmm.good m hs) hs c), (hr.1 c).2⟩)
      (Cert.Gmm.run_main (F := Ideal) m g (Cert.Gmm.good m hs)),
    (θ_run Cert.Reference2Ideal.defs _ _).mono
      (fun _ hr c => ⟨(hr c).1.trans ((Cert.Gmm.ref_answer m' c (Cert.Gmm.cnt m) (fun e => by
          rw [(hag c).2.1, Subsingleton.elim c 0]
          exact Cert.Gmm.num_word _ e) hs).trans (by
            rw [(hag c).1, (hag c).2.2.1, (hag c).2.2.2.1, (hag c).2.2.2.2.1, (hag c).2.2.2.2.2])), (hr c).2⟩)
      (Cert.Reference2Ideal.Value.run (F := Ideal) m' g')⟩

/-! ## The projection to queries, keys and values -/

/-- The two printings of the projection have one body table; -/
theorem defs₀_eq3 {F : FTy → Type} [FloatOps F] : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | 0, (t, s) => rfl

/-- so one table of procedures; -/
theorem defs_eq3 {F : FTy → Type} [FloatOps F] : Cert.Kernel3.defs (F := F) = Cert.Kernel3Ideal.defs (F := F) :=
  congrArg (Pipeline.defs Cert.Kernel3Ideal.pcfgs) defs₀_eq3

/-- and a run of the one is a run of the other. -/
theorem run_eq3 {F : FTy → Type} [FloatOps F] (m : (ℓ : Loc Cert.Kernel3Ideal.nD Cert.Kernel3Ideal.τ Cert.Kernel3Ideal.sig) → Buf (Elt F) ℓ)
    (g : Dev Cert.Kernel3Ideal.nD → PrngReg) (Q : PUnit × MemSt Cert.Kernel3Ideal.nD Cert.Kernel3Ideal.τ Cert.Kernel3Ideal.sig (Elt F) → Prop) :
    θ_run (Cert.Kernel3.defs (F := F)) (onTc (τ := Cert.Kernel3.τ) (Cert.Kernel3.main (F := F))) ⟨m, fun _ => 0, g⟩ Q
      = θ_run (Cert.Kernel3Ideal.defs (F := F)) (onTc (τ := Cert.Kernel3Ideal.τ) (Cert.Kernel3Ideal.main (F := F))) ⟨m, fun _ => 0, g⟩ Q := by
  rw [defs_eq3]; rfl

/-- The projection runs and leaves its arguments as they were, at the formats. -/
theorem frame_kernel3 : Cert.quiescent_Kernel3 := fun m g _ =>
  (run_eq3 (F := Bits) m g _).mpr (Cert.Kernel3Ideal.Gen.frame (F := Bits) m g)

/-- The projection runs and leaves its arguments as they were, over the reals. -/
theorem frame_kernel3Ideal : Cert.quiescent_Kernel3Ideal := fun m g _ => Cert.Kernel3Ideal.Gen.frame (F := Ideal) m g

/-- The projection's reference runs and leaves its arguments as they were, over the reals. -/
theorem frame_reference3Ideal : Cert.quiescent_Reference3Ideal := fun m g h =>
  (θ_run Cert.Reference3Ideal.defs _ _).mono (fun r h => ⟨fun c => (h c).2.2, sem_eq_zero_of_no_sems (by decide) r.2⟩)
    (Cert.Reference3Ideal.Value.run (F := Ideal) m g)

/-- Over the reals the projection's two results are its reference's. -/
theorem algebraic3 : Cert.algebraic_Kernel3Ideal_Reference3Ideal := fun m g m' g' h hag =>
  ⟨fun c => Cert.Qkv.lin (Cert.Qkv.rows (m ((c.tc : Thread Cert.Kernel3Ideal.nD Cert.Kernel3Ideal.τ).loc Cert.Kernel3Ideal.main_arg0)))
      (Cert.Qkv.wt (m ((c.tc : Thread Cert.Kernel3Ideal.nD Cert.Kernel3Ideal.τ).loc Cert.Kernel3Ideal.main_arg1))),
    fun c => Cert.Qkv.slab (m ((c.tc : Thread Cert.Kernel3Ideal.nD Cert.Kernel3Ideal.τ).loc Cert.Kernel3Ideal.main_arg2)),
    Cert.Qkv.run m g,
    (θ_run Cert.Reference3Ideal.defs _ _).mono
      (fun _ hr c => ⟨(hr c).1.trans ((Cert.Qkv.ref_lin _ _).trans
          (congrArg₂ Cert.Qkv.lin (congrArg Cert.Qkv.rows (hag c).1) (congrArg Cert.Qkv.wt (hag c).2.1))),
        (hr c).2.1.trans (congrArg Cert.Qkv.slab (hag c).2.2), (hr c).2.2⟩)
      (Cert.Reference3Ideal.Value.run (F := Ideal) m' g')⟩

/-! ## The recurrent mixer's first projection -/

/-- The call runs and leaves its arguments as they were, at the formats. -/
theorem frame_kernel4 : Cert.quiescent_Kernel4 := fun m g _ =>
  (Cert.Mm.run_eq (F := Bits) m g _).mpr (Cert.Kernel4Ideal.Gen.frame (F := Bits) m g)

/-- The call runs and leaves its arguments as they were, over the reals. -/
theorem frame_kernel4Ideal : Cert.quiescent_Kernel4Ideal := fun m g _ => Cert.Kernel4Ideal.Gen.frame (F := Ideal) m g

/-- Its reference runs and leaves its arguments as they were, over the reals. -/
theorem frame_reference4Ideal : Cert.quiescent_Reference4Ideal := fun m g h =>
  (θ_run Cert.Reference4Ideal.defs _ _).mono (fun r h => ⟨fun c => (h c).2, sem_eq_zero_of_no_sems (by decide) r.2⟩)
    (Cert.Mm.ref_run m g)

/-- Over the reals the call's result is its reference's. -/
theorem algebraic4 : Cert.algebraic_Kernel4Ideal_Reference4Ideal := fun m g m' g' h hag =>
  ⟨fun c => Cert.Mm.lin (Cert.Mm.rows (m ((c.tc : Thread Cert.Kernel4Ideal.nD Cert.Kernel4Ideal.τ).loc Cert.Kernel4Ideal.main_arg0)))
      (Cert.Mm.wt (m ((c.tc : Thread Cert.Kernel4Ideal.nD Cert.Kernel4Ideal.τ).loc Cert.Kernel4Ideal.main_arg1)))
      (Cert.Mm.bias (m ((c.tc : Thread Cert.Kernel4Ideal.nD Cert.Kernel4Ideal.τ).loc Cert.Kernel4Ideal.main_arg2))),
    Cert.Mm.run m g,
    (θ_run Cert.Reference4Ideal.defs _ _).mono
      (fun _ hr c => ⟨(hr c).1.trans (by rw [(hag c).1, (hag c).2.1, (hag c).2.2]), (hr c).2⟩)
      (Cert.Mm.ref_run m' g')⟩

/-! ## The recurrent mixer's gate branch -/

/-- The call runs and leaves its arguments as they were, at the formats. -/
theorem frame_kernel5 : Cert.quiescent_Kernel5 := fun m g _ =>
  (Cert.Gelu.run_eq (F := Bits) m g _).mpr (Cert.Kernel5Ideal.Gen.frame (F := Bits) m g)

/-- The call runs and leaves its arguments as they were, over the reals. -/
theorem frame_kernel5Ideal : Cert.quiescent_Kernel5Ideal := fun m g _ => Cert.Kernel5Ideal.Gen.frame (F := Ideal) m g

/-- Its reference runs and leaves its arguments as they were, over the reals. -/
theorem frame_reference5Ideal : Cert.quiescent_Reference5Ideal := fun m g h =>
  (θ_run Cert.Reference5Ideal.defs _ _).mono (fun r h => ⟨fun c => (h c).2, sem_eq_zero_of_no_sems (by decide) r.2⟩)
    (Cert.Gelu.ref_run m g)

/-- Over the reals the call's result is its reference's. -/
theorem algebraic5 : Cert.algebraic_Kernel5Ideal_Reference5Ideal := fun m g m' g' h hag =>
  ⟨fun c => Cert.Gelu.gated (Cert.Mm.rows (m ((c.tc : Thread Cert.Kernel5Ideal.nD Cert.Kernel5Ideal.τ).loc Cert.Kernel5Ideal.main_arg0)))
      (Cert.Mm.wt (m ((c.tc : Thread Cert.Kernel5Ideal.nD Cert.Kernel5Ideal.τ).loc Cert.Kernel5Ideal.main_arg1)))
      (Cert.Mm.bias (m ((c.tc : Thread Cert.Kernel5Ideal.nD Cert.Kernel5Ideal.τ).loc Cert.Kernel5Ideal.main_arg2))),
    Cert.Gelu.run m g,
    (θ_run Cert.Reference5Ideal.defs _ _).mono
      (fun _ hr c => ⟨(hr c).1.trans (by rw [(hag c).1, (hag c).2.1, (hag c).2.2]), (hr c).2⟩)
      (Cert.Gelu.ref_run m' g')⟩

/-- Everything the certificate claims. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts, countsFacts,
    frame_kernel, frame_kernelIdeal, frame_referenceIdeal, frame_reference, frame_kernel2, frame_kernel2Ideal, frame_reference2Ideal,
    frame_kernel3, frame_kernel3Ideal, frame_reference3Ideal,
    frame_kernel4, frame_kernel4Ideal, frame_reference4Ideal, frame_kernel5, frame_kernel5Ideal, frame_reference5Ideal,
    trivial, algebraic, bitexact, trivial, algebraic2, trivial, algebraic3, trivial, algebraic4, trivial, algebraic5⟩

end Cert.Proof

end
